-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_Moe [hPre_expert_range : Cert.Pre_expert_range.Facts] (m : (ℓ : Loc Cert.Moe.nD Cert.Moe.τ Cert.Moe.sig) → Buf (Elt Bits) ℓ) : Prop :=
  ∀ c : Dev Cert.Moe.nD,
    (Cert.Pre_expert_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_expert_range : Cert.Pre_expert_range.Facts] (m : (ℓ : Loc Cert.MoeIdeal.nD Cert.MoeIdeal.τ Cert.MoeIdeal.sig) → Buf (Elt Ideal) ℓ) : Prop :=
  ∀ c : Dev Cert.MoeIdeal.nD,
    (Cert.Pre_expert_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_expert_range [hPre_expert_range : Cert.Pre_expert_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_expert_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_Hg (m : (ℓ : Loc Cert.Hg.nD Cert.Hg.τ Cert.Hg.sig) → Buf (Elt Bits) ℓ) : Prop :=
  True

def Pre_HgIdeal (m : (ℓ : Loc Cert.HgIdeal.nD Cert.HgIdeal.τ Cert.HgIdeal.sig) → Buf (Elt Ideal) ℓ) : Prop :=
  True

def Pre_HgRefIdeal (m : (ℓ : Loc Cert.HgRefIdeal.nD Cert.HgRefIdeal.τ Cert.HgRefIdeal.sig) → Buf (Elt Ideal) ℓ) : Prop :=
  True

def Pre_Ssd (m : (ℓ : Loc Cert.Ssd.nD Cert.Ssd.τ Cert.Ssd.sig) → Buf (Elt Bits) ℓ) : Prop :=
  True

def Pre_SsdIdeal (m : (ℓ : Loc Cert.SsdIdeal.nD Cert.SsdIdeal.τ Cert.SsdIdeal.sig) → Buf (Elt Ideal) ℓ) : Prop :=
  True

def Pre_SsdRefIdeal (m : (ℓ : Loc Cert.SsdRefIdeal.nD Cert.SsdRefIdeal.τ Cert.SsdRefIdeal.sig) → Buf (Elt Ideal) ℓ) : Prop :=
  True

def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttRefIdeal (m : (ℓ : Loc Cert.AttRefIdeal.nD Cert.AttRefIdeal.τ Cert.AttRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Hgout (m : (ℓ : Loc Cert.Hgout.nD Cert.Hgout.τ Cert.Hgout.sig) → Buf (Elt Bits) ℓ) : Prop :=
  True

def Pre_HgoutIdeal (m : (ℓ : Loc Cert.HgoutIdeal.nD Cert.HgoutIdeal.τ Cert.HgoutIdeal.sig) → Buf (Elt Ideal) ℓ) : Prop :=
  True

def Pre_HgoutRefIdeal (m : (ℓ : Loc Cert.HgoutRefIdeal.nD Cert.HgoutRefIdeal.τ Cert.HgoutRefIdeal.sig) → Buf (Elt Ideal) ℓ) : Prop :=
  True

def Pre_Ssdout (m : (ℓ : Loc Cert.Ssdout.nD Cert.Ssdout.τ Cert.Ssdout.sig) → Buf (Elt Bits) ℓ) : Prop :=
  True

def Pre_SsdoutIdeal (m : (ℓ : Loc Cert.SsdoutIdeal.nD Cert.SsdoutIdeal.τ Cert.SsdoutIdeal.sig) → Buf (Elt Ideal) ℓ) : Prop :=
  True

def Pre_SsdoutRefIdeal (m : (ℓ : Loc Cert.SsdoutRefIdeal.nD Cert.SsdoutRefIdeal.τ Cert.SsdoutRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Dt (m : (ℓ : Loc Cert.Dt.nD Cert.Dt.τ Cert.Dt.sig) → Buf (Elt Bits) ℓ) : Prop :=
  True

def Pre_DtIdeal (m : (ℓ : Loc Cert.DtIdeal.nD Cert.DtIdeal.τ Cert.DtIdeal.sig) → Buf (Elt Ideal) ℓ) : Prop :=
  True

def Pre_DtRefIdeal (m : (ℓ : Loc Cert.DtRefIdeal.nD Cert.DtRefIdeal.τ Cert.DtRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Moe [hMoe : Cert.Moe.Facts] [hPre_expert_range : Cert.Pre_expert_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_expert_range : Cert.Pre_expert_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_expert_range [hMoeRefIdeal : Cert.MoeRefIdeal.Facts] [hPre_expert_range : Cert.Pre_expert_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_expert_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_Hg [hHg : Cert.Hg.Facts] : Prop :=
  ∀ (m : (ℓ : Loc Cert.Hg.nD Cert.Hg.τ Cert.Hg.sig) → Buf (Elt Bits) ℓ) (g : Dev Cert.Hg.nD → PrngReg), Pre_Hg m →
    θ_run (Cert.Hg.defs (F := Bits)) (onTc (τ := Cert.Hg.τ) (Cert.Hg.main (F := Bits))) ⟨m, fun _ => 0, g⟩ (fun r => (∀ c : Dev Cert.Hg.nD,
      r.2.mem ((c.tc : Thread Cert.Hg.nD Cert.Hg.τ).loc Cert.Hg.main_arg0) = m ((c.tc : Thread Cert.Hg.nD Cert.Hg.τ).loc Cert.Hg.main_arg0)
      ∧ r.2.mem ((c.tc : Thread Cert.Hg.nD Cert.Hg.τ).loc Cert.Hg.main_arg1) = m ((c.tc : Thread Cert.Hg.nD Cert.Hg.τ).loc Cert.Hg.main_arg1))
      ∧ r.2.sem = fun _ => 0)

def quiescent_HgIdeal [hHgIdeal : Cert.HgIdeal.Facts] : Prop :=
  ∀ (m : (ℓ : Loc Cert.HgIdeal.nD Cert.HgIdeal.τ Cert.HgIdeal.sig) → Buf (Elt Ideal) ℓ) (g : Dev Cert.HgIdeal.nD → PrngReg), Pre_HgIdeal m →
    θ_run (Cert.HgIdeal.defs (F := Ideal)) (onTc (τ := Cert.HgIdeal.τ) (Cert.HgIdeal.main (F := Ideal))) ⟨m, fun _ => 0, g⟩ (fun r => (∀ c : Dev Cert.HgIdeal.nD,
      r.2.mem ((c.tc : Thread Cert.HgIdeal.nD Cert.HgIdeal.τ).loc Cert.HgIdeal.main_arg0) = m ((c.tc : Thread Cert.HgIdeal.nD Cert.HgIdeal.τ).loc Cert.HgIdeal.main_arg0)
      ∧ r.2.mem ((c.tc : Thread Cert.HgIdeal.nD Cert.HgIdeal.τ).loc Cert.HgIdeal.main_arg1) = m ((c.tc : Thread Cert.HgIdeal.nD Cert.HgIdeal.τ).loc Cert.HgIdeal.main_arg1))
      ∧ r.2.sem = fun _ => 0)

def quiescent_HgRefIdeal [hHgRefIdeal : Cert.HgRefIdeal.Facts] : Prop :=
  ∀ (m : (ℓ : Loc Cert.HgRefIdeal.nD Cert.HgRefIdeal.τ Cert.HgRefIdeal.sig) → Buf (Elt Ideal) ℓ) (g : Dev Cert.HgRefIdeal.nD → PrngReg), Pre_HgRefIdeal m →
    θ_run (Cert.HgRefIdeal.defs (F := Ideal)) (onTc (τ := Cert.HgRefIdeal.τ) (Cert.HgRefIdeal.main (F := Ideal))) ⟨m, fun _ => 0, g⟩ (fun r => (∀ c : Dev Cert.HgRefIdeal.nD,
      r.2.mem ((c.tc : Thread Cert.HgRefIdeal.nD Cert.HgRefIdeal.τ).loc Cert.HgRefIdeal.main_arg0) = m ((c.tc : Thread Cert.HgRefIdeal.nD Cert.HgRefIdeal.τ).loc Cert.HgRefIdeal.main_arg0)
      ∧ r.2.mem ((c.tc : Thread Cert.HgRefIdeal.nD Cert.HgRefIdeal.τ).loc Cert.HgRefIdeal.main_arg1) = m ((c.tc : Thread Cert.HgRefIdeal.nD Cert.HgRefIdeal.τ).loc Cert.HgRefIdeal.main_arg1))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1))
      ∧ r.2.sem = fun _ => 0)

def quiescent_SsdIdeal [hSsdIdeal : Cert.SsdIdeal.Facts] : Prop :=
  ∀ (m : (ℓ : Loc Cert.SsdIdeal.nD Cert.SsdIdeal.τ Cert.SsdIdeal.sig) → Buf (Elt Ideal) ℓ) (g : Dev Cert.SsdIdeal.nD → PrngReg), Pre_SsdIdeal m →
    θ_run (Cert.SsdIdeal.defs (F := Ideal)) (onTc (τ := Cert.SsdIdeal.τ) (Cert.SsdIdeal.main (F := Ideal))) ⟨m, fun _ => 0, g⟩ (fun r => (∀ c : Dev Cert.SsdIdeal.nD,
      r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
      ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1))
      ∧ r.2.sem = fun _ => 0)

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Hgout [hHgout : Cert.Hgout.Facts] : Prop :=
  ∀ (m : (ℓ : Loc Cert.Hgout.nD Cert.Hgout.τ Cert.Hgout.sig) → Buf (Elt Bits) ℓ) (g : Dev Cert.Hgout.nD → PrngReg), Pre_Hgout m →
    θ_run (Cert.Hgout.defs (F := Bits)) (onTc (τ := Cert.Hgout.τ) (Cert.Hgout.main (F := Bits))) ⟨m, fun _ => 0, g⟩ (fun r => (∀ c : Dev Cert.Hgout.nD,
      r.2.mem ((c.tc : Thread Cert.Hgout.nD Cert.Hgout.τ).loc Cert.Hgout.main_arg0) = m ((c.tc : Thread Cert.Hgout.nD Cert.Hgout.τ).loc Cert.Hgout.main_arg0)
      ∧ r.2.mem ((c.tc : Thread Cert.Hgout.nD Cert.Hgout.τ).loc Cert.Hgout.main_arg1) = m ((c.tc : Thread Cert.Hgout.nD Cert.Hgout.τ).loc Cert.Hgout.main_arg1)
      ∧ r.2.mem ((c.tc : Thread Cert.Hgout.nD Cert.Hgout.τ).loc Cert.Hgout.main_arg2) = m ((c.tc : Thread Cert.Hgout.nD Cert.Hgout.τ).loc Cert.Hgout.main_arg2)
      ∧ r.2.mem ((c.tc : Thread Cert.Hgout.nD Cert.Hgout.τ).loc Cert.Hgout.main_arg3) = m ((c.tc : Thread Cert.Hgout.nD Cert.Hgout.τ).loc Cert.Hgout.main_arg3))
      ∧ r.2.sem = fun _ => 0)

def quiescent_HgoutIdeal [hHgoutIdeal : Cert.HgoutIdeal.Facts] : Prop :=
  ∀ (m : (ℓ : Loc Cert.HgoutIdeal.nD Cert.HgoutIdeal.τ Cert.HgoutIdeal.sig) → Buf (Elt Ideal) ℓ) (g : Dev Cert.HgoutIdeal.nD → PrngReg), Pre_HgoutIdeal m →
    θ_run (Cert.HgoutIdeal.defs (F := Ideal)) (onTc (τ := Cert.HgoutIdeal.τ) (Cert.HgoutIdeal.main (F := Ideal))) ⟨m, fun _ => 0, g⟩ (fun r => (∀ c : Dev Cert.HgoutIdeal.nD,
      r.2.mem ((c.tc : Thread Cert.HgoutIdeal.nD Cert.HgoutIdeal.τ).loc Cert.HgoutIdeal.main_arg0) = m ((c.tc : Thread Cert.HgoutIdeal.nD Cert.HgoutIdeal.τ).loc Cert.HgoutIdeal.main_arg0)
      ∧ r.2.mem ((c.tc : Thread Cert.HgoutIdeal.nD Cert.HgoutIdeal.τ).loc Cert.HgoutIdeal.main_arg1) = m ((c.tc : Thread Cert.HgoutIdeal.nD Cert.HgoutIdeal.τ).loc Cert.HgoutIdeal.main_arg1)
      ∧ r.2.mem ((c.tc : Thread Cert.HgoutIdeal.nD Cert.HgoutIdeal.τ).loc Cert.HgoutIdeal.main_arg2) = m ((c.tc : Thread Cert.HgoutIdeal.nD Cert.HgoutIdeal.τ).loc Cert.HgoutIdeal.main_arg2)
      ∧ r.2.mem ((c.tc : Thread Cert.HgoutIdeal.nD Cert.HgoutIdeal.τ).loc Cert.HgoutIdeal.main_arg3) = m ((c.tc : Thread Cert.HgoutIdeal.nD Cert.HgoutIdeal.τ).loc Cert.HgoutIdeal.main_arg3))
      ∧ r.2.sem = fun _ => 0)

def quiescent_HgoutRefIdeal [hHgoutRefIdeal : Cert.HgoutRefIdeal.Facts] : Prop :=
  ∀ (m : (ℓ : Loc Cert.HgoutRefIdeal.nD Cert.HgoutRefIdeal.τ Cert.HgoutRefIdeal.sig) → Buf (Elt Ideal) ℓ) (g : Dev Cert.HgoutRefIdeal.nD → PrngReg), Pre_HgoutRefIdeal m →
    θ_run (Cert.HgoutRefIdeal.defs (F := Ideal)) (onTc (τ := Cert.HgoutRefIdeal.τ) (Cert.HgoutRefIdeal.main (F := Ideal))) ⟨m, fun _ => 0, g⟩ (fun r => (∀ c : Dev Cert.HgoutRefIdeal.nD,
      r.2.mem ((c.tc : Thread Cert.HgoutRefIdeal.nD Cert.HgoutRefIdeal.τ).loc Cert.HgoutRefIdeal.main_arg0) = m ((c.tc : Thread Cert.HgoutRefIdeal.nD Cert.HgoutRefIdeal.τ).loc Cert.HgoutRefIdeal.main_arg0)
      ∧ r.2.mem ((c.tc : Thread Cert.HgoutRefIdeal.nD Cert.HgoutRefIdeal.τ).loc Cert.HgoutRefIdeal.main_arg1) = m ((c.tc : Thread Cert.HgoutRefIdeal.nD Cert.HgoutRefIdeal.τ).loc Cert.HgoutRefIdeal.main_arg1)
      ∧ r.2.mem ((c.tc : Thread Cert.HgoutRefIdeal.nD Cert.HgoutRefIdeal.τ).loc Cert.HgoutRefIdeal.main_arg2) = m ((c.tc : Thread Cert.HgoutRefIdeal.nD Cert.HgoutRefIdeal.τ).loc Cert.HgoutRefIdeal.main_arg2)
      ∧ r.2.mem ((c.tc : Thread Cert.HgoutRefIdeal.nD Cert.HgoutRefIdeal.τ).loc Cert.HgoutRefIdeal.main_arg3) = m ((c.tc : Thread Cert.HgoutRefIdeal.nD Cert.HgoutRefIdeal.τ).loc Cert.HgoutRefIdeal.main_arg3))
      ∧ r.2.sem = fun _ => 0)

def quiescent_Ssdout [hSsdout : Cert.Ssdout.Facts] : Prop :=
  ∀ (m : (ℓ : Loc Cert.Ssdout.nD Cert.Ssdout.τ Cert.Ssdout.sig) → Buf (Elt Bits) ℓ) (g : Dev Cert.Ssdout.nD → PrngReg), Pre_Ssdout m →
    θ_run (Cert.Ssdout.defs (F := Bits)) (onTc (τ := Cert.Ssdout.τ) (Cert.Ssdout.main (F := Bits))) ⟨m, fun _ => 0, g⟩ (fun r => (∀ c : Dev Cert.Ssdout.nD,
      r.2.mem ((c.tc : Thread Cert.Ssdout.nD Cert.Ssdout.τ).loc Cert.Ssdout.main_arg0) = m ((c.tc : Thread Cert.Ssdout.nD Cert.Ssdout.τ).loc Cert.Ssdout.main_arg0)
      ∧ r.2.mem ((c.tc : Thread Cert.Ssdout.nD Cert.Ssdout.τ).loc Cert.Ssdout.main_arg1) = m ((c.tc : Thread Cert.Ssdout.nD Cert.Ssdout.τ).loc Cert.Ssdout.main_arg1)
      ∧ r.2.mem ((c.tc : Thread Cert.Ssdout.nD Cert.Ssdout.τ).loc Cert.Ssdout.main_arg2) = m ((c.tc : Thread Cert.Ssdout.nD Cert.Ssdout.τ).loc Cert.Ssdout.main_arg2)
      ∧ r.2.mem ((c.tc : Thread Cert.Ssdout.nD Cert.Ssdout.τ).loc Cert.Ssdout.main_arg3) = m ((c.tc : Thread Cert.Ssdout.nD Cert.Ssdout.τ).loc Cert.Ssdout.main_arg3))
      ∧ r.2.sem = fun _ => 0)

def quiescent_SsdoutIdeal [hSsdoutIdeal : Cert.SsdoutIdeal.Facts] : Prop :=
  ∀ (m : (ℓ : Loc Cert.SsdoutIdeal.nD Cert.SsdoutIdeal.τ Cert.SsdoutIdeal.sig) → Buf (Elt Ideal) ℓ) (g : Dev Cert.SsdoutIdeal.nD → PrngReg), Pre_SsdoutIdeal m →
    θ_run (Cert.SsdoutIdeal.defs (F := Ideal)) (onTc (τ := Cert.SsdoutIdeal.τ) (Cert.SsdoutIdeal.main (F := Ideal))) ⟨m, fun _ => 0, g⟩ (fun r => (∀ c : Dev Cert.SsdoutIdeal.nD,
      r.2.mem ((c.tc : Thread Cert.SsdoutIdeal.nD Cert.SsdoutIdeal.τ).loc Cert.SsdoutIdeal.main_arg0) = m ((c.tc : Thread Cert.SsdoutIdeal.nD Cert.SsdoutIdeal.τ).loc Cert.SsdoutIdeal.main_arg0)
      ∧ r.2.mem ((c.tc : Thread Cert.SsdoutIdeal.nD Cert.SsdoutIdeal.τ).loc Cert.SsdoutIdeal.main_arg1) = m ((c.tc : Thread Cert.SsdoutIdeal.nD Cert.SsdoutIdeal.τ).loc Cert.SsdoutIdeal.main_arg1)
      ∧ r.2.mem ((c.tc : Thread Cert.SsdoutIdeal.nD Cert.SsdoutIdeal.τ).loc Cert.SsdoutIdeal.main_arg2) = m ((c.tc : Thread Cert.SsdoutIdeal.nD Cert.SsdoutIdeal.τ).loc Cert.SsdoutIdeal.main_arg2)
      ∧ r.2.mem ((c.tc : Thread Cert.SsdoutIdeal.nD Cert.SsdoutIdeal.τ).loc Cert.SsdoutIdeal.main_arg3) = m ((c.tc : Thread Cert.SsdoutIdeal.nD Cert.SsdoutIdeal.τ).loc Cert.SsdoutIdeal.main_arg3))
      ∧ r.2.sem = fun _ => 0)

def quiescent_SsdoutRefIdeal [hSsdoutRefIdeal : Cert.SsdoutRefIdeal.Facts] : Prop :=
  ∀ (m : (ℓ : Loc Cert.SsdoutRefIdeal.nD Cert.SsdoutRefIdeal.τ Cert.SsdoutRefIdeal.sig) → Buf (Elt Ideal) ℓ) (g : Dev Cert.SsdoutRefIdeal.nD → PrngReg), Pre_SsdoutRefIdeal m →
    θ_run (Cert.SsdoutRefIdeal.defs (F := Ideal)) (onTc (τ := Cert.SsdoutRefIdeal.τ) (Cert.SsdoutRefIdeal.main (F := Ideal))) ⟨m, fun _ => 0, g⟩ (fun r => (∀ c : Dev Cert.SsdoutRefIdeal.nD,
      r.2.mem ((c.tc : Thread Cert.SsdoutRefIdeal.nD Cert.SsdoutRefIdeal.τ).loc Cert.SsdoutRefIdeal.main_arg0) = m ((c.tc : Thread Cert.SsdoutRefIdeal.nD Cert.SsdoutRefIdeal.τ).loc Cert.SsdoutRefIdeal.main_arg0)
      ∧ r.2.mem ((c.tc : Thread Cert.SsdoutRefIdeal.nD Cert.SsdoutRefIdeal.τ).loc Cert.SsdoutRefIdeal.main_arg1) = m ((c.tc : Thread Cert.SsdoutRefIdeal.nD Cert.SsdoutRefIdeal.τ).loc Cert.SsdoutRefIdeal.main_arg1)
      ∧ r.2.mem ((c.tc : Thread Cert.SsdoutRefIdeal.nD Cert.SsdoutRefIdeal.τ).loc Cert.SsdoutRefIdeal.main_arg2) = m ((c.tc : Thread Cert.SsdoutRefIdeal.nD Cert.SsdoutRefIdeal.τ).loc Cert.SsdoutRefIdeal.main_arg2)
      ∧ r.2.mem ((c.tc : Thread Cert.SsdoutRefIdeal.nD Cert.SsdoutRefIdeal.τ).loc Cert.SsdoutRefIdeal.main_arg3) = m ((c.tc : Thread Cert.SsdoutRefIdeal.nD Cert.SsdoutRefIdeal.τ).loc Cert.SsdoutRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Dt [hDt : Cert.Dt.Facts] : Prop :=
  ∀ (m : (ℓ : Loc Cert.Dt.nD Cert.Dt.τ Cert.Dt.sig) → Buf (Elt Bits) ℓ) (g : Dev Cert.Dt.nD → PrngReg), Pre_Dt m →
    θ_run (Cert.Dt.defs (F := Bits)) (onTc (τ := Cert.Dt.τ) (Cert.Dt.main (F := Bits))) ⟨m, fun _ => 0, g⟩ (fun r => (∀ c : Dev Cert.Dt.nD,
      r.2.mem ((c.tc : Thread Cert.Dt.nD Cert.Dt.τ).loc Cert.Dt.main_arg0) = m ((c.tc : Thread Cert.Dt.nD Cert.Dt.τ).loc Cert.Dt.main_arg0)
      ∧ r.2.mem ((c.tc : Thread Cert.Dt.nD Cert.Dt.τ).loc Cert.Dt.main_arg1) = m ((c.tc : Thread Cert.Dt.nD Cert.Dt.τ).loc Cert.Dt.main_arg1))
      ∧ r.2.sem = fun _ => 0)

def quiescent_DtIdeal [hDtIdeal : Cert.DtIdeal.Facts] : Prop :=
  ∀ (m : (ℓ : Loc Cert.DtIdeal.nD Cert.DtIdeal.τ Cert.DtIdeal.sig) → Buf (Elt Ideal) ℓ) (g : Dev Cert.DtIdeal.nD → PrngReg), Pre_DtIdeal m →
    θ_run (Cert.DtIdeal.defs (F := Ideal)) (onTc (τ := Cert.DtIdeal.τ) (Cert.DtIdeal.main (F := Ideal))) ⟨m, fun _ => 0, g⟩ (fun r => (∀ c : Dev Cert.DtIdeal.nD,
      r.2.mem ((c.tc : Thread Cert.DtIdeal.nD Cert.DtIdeal.τ).loc Cert.DtIdeal.main_arg0) = m ((c.tc : Thread Cert.DtIdeal.nD Cert.DtIdeal.τ).loc Cert.DtIdeal.main_arg0)
      ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ r.2.sem = fun _ => 0)

def quiescent_DtRefIdeal [hDtRefIdeal : Cert.DtRefIdeal.Facts] : Prop :=
  ∀ (m : (ℓ : Loc Cert.DtRefIdeal.nD Cert.DtRefIdeal.τ Cert.DtRefIdeal.sig) → Buf (Elt Ideal) ℓ) (g : Dev Cert.DtRefIdeal.nD → PrngReg), Pre_DtRefIdeal m →
    θ_run (Cert.DtRefIdeal.defs (F := Ideal)) (onTc (τ := Cert.DtRefIdeal.τ) (Cert.DtRefIdeal.main (F := Ideal))) ⟨m, fun _ => 0, g⟩ (fun r => (∀ c : Dev Cert.DtRefIdeal.nD,
      r.2.mem ((c.tc : Thread Cert.DtRefIdeal.nD Cert.DtRefIdeal.τ).loc Cert.DtRefIdeal.main_arg0) = m ((c.tc : Thread Cert.DtRefIdeal.nD Cert.DtRefIdeal.τ).loc Cert.DtRefIdeal.main_arg0)
      ∧ r.2.mem ((c.tc : Thread Cert.DtRefIdeal.nD Cert.DtRefIdeal.τ).loc Cert.DtRefIdeal.main_arg1) = m ((c.tc : Thread Cert.DtRefIdeal.nD Cert.DtRefIdeal.τ).loc Cert.DtRefIdeal.main_arg1))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v24)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v24) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v24) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Moe_MoeIdeal : Prop :=
  True

def algebraic_MoeIdeal_MoeRefIdeal [hMoeIdeal : Cert.MoeIdeal.Facts] [hMoeRefIdeal : Cert.MoeRefIdeal.Facts] [hPre_expert_range : Cert.Pre_expert_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v172) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_Hg_HgIdeal : Prop :=
  True

def algebraic_HgIdeal_HgRefIdeal [hHgIdeal : Cert.HgIdeal.Facts] [hHgRefIdeal : Cert.HgRefIdeal.Facts] : Prop :=
  ∀ (m : (ℓ : Loc Cert.HgIdeal.nD Cert.HgIdeal.τ Cert.HgIdeal.sig) → Buf (Elt Ideal) ℓ) (g : Dev Cert.HgIdeal.nD → PrngReg)
    (m' : (ℓ : Loc Cert.HgRefIdeal.nD Cert.HgRefIdeal.τ Cert.HgRefIdeal.sig) → Buf (Elt Ideal) ℓ) (g' : Dev Cert.HgRefIdeal.nD → PrngReg), Pre_HgIdeal m →
    (∀ c : Dev Cert.HgIdeal.nD,
      m' ((c.tc : Thread Cert.HgRefIdeal.nD Cert.HgRefIdeal.τ).loc Cert.HgRefIdeal.main_arg0) = m ((c.tc : Thread Cert.HgIdeal.nD Cert.HgIdeal.τ).loc Cert.HgIdeal.main_arg0)
      ∧ m' ((c.tc : Thread Cert.HgRefIdeal.nD Cert.HgRefIdeal.τ).loc Cert.HgRefIdeal.main_arg1) = m ((c.tc : Thread Cert.HgIdeal.nD Cert.HgIdeal.τ).loc Cert.HgIdeal.main_arg1)) →
    ∃ (v0 : (c : Dev Cert.HgIdeal.nD) → Buf (Elt Ideal) ((c.tc : Thread Cert.HgIdeal.nD Cert.HgIdeal.τ).loc Cert.HgIdeal.main_v3)),
      θ_run (Cert.HgIdeal.defs (F := Ideal)) (onTc (τ := Cert.HgIdeal.τ) (Cert.HgIdeal.main (F := Ideal))) ⟨m, fun _ => 0, g⟩ (fun r => ∀ c : Dev Cert.HgIdeal.nD,
          r.2.mem ((c.tc : Thread Cert.HgIdeal.nD Cert.HgIdeal.τ).loc Cert.HgIdeal.main_v3) = v0 c
          ∧ r.2.mem ((c.tc : Thread Cert.HgIdeal.nD Cert.HgIdeal.τ).loc Cert.HgIdeal.main_arg0) = m ((c.tc : Thread Cert.HgIdeal.nD Cert.HgIdeal.τ).loc Cert.HgIdeal.main_arg0)
          ∧ r.2.mem ((c.tc : Thread Cert.HgIdeal.nD Cert.HgIdeal.τ).loc Cert.HgIdeal.main_arg1) = m ((c.tc : Thread Cert.HgIdeal.nD Cert.HgIdeal.τ).loc Cert.HgIdeal.main_arg1))
      ∧ θ_run (Cert.HgRefIdeal.defs (F := Ideal)) (onTc (τ := Cert.HgRefIdeal.τ) (Cert.HgRefIdeal.main (F := Ideal))) ⟨m', fun _ => 0, g'⟩ (fun r => ∀ c : Dev Cert.HgRefIdeal.nD,
          r.2.mem ((c.tc : Thread Cert.HgRefIdeal.nD Cert.HgRefIdeal.τ).loc Cert.HgRefIdeal.main_v1) = v0 c
          ∧ r.2.mem ((c.tc : Thread Cert.HgRefIdeal.nD Cert.HgRefIdeal.τ).loc Cert.HgRefIdeal.main_arg0) = m' ((c.tc : Thread Cert.HgRefIdeal.nD Cert.HgRefIdeal.τ).loc Cert.HgRefIdeal.main_arg0)
          ∧ r.2.mem ((c.tc : Thread Cert.HgRefIdeal.nD Cert.HgRefIdeal.τ).loc Cert.HgRefIdeal.main_arg1) = m' ((c.tc : Thread Cert.HgRefIdeal.nD Cert.HgRefIdeal.τ).loc Cert.HgRefIdeal.main_arg1))

def preserves_Ssd_SsdIdeal : Prop :=
  True

def algebraic_SsdIdeal_SsdRefIdeal [hSsdIdeal : Cert.SsdIdeal.Facts] [hSsdRefIdeal : Cert.SsdRefIdeal.Facts] : Prop :=
  ∀ (m : (ℓ : Loc Cert.SsdIdeal.nD Cert.SsdIdeal.τ Cert.SsdIdeal.sig) → Buf (Elt Ideal) ℓ) (g : Dev Cert.SsdIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdIdeal m →
    (∀ c : Dev Cert.SsdIdeal.nD,
      m' ((c.tc : Thread Cert.SsdRefIdeal.nD Cert.SsdRefIdeal.τ).loc Cert.SsdRefIdeal.main_arg0) = m ((c.tc : Thread Cert.SsdIdeal.nD Cert.SsdIdeal.τ).loc Cert.SsdIdeal.main_arg0)
      ∧ m' ((c.tc : Thread Cert.SsdRefIdeal.nD Cert.SsdRefIdeal.τ).loc Cert.SsdRefIdeal.main_arg1) = m ((c.tc : Thread Cert.SsdIdeal.nD Cert.SsdIdeal.τ).loc Cert.SsdIdeal.main_arg1)) →
    ∃ (v0 : (c : Dev Cert.SsdIdeal.nD) → Buf (Elt Ideal) ((c.tc : Thread Cert.SsdIdeal.nD Cert.SsdIdeal.τ).loc Cert.SsdIdeal.main_v3)),
      θ_run (Cert.SsdIdeal.defs (F := Ideal)) (onTc (τ := Cert.SsdIdeal.τ) (Cert.SsdIdeal.main (F := Ideal))) ⟨m, fun _ => 0, g⟩ (fun r => ∀ c : Dev Cert.SsdIdeal.nD,
          r.2.mem ((c.tc : Thread Cert.SsdIdeal.nD Cert.SsdIdeal.τ).loc Cert.SsdIdeal.main_v3) = v0 c
          ∧ r.2.mem ((c.tc : Thread Cert.SsdIdeal.nD Cert.SsdIdeal.τ).loc Cert.SsdIdeal.main_arg0) = m ((c.tc : Thread Cert.SsdIdeal.nD Cert.SsdIdeal.τ).loc Cert.SsdIdeal.main_arg0)
          ∧ r.2.mem ((c.tc : Thread Cert.SsdIdeal.nD Cert.SsdIdeal.τ).loc Cert.SsdIdeal.main_arg1) = m ((c.tc : Thread Cert.SsdIdeal.nD Cert.SsdIdeal.τ).loc Cert.SsdIdeal.main_arg1))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v1) = v0 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1))

def preserves_Att_AttIdeal : Prop :=
  True

def algebraic_AttIdeal_AttRefIdeal [hAttIdeal : Cert.AttIdeal.Facts] [hAttRefIdeal : Cert.AttRefIdeal.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)) →
    ∃ (v0 : (c : Dev Cert.AttIdeal.nD) → Buf (Elt Ideal) ((c.tc : Thread Cert.AttIdeal.nD Cert.AttIdeal.τ).loc Cert.AttIdeal.main_v3)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v3) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v1) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v3)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v3) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v8) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v10) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v5)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v6) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v19) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Hgout_HgoutIdeal : Prop :=
  True

def algebraic_HgoutIdeal_HgoutRefIdeal [hHgoutIdeal : Cert.HgoutIdeal.Facts] [hHgoutRefIdeal : Cert.HgoutRefIdeal.Facts] : Prop :=
  ∀ (m : (ℓ : Loc Cert.HgoutIdeal.nD Cert.HgoutIdeal.τ Cert.HgoutIdeal.sig) → Buf (Elt Ideal) ℓ) (g : Dev Cert.HgoutIdeal.nD → PrngReg)
    (m' : (ℓ : Loc Cert.HgoutRefIdeal.nD Cert.HgoutRefIdeal.τ Cert.HgoutRefIdeal.sig) → Buf (Elt Ideal) ℓ) (g' : Dev Cert.HgoutRefIdeal.nD → PrngReg), Pre_HgoutIdeal m →
    (∀ c : Dev Cert.HgoutIdeal.nD,
      m' ((c.tc : Thread Cert.HgoutRefIdeal.nD Cert.HgoutRefIdeal.τ).loc Cert.HgoutRefIdeal.main_arg0) = m ((c.tc : Thread Cert.HgoutIdeal.nD Cert.HgoutIdeal.τ).loc Cert.HgoutIdeal.main_arg0)
      ∧ m' ((c.tc : Thread Cert.HgoutRefIdeal.nD Cert.HgoutRefIdeal.τ).loc Cert.HgoutRefIdeal.main_arg1) = m ((c.tc : Thread Cert.HgoutIdeal.nD Cert.HgoutIdeal.τ).loc Cert.HgoutIdeal.main_arg1)
      ∧ m' ((c.tc : Thread Cert.HgoutRefIdeal.nD Cert.HgoutRefIdeal.τ).loc Cert.HgoutRefIdeal.main_arg2) = m ((c.tc : Thread Cert.HgoutIdeal.nD Cert.HgoutIdeal.τ).loc Cert.HgoutIdeal.main_arg2)
      ∧ m' ((c.tc : Thread Cert.HgoutRefIdeal.nD Cert.HgoutRefIdeal.τ).loc Cert.HgoutRefIdeal.main_arg3) = m ((c.tc : Thread Cert.HgoutIdeal.nD Cert.HgoutIdeal.τ).loc Cert.HgoutIdeal.main_arg3)) →
    ∃ (v0 : (c : Dev Cert.HgoutIdeal.nD) → Buf (Elt Ideal) ((c.tc : Thread Cert.HgoutIdeal.nD Cert.HgoutIdeal.τ).loc Cert.HgoutIdeal.main_v1)),
      θ_run (Cert.HgoutIdeal.defs (F := Ideal)) (onTc (τ := Cert.HgoutIdeal.τ) (Cert.HgoutIdeal.main (F := Ideal))) ⟨m, fun _ => 0, g⟩ (fun r => ∀ c : Dev Cert.HgoutIdeal.nD,
          r.2.mem ((c.tc : Thread Cert.HgoutIdeal.nD Cert.HgoutIdeal.τ).loc Cert.HgoutIdeal.main_v1) = v0 c
          ∧ r.2.mem ((c.tc : Thread Cert.HgoutIdeal.nD Cert.HgoutIdeal.τ).loc Cert.HgoutIdeal.main_arg0) = m ((c.tc : Thread Cert.HgoutIdeal.nD Cert.HgoutIdeal.τ).loc Cert.HgoutIdeal.main_arg0)
          ∧ r.2.mem ((c.tc : Thread Cert.HgoutIdeal.nD Cert.HgoutIdeal.τ).loc Cert.HgoutIdeal.main_arg1) = m ((c.tc : Thread Cert.HgoutIdeal.nD Cert.HgoutIdeal.τ).loc Cert.HgoutIdeal.main_arg1)
          ∧ r.2.mem ((c.tc : Thread Cert.HgoutIdeal.nD Cert.HgoutIdeal.τ).loc Cert.HgoutIdeal.main_arg2) = m ((c.tc : Thread Cert.HgoutIdeal.nD Cert.HgoutIdeal.τ).loc Cert.HgoutIdeal.main_arg2)
          ∧ r.2.mem ((c.tc : Thread Cert.HgoutIdeal.nD Cert.HgoutIdeal.τ).loc Cert.HgoutIdeal.main_arg3) = m ((c.tc : Thread Cert.HgoutIdeal.nD Cert.HgoutIdeal.τ).loc Cert.HgoutIdeal.main_arg3))
      ∧ θ_run (Cert.HgoutRefIdeal.defs (F := Ideal)) (onTc (τ := Cert.HgoutRefIdeal.τ) (Cert.HgoutRefIdeal.main (F := Ideal))) ⟨m', fun _ => 0, g'⟩ (fun r => ∀ c : Dev Cert.HgoutRefIdeal.nD,
          r.2.mem ((c.tc : Thread Cert.HgoutRefIdeal.nD Cert.HgoutRefIdeal.τ).loc Cert.HgoutRefIdeal.main_v20) = v0 c
          ∧ r.2.mem ((c.tc : Thread Cert.HgoutRefIdeal.nD Cert.HgoutRefIdeal.τ).loc Cert.HgoutRefIdeal.main_arg0) = m' ((c.tc : Thread Cert.HgoutRefIdeal.nD Cert.HgoutRefIdeal.τ).loc Cert.HgoutRefIdeal.main_arg0)
          ∧ r.2.mem ((c.tc : Thread Cert.HgoutRefIdeal.nD Cert.HgoutRefIdeal.τ).loc Cert.HgoutRefIdeal.main_arg1) = m' ((c.tc : Thread Cert.HgoutRefIdeal.nD Cert.HgoutRefIdeal.τ).loc Cert.HgoutRefIdeal.main_arg1)
          ∧ r.2.mem ((c.tc : Thread Cert.HgoutRefIdeal.nD Cert.HgoutRefIdeal.τ).loc Cert.HgoutRefIdeal.main_arg2) = m' ((c.tc : Thread Cert.HgoutRefIdeal.nD Cert.HgoutRefIdeal.τ).loc Cert.HgoutRefIdeal.main_arg2)
          ∧ r.2.mem ((c.tc : Thread Cert.HgoutRefIdeal.nD Cert.HgoutRefIdeal.τ).loc Cert.HgoutRefIdeal.main_arg3) = m' ((c.tc : Thread Cert.HgoutRefIdeal.nD Cert.HgoutRefIdeal.τ).loc Cert.HgoutRefIdeal.main_arg3))

def preserves_Ssdout_SsdoutIdeal : Prop :=
  True

def algebraic_SsdoutIdeal_SsdoutRefIdeal [hSsdoutIdeal : Cert.SsdoutIdeal.Facts] [hSsdoutRefIdeal : Cert.SsdoutRefIdeal.Facts] : Prop :=
  ∀ (m : (ℓ : Loc Cert.SsdoutIdeal.nD Cert.SsdoutIdeal.τ Cert.SsdoutIdeal.sig) → Buf (Elt Ideal) ℓ) (g : Dev Cert.SsdoutIdeal.nD → PrngReg)
    (m' : (ℓ : Loc Cert.SsdoutRefIdeal.nD Cert.SsdoutRefIdeal.τ Cert.SsdoutRefIdeal.sig) → Buf (Elt Ideal) ℓ) (g' : Dev Cert.SsdoutRefIdeal.nD → PrngReg), Pre_SsdoutIdeal m →
    (∀ c : Dev Cert.SsdoutIdeal.nD,
      m' ((c.tc : Thread Cert.SsdoutRefIdeal.nD Cert.SsdoutRefIdeal.τ).loc Cert.SsdoutRefIdeal.main_arg0) = m ((c.tc : Thread Cert.SsdoutIdeal.nD Cert.SsdoutIdeal.τ).loc Cert.SsdoutIdeal.main_arg0)
      ∧ m' ((c.tc : Thread Cert.SsdoutRefIdeal.nD Cert.SsdoutRefIdeal.τ).loc Cert.SsdoutRefIdeal.main_arg1) = m ((c.tc : Thread Cert.SsdoutIdeal.nD Cert.SsdoutIdeal.τ).loc Cert.SsdoutIdeal.main_arg1)
      ∧ m' ((c.tc : Thread Cert.SsdoutRefIdeal.nD Cert.SsdoutRefIdeal.τ).loc Cert.SsdoutRefIdeal.main_arg2) = m ((c.tc : Thread Cert.SsdoutIdeal.nD Cert.SsdoutIdeal.τ).loc Cert.SsdoutIdeal.main_arg2)
      ∧ m' ((c.tc : Thread Cert.SsdoutRefIdeal.nD Cert.SsdoutRefIdeal.τ).loc Cert.SsdoutRefIdeal.main_arg3) = m ((c.tc : Thread Cert.SsdoutIdeal.nD Cert.SsdoutIdeal.τ).loc Cert.SsdoutIdeal.main_arg3)) →
    ∃ (v0 : (c : Dev Cert.SsdoutIdeal.nD) → Buf (Elt Ideal) ((c.tc : Thread Cert.SsdoutIdeal.nD Cert.SsdoutIdeal.τ).loc Cert.SsdoutIdeal.main_v1)),
      θ_run (Cert.SsdoutIdeal.defs (F := Ideal)) (onTc (τ := Cert.SsdoutIdeal.τ) (Cert.SsdoutIdeal.main (F := Ideal))) ⟨m, fun _ => 0, g⟩ (fun r => ∀ c : Dev Cert.SsdoutIdeal.nD,
          r.2.mem ((c.tc : Thread Cert.SsdoutIdeal.nD Cert.SsdoutIdeal.τ).loc Cert.SsdoutIdeal.main_v1) = v0 c
          ∧ r.2.mem ((c.tc : Thread Cert.SsdoutIdeal.nD Cert.SsdoutIdeal.τ).loc Cert.SsdoutIdeal.main_arg0) = m ((c.tc : Thread Cert.SsdoutIdeal.nD Cert.SsdoutIdeal.τ).loc Cert.SsdoutIdeal.main_arg0)
          ∧ r.2.mem ((c.tc : Thread Cert.SsdoutIdeal.nD Cert.SsdoutIdeal.τ).loc Cert.SsdoutIdeal.main_arg1) = m ((c.tc : Thread Cert.SsdoutIdeal.nD Cert.SsdoutIdeal.τ).loc Cert.SsdoutIdeal.main_arg1)
          ∧ r.2.mem ((c.tc : Thread Cert.SsdoutIdeal.nD Cert.SsdoutIdeal.τ).loc Cert.SsdoutIdeal.main_arg2) = m ((c.tc : Thread Cert.SsdoutIdeal.nD Cert.SsdoutIdeal.τ).loc Cert.SsdoutIdeal.main_arg2)
          ∧ r.2.mem ((c.tc : Thread Cert.SsdoutIdeal.nD Cert.SsdoutIdeal.τ).loc Cert.SsdoutIdeal.main_arg3) = m ((c.tc : Thread Cert.SsdoutIdeal.nD Cert.SsdoutIdeal.τ).loc Cert.SsdoutIdeal.main_arg3))
      ∧ θ_run (Cert.SsdoutRefIdeal.defs (F := Ideal)) (onTc (τ := Cert.SsdoutRefIdeal.τ) (Cert.SsdoutRefIdeal.main (F := Ideal))) ⟨m', fun _ => 0, g'⟩ (fun r => ∀ c : Dev Cert.SsdoutRefIdeal.nD,
          r.2.mem ((c.tc : Thread Cert.SsdoutRefIdeal.nD Cert.SsdoutRefIdeal.τ).loc Cert.SsdoutRefIdeal.main_v20) = v0 c
          ∧ r.2.mem ((c.tc : Thread Cert.SsdoutRefIdeal.nD Cert.SsdoutRefIdeal.τ).loc Cert.SsdoutRefIdeal.main_arg0) = m' ((c.tc : Thread Cert.SsdoutRefIdeal.nD Cert.SsdoutRefIdeal.τ).loc Cert.SsdoutRefIdeal.main_arg0)
          ∧ r.2.mem ((c.tc : Thread Cert.SsdoutRefIdeal.nD Cert.SsdoutRefIdeal.τ).loc Cert.SsdoutRefIdeal.main_arg1) = m' ((c.tc : Thread Cert.SsdoutRefIdeal.nD Cert.SsdoutRefIdeal.τ).loc Cert.SsdoutRefIdeal.main_arg1)
          ∧ r.2.mem ((c.tc : Thread Cert.SsdoutRefIdeal.nD Cert.SsdoutRefIdeal.τ).loc Cert.SsdoutRefIdeal.main_arg2) = m' ((c.tc : Thread Cert.SsdoutRefIdeal.nD Cert.SsdoutRefIdeal.τ).loc Cert.SsdoutRefIdeal.main_arg2)
          ∧ r.2.mem ((c.tc : Thread Cert.SsdoutRefIdeal.nD Cert.SsdoutRefIdeal.τ).loc Cert.SsdoutRefIdeal.main_arg3) = m' ((c.tc : Thread Cert.SsdoutRefIdeal.nD Cert.SsdoutRefIdeal.τ).loc Cert.SsdoutRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v4) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Dt_DtIdeal : Prop :=
  True

def algebraic_DtIdeal_DtRefIdeal [hDtIdeal : Cert.DtIdeal.Facts] [hDtRefIdeal : Cert.DtRefIdeal.Facts] : Prop :=
  ∀ (m : (ℓ : Loc Cert.DtIdeal.nD Cert.DtIdeal.τ Cert.DtIdeal.sig) → Buf (Elt Ideal) ℓ) (g : Dev Cert.DtIdeal.nD → PrngReg)
    (m' : (ℓ : Loc Cert.DtRefIdeal.nD Cert.DtRefIdeal.τ Cert.DtRefIdeal.sig) → Buf (Elt Ideal) ℓ) (g' : Dev Cert.DtRefIdeal.nD → PrngReg), Pre_DtIdeal m →
    (∀ c : Dev Cert.DtIdeal.nD,
      m' ((c.tc : Thread Cert.DtRefIdeal.nD Cert.DtRefIdeal.τ).loc Cert.DtRefIdeal.main_arg0) = m ((c.tc : Thread Cert.DtIdeal.nD Cert.DtIdeal.τ).loc Cert.DtIdeal.main_arg0)
      ∧ m' ((c.tc : Thread Cert.DtRefIdeal.nD Cert.DtRefIdeal.τ).loc Cert.DtRefIdeal.main_arg1) = m ((c.tc : Thread Cert.DtIdeal.nD Cert.DtIdeal.τ).loc Cert.DtIdeal.main_arg1)) →
    ∃ (v0 : (c : Dev Cert.DtIdeal.nD) → Buf (Elt Ideal) ((c.tc : Thread Cert.DtIdeal.nD Cert.DtIdeal.τ).loc Cert.DtIdeal.main_v6)),
      θ_run (Cert.DtIdeal.defs (F := Ideal)) (onTc (τ := Cert.DtIdeal.τ) (Cert.DtIdeal.main (F := Ideal))) ⟨m, fun _ => 0, g⟩ (fun r => ∀ c : Dev Cert.DtIdeal.nD,
          r.2.mem ((c.tc : Thread Cert.DtIdeal.nD Cert.DtIdeal.τ).loc Cert.DtIdeal.main_v6) = v0 c
          ∧ r.2.mem ((c.tc : Thread Cert.DtIdeal.nD Cert.DtIdeal.τ).loc Cert.DtIdeal.main_arg0) = m ((c.tc : Thread Cert.DtIdeal.nD Cert.DtIdeal.τ).loc Cert.DtIdeal.main_arg0)
          ∧ r.2.mem ((c.tc : Thread Cert.DtIdeal.nD Cert.DtIdeal.τ).loc Cert.DtIdeal.main_arg1) = m ((c.tc : Thread Cert.DtIdeal.nD Cert.DtIdeal.τ).loc Cert.DtIdeal.main_arg1))
      ∧ θ_run (Cert.DtRefIdeal.defs (F := Ideal)) (onTc (τ := Cert.DtRefIdeal.τ) (Cert.DtRefIdeal.main (F := Ideal))) ⟨m', fun _ => 0, g'⟩ (fun r => ∀ c : Dev Cert.DtRefIdeal.nD,
          r.2.mem ((c.tc : Thread Cert.DtRefIdeal.nD Cert.DtRefIdeal.τ).loc Cert.DtRefIdeal.main_v2) = v0 c
          ∧ r.2.mem ((c.tc : Thread Cert.DtRefIdeal.nD Cert.DtRefIdeal.τ).loc Cert.DtRefIdeal.main_arg0) = m' ((c.tc : Thread Cert.DtRefIdeal.nD Cert.DtRefIdeal.τ).loc Cert.DtRefIdeal.main_arg0)
          ∧ r.2.mem ((c.tc : Thread Cert.DtRefIdeal.nD Cert.DtRefIdeal.τ).loc Cert.DtRefIdeal.main_arg1) = m' ((c.tc : Thread Cert.DtRefIdeal.nD Cert.DtRefIdeal.τ).loc Cert.DtRefIdeal.main_arg1))

def Claim : Prop :=
  ∃ (hAttn : Cert.Attn.Facts) (hAttnIdeal : Cert.AttnIdeal.Facts) (hAttnRefIdeal : Cert.AttnRefIdeal.Facts) (hMoe : Cert.Moe.Facts) (hMoeIdeal : Cert.MoeIdeal.Facts) (hMoeRefIdeal : Cert.MoeRefIdeal.Facts) (hHg : Cert.Hg.Facts) (hHgIdeal : Cert.HgIdeal.Facts) (hHgRefIdeal : Cert.HgRefIdeal.Facts) (hSsd : Cert.Ssd.Facts) (hSsdIdeal : Cert.SsdIdeal.Facts) (hSsdRefIdeal : Cert.SsdRefIdeal.Facts) (hAtt : Cert.Att.Facts) (hAttIdeal : Cert.AttIdeal.Facts) (hAttRefIdeal : Cert.AttRefIdeal.Facts) (hGate : Cert.Gate.Facts) (hGateIdeal : Cert.GateIdeal.Facts) (hGateRefIdeal : Cert.GateRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hFinal : Cert.Final.Facts) (hFinalIdeal : Cert.FinalIdeal.Facts) (hFinalRefIdeal : Cert.FinalRefIdeal.Facts) (hMod : Cert.Mod.Facts) (hModIdeal : Cert.ModIdeal.Facts) (hModRefIdeal : Cert.ModRefIdeal.Facts) (hHgout : Cert.Hgout.Facts) (hHgoutIdeal : Cert.HgoutIdeal.Facts) (hHgoutRefIdeal : Cert.HgoutRefIdeal.Facts) (hSsdout : Cert.Ssdout.Facts) (hSsdoutIdeal : Cert.SsdoutIdeal.Facts) (hSsdoutRefIdeal : Cert.SsdoutRefIdeal.Facts) (hAda : Cert.Ada.Facts) (hAdaIdeal : Cert.AdaIdeal.Facts) (hAdaRefIdeal : Cert.AdaRefIdeal.Facts) (hDt : Cert.Dt.Facts) (hDtIdeal : Cert.DtIdeal.Facts) (hDtRefIdeal : Cert.DtRefIdeal.Facts) (hPre_finite_qk : Cert.Pre_finite_qk.Facts) (hPre_expert_range : Cert.Pre_expert_range.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Moe (hMoe := hMoe) (hPre_expert_range := hPre_expert_range)
    ∧ quiescent_MoeIdeal (hMoeIdeal := hMoeIdeal) (hPre_expert_range := hPre_expert_range)
    ∧ quiescent_MoeRefIdeal (hMoeRefIdeal := hMoeRefIdeal)
    ∧ quiescent_MoeRefIdeal_pre_expert_range (hMoeRefIdeal := hMoeRefIdeal) (hPre_expert_range := hPre_expert_range)
    ∧ quiescent_Hg (hHg := hHg)
    ∧ quiescent_HgIdeal (hHgIdeal := hHgIdeal)
    ∧ quiescent_HgRefIdeal (hHgRefIdeal := hHgRefIdeal)
    ∧ quiescent_Ssd (hSsd := hSsd)
    ∧ quiescent_SsdIdeal (hSsdIdeal := hSsdIdeal)
    ∧ quiescent_SsdRefIdeal (hSsdRefIdeal := hSsdRefIdeal)
    ∧ quiescent_Att (hAtt := hAtt)
    ∧ quiescent_AttIdeal (hAttIdeal := hAttIdeal)
    ∧ quiescent_AttRefIdeal (hAttRefIdeal := hAttRefIdeal)
    ∧ quiescent_Gate (hGate := hGate)
    ∧ quiescent_GateIdeal (hGateIdeal := hGateIdeal)
    ∧ quiescent_GateRefIdeal (hGateRefIdeal := hGateRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Final (hFinal := hFinal)
    ∧ quiescent_FinalIdeal (hFinalIdeal := hFinalIdeal)
    ∧ quiescent_FinalRefIdeal (hFinalRefIdeal := hFinalRefIdeal)
    ∧ quiescent_Mod (hMod := hMod)
    ∧ quiescent_ModIdeal (hModIdeal := hModIdeal)
    ∧ quiescent_ModRefIdeal (hModRefIdeal := hModRefIdeal)
    ∧ quiescent_Hgout (hHgout := hHgout)
    ∧ quiescent_HgoutIdeal (hHgoutIdeal := hHgoutIdeal)
    ∧ quiescent_HgoutRefIdeal (hHgoutRefIdeal := hHgoutRefIdeal)
    ∧ quiescent_Ssdout (hSsdout := hSsdout)
    ∧ quiescent_SsdoutIdeal (hSsdoutIdeal := hSsdoutIdeal)
    ∧ quiescent_SsdoutRefIdeal (hSsdoutRefIdeal := hSsdoutRefIdeal)
    ∧ quiescent_Ada (hAda := hAda)
    ∧ quiescent_AdaIdeal (hAdaIdeal := hAdaIdeal)
    ∧ quiescent_AdaRefIdeal (hAdaRefIdeal := hAdaRefIdeal)
    ∧ quiescent_Dt (hDt := hDt)
    ∧ quiescent_DtIdeal (hDtIdeal := hDtIdeal)
    ∧ quiescent_DtRefIdeal (hDtRefIdeal := hDtRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Moe_MoeIdeal
    ∧ algebraic_MoeIdeal_MoeRefIdeal (hMoeIdeal := hMoeIdeal) (hMoeRefIdeal := hMoeRefIdeal) (hPre_expert_range := hPre_expert_range)
    ∧ preserves_Hg_HgIdeal
    ∧ algebraic_HgIdeal_HgRefIdeal (hHgIdeal := hHgIdeal) (hHgRefIdeal := hHgRefIdeal)
    ∧ preserves_Ssd_SsdIdeal
    ∧ algebraic_SsdIdeal_SsdRefIdeal (hSsdIdeal := hSsdIdeal) (hSsdRefIdeal := hSsdRefIdeal)
    ∧ preserves_Att_AttIdeal
    ∧ algebraic_AttIdeal_AttRefIdeal (hAttIdeal := hAttIdeal) (hAttRefIdeal := hAttRefIdeal)
    ∧ preserves_Gate_GateIdeal
    ∧ algebraic_GateIdeal_GateRefIdeal (hGateIdeal := hGateIdeal) (hGateRefIdeal := hGateRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Final_FinalIdeal
    ∧ algebraic_FinalIdeal_FinalRefIdeal (hFinalIdeal := hFinalIdeal) (hFinalRefIdeal := hFinalRefIdeal)
    ∧ preserves_Mod_ModIdeal
    ∧ algebraic_ModIdeal_ModRefIdeal (hModIdeal := hModIdeal) (hModRefIdeal := hModRefIdeal)
    ∧ preserves_Hgout_HgoutIdeal
    ∧ algebraic_HgoutIdeal_HgoutRefIdeal (hHgoutIdeal := hHgoutIdeal) (hHgoutRefIdeal := hHgoutRefIdeal)
    ∧ preserves_Ssdout_SsdoutIdeal
    ∧ algebraic_SsdoutIdeal_SsdoutRefIdeal (hSsdoutIdeal := hSsdoutIdeal) (hSsdoutRefIdeal := hSsdoutRefIdeal)
    ∧ preserves_Ada_AdaIdeal
    ∧ algebraic_AdaIdeal_AdaRefIdeal (hAdaIdeal := hAdaIdeal) (hAdaRefIdeal := hAdaRefIdeal)
    ∧ preserves_Dt_DtIdeal
    ∧ algebraic_DtIdeal_DtRefIdeal (hDtIdeal := hDtIdeal) (hDtRefIdeal := hDtRefIdeal)
-- ==== Pre_expert_range.lean ====
abbrev S136 : Shape := ⟨1, ![136]⟩
abbrev S1 : Shape := ⟨1, ![1]⟩
abbrev S69632x2048 : Shape := ⟨2, ![69632, 2048]⟩
abbrev S8x2048x5632 : Shape := ⟨3, ![8, 2048, 5632]⟩
abbrev S8x5632x2048 : Shape := ⟨3, ![8, 5632, 2048]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : IVec S1 32) (main_arg2 : FVec F S69632x2048 .f32) (main_arg3 : FVec F S8x2048x5632 .f32) (main_arg4 : FVec F S8x2048x5632 .f32) (main_arg5 : FVec F S8x5632x2048 .f32) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Pre_finite_qk.lean ====
abbrev S4x8192x1024 : Shape := ⟨3, ![4, 8192, 1024]⟩
abbrev S4x256x256 : Shape := ⟨3, ![4, 256, 256]⟩
abbrev S4x8192x256 : Shape := ⟨3, ![4, 8192, 256]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x256x256 : S_.BroadcastsInDim S4x256x256 (![] : Fin 0 → Fin S4x256x256.rank)
  reducesTo_S4x256x256_S_d0_1_2 : S4x256x256.ReducesTo [0, 1, 2] S_
  bcast_S_S4x8192x256 : S_.BroadcastsInDim S4x8192x256 (![] : Fin 0 → Fin S4x8192x256.rank)
  reducesTo_S4x8192x256_S_d0_1_2 : S4x8192x256.ReducesTo [0, 1, 2] S_

variable [Facts]

def fn {F : FTy → Type} [FloatOps F] (main_arg0 : FVec F S4x8192x1024 .f32) (main_arg1 : FVec F S4x256x256 .f32) (main_arg2 : FVec F S4x8192x256 .f32) (main_arg3 : FVec F S4x256x256 .f32) (main_arg4 : FVec F S4x8192x256 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x256x256 .f32 := Host.absf main_arg1
  let main_cst_0 : FVec F S_ .f32 := constant S_ .f32 0x7F800000#32
  let main_v5 : FVec F S4x256x256 .f32 := broadcastInDim S4x256x256 ![] bcast_S_S4x256x256 main_cst_0
  let main_v6 : IVec S4x256x256 1 := cmpf .olt main_v4 main_v5
  let main_c_1 : IVec S_ 1 := constantI S_ 1 1#1
  let main_v7 : IVec S_ 1 := (fun x v => Host.reduce IntOp.andi x v reducesTo_S4x256x256_S_d0_1_2 h_S_) main_v6 main_c_1
  let main_v8 : IVec S_ 1 := andi main_v3 main_v7
  let main_v9 : FVec F S4x8192x256 .f32 := Host.absf main_arg2
  let main_cst_2 : FVec F S_ .f32 := constant S_ .f32 0x7F800000#32
  let main_v10 : FVec F S4x8192x256 .f32 := broadcastInDim S4x8192x256 ![] bcast_S_S4x8192x256 main_cst_2
  let main_v11 : IVec S4x8192x256 1 := cmpf .olt main_v9 main_v10
  let main_c_3 : IVec S_ 1 := constantI S_ 1 1#1
  let main_v12 : IVec S_ 1 := (fun x v => Host.reduce IntOp.andi x v reducesTo_S4x8192x256_S_d0_1_2 h_S_) main_v11 main_c_3
  let main_v13 : IVec S_ 1 := andi main_v8 main_v12
  main_v13
-- ==== Attn.lean ====
abbrev S4x8192x1024 : Shape := ⟨3, ![4, 8192, 1024]⟩
abbrev S4x256x256 : Shape := ⟨3, ![4, 256, 256]⟩
abbrev S4x8192x256 : Shape := ⟨3, ![4, 8192, 256]⟩
abbrev S_ : Shape := ⟨0, ![]⟩
abbrev S4x8448x256 : Shape := ⟨3, ![4, 8448, 256]⟩
abbrev S4x256x128 : Shape := ⟨3, ![4, 256, 128]⟩
abbrev S4x256x512 : Shape := ⟨3, ![4, 256, 512]⟩
abbrev S4x8192x128 : Shape := ⟨3, ![4, 8192, 128]⟩
abbrev S4x8192x512 : Shape := ⟨3, ![4, 8192, 512]⟩
abbrev S4x8448x512 : Shape := ⟨3, ![4, 8448, 512]⟩
abbrev S1x512x512 : Shape := ⟨3, ![1, 512, 512]⟩
abbrev S1x8448x128 : Shape := ⟨3, ![1, 8448, 128]⟩
abbrev S1x8448x256 : Shape := ⟨3, ![1, 8448, 256]⟩
abbrev S1x512x128 : Shape := ⟨3, ![1, 512, 128]⟩
abbrev S512x128 : Shape := ⟨2, ![512, 128]⟩
abbrev S512x1 : Shape := ⟨2, ![512, 1]⟩
abbrev S512x256 : Shape := ⟨2, ![512, 256]⟩
abbrev S1x1408x128 : Shape := ⟨3, ![1, 1408, 128]⟩
abbrev S1408x128 : Shape := ⟨2, ![1408, 128]⟩
abbrev S1x1408x256 : Shape := ⟨3, ![1, 1408, 256]⟩
abbrev S1408x256 : Shape := ⟨2, ![1408, 256]⟩
abbrev S512x1408 : Shape := ⟨2, ![512, 1408]⟩
abbrev S512 : Shape := ⟨1, ![512]⟩

abbrev nBuf : Space → Nat
  | .hbm => 34
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S4x256x256, .f32⟩
  | .hbm, ⟨2, _⟩ => ⟨S4x8192x256, .f32⟩
  | .hbm, ⟨3, _⟩ => ⟨S4x256x256, .f32⟩
  | .hbm, ⟨4, _⟩ => ⟨S4x8192x256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x1024, .f32⟩
  | .hbm, ⟨11, _⟩ => ⟨S4x8192x1024, .f32⟩
  | .hbm, ⟨12, _⟩ => ⟨S4x8192x1024, .bf16⟩
  | .hbm, ⟨13, _⟩ => ⟨S4x256x256, .bf16⟩
  | .hbm, ⟨14, _⟩ => ⟨S4x8192x256, .bf16⟩
  | .hbm, ⟨15, _⟩ => ⟨S4x8448x256, .bf16⟩
  | .hbm, ⟨16, _⟩ => ⟨S4x256x256, .bf16⟩
  | .hbm, ⟨17, _⟩ => ⟨S_, .bf16⟩
  | .hbm, ⟨18, _⟩ => ⟨S4x256x128, .bf16⟩
  | .hbm, ⟨19, _⟩ => ⟨S4x256x128, .bf16⟩
  | .hbm, ⟨20, _⟩ => ⟨S4x256x256, .bf16⟩
  | .hbm, ⟨21, _⟩ => ⟨S4x256x128, .bf16⟩
  | .hbm, ⟨22, _⟩ => ⟨S4x256x256, .bf16⟩
  | .hbm, ⟨23, _⟩ => ⟨S4x256x512, .bf16⟩
  | .hbm, ⟨24, _⟩ => ⟨S4x8192x256, .bf16⟩
  | .hbm, ⟨25, _⟩ => ⟨S_, .bf16⟩
  | .hbm, ⟨26, _⟩ => ⟨S4x8192x128, .bf16⟩
  | .hbm, ⟨27, _⟩ => ⟨S4x8192x128, .bf16⟩
  | .hbm, ⟨28, _⟩ => ⟨S4x8192x256, .bf16⟩
  | .hbm, ⟨29, _⟩ => ⟨S4x8192x128, .bf16⟩
  | .hbm, ⟨30, _⟩ => ⟨S4x8192x256, .bf16⟩
  | .hbm, ⟨31, _⟩ => ⟨S4x8192x512, .bf16⟩
  | .hbm, ⟨32, _⟩ => ⟨S4x8448x512, .bf16⟩
  | .hbm, ⟨33, _⟩ => ⟨S4x8192x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x8448x256, .bf16⟩
  | .local _ .vmem, ⟨5, _⟩ => ⟨S1x8448x256, .bf16⟩
  | .local _ .vmem, ⟨6, _⟩ => ⟨S1x512x512, .bf16⟩
  | .local _ .vmem, ⟨7, _⟩ => ⟨S1x512x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

@[reducible] def k0_t1_loop : Scf.Loop 32 :=
  let c0_i32 : BitVec 32 := 0#32
  let c6_i32 : BitVec 32 := 6#32
  let v16 : BitVec 32 := Scalar.addi c0_i32 c6_i32
  let c1_i32 : BitVec 32 := 1#32
  ⟨c0_i32, v16, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c1408_i32 : BitVec 32 := 1408#32
  let v46 : BitVec 32 := Scalar.muli arg7 c1408_i32
  v46
def k0_off1 (k0_t1 : Fin k0_t1_loop.trips) : Fin 3 → Nat :=
  let c0_28 : Index := 0#32
  let c0_i32 : BitVec 32 := 0#32
  let c1_i32 : BitVec 32 := 1#32
  let arg7 : BitVec 32 := Scf.iv c0_i32 c1_i32 k0_t1
  let c1408_i32 : BitVec 32 := 1408#32
  let v46 : BitVec 32 := Scalar.muli arg7 c1408_i32
  let v47 : BitVec 32 := v46
  let v48 : Index := Scalar.indexCast v47
  let c0_29 : Index := 0#32
  ![0, v48.toNat, 0]
def k0_off2 (k0_t1 : Fin k0_t1_loop.trips) : Fin 3 → Nat :=
  let c0_30 : Index := 0#32
  let c0_i32 : BitVec 32 := 0#32
  let c1_i32 : BitVec 32 := 1#32
  let arg7 : BitVec 32 := Scf.iv c0_i32 c1_i32 k0_t1
  let c1408_i32 : BitVec 32 := 1408#32
  let v46 : BitVec 32 := Scalar.muli arg7 c1408_i32
  let v47 : BitVec 32 := v46
  let v51 : Index := Scalar.indexCast v47
  let c0_31 : Index := 0#32
  ![0, v51.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8448x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S4x8192x1024 : Shape := ⟨3, ![4, 8192, 1024]⟩
abbrev S4x256x256 : Shape := ⟨3, ![4, 256, 256]⟩
abbrev S4x8192x256 : Shape := ⟨3, ![4, 8192, 256]⟩
abbrev S4x8448x256 : Shape := ⟨3, ![4, 8448, 256]⟩
abbrev S4x8192x2x4x128 : Shape := ⟨5, ![4, 8192, 2, 4, 128]⟩
abbrev S4x8448x2x128 : Shape := ⟨4, ![4, 8448, 2, 128]⟩
abbrev S4x2x8448x8192x4 : Shape := ⟨5, ![4, 2, 8448, 8192, 4]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x2x128x4x8192 : Shape := ⟨5, ![4, 2, 128, 4, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x256x256, .f32⟩
  | .hbm, ⟨2, _⟩ => ⟨S4x8192x256, .f32⟩
  | .hbm, ⟨3, _⟩ => ⟨S4x256x256, .f32⟩
  | .hbm, ⟨4, _⟩ => ⟨S4x8192x256, .f32⟩
  | .hbm, ⟨5, _⟩ => ⟨S4x8448x256, .f32⟩
  | .hbm, ⟨6, _⟩ => ⟨S4x8448x256, .f32⟩
  | .hbm, ⟨7, _⟩ => ⟨S4x8192x2x4x128, .f32⟩
  | .hbm, ⟨8, _⟩ => ⟨S4x8448x2x128, .f32⟩
  | .hbm, ⟨9, _⟩ => ⟨S4x8448x2x128, .f32⟩
  | .hbm, ⟨10, _⟩ => ⟨S4x2x8448x8192x4, .f32⟩
  | .hbm, ⟨11, _⟩ => ⟨S4x2x4x8192x8448, .f32⟩
  | .hbm, ⟨12, _⟩ => ⟨S_, .f32⟩
  | .hbm, ⟨13, _⟩ => ⟨S_, .f32⟩
  | .hbm, ⟨14, _⟩ => ⟨S4x2x4x8192x8448, .f32⟩
  | .hbm, ⟨15, _⟩ => ⟨S4x2x4x8192x8448, .f32⟩
  | .hbm, ⟨16, _⟩ => ⟨S_, .f32⟩
  | .hbm, ⟨17, _⟩ => ⟨S4x2x4x8192, .f32⟩
  | .hbm, ⟨18, _⟩ => ⟨S_, .f32⟩
  | .hbm, ⟨19, _⟩ => ⟨S4x2x4x8192, .f32⟩
  | .hbm, ⟨20, _⟩ => ⟨S4x2x4x8192, .f32⟩
  | .hbm, ⟨21, _⟩ => ⟨S4x2x4x8192x1, .f32⟩
  | .hbm, ⟨22, _⟩ => ⟨S4x2x4x8192x8448, .f32⟩
  | .hbm, ⟨23, _⟩ => ⟨S4x2x4x8192x8448, .f32⟩
  | .hbm, ⟨24, _⟩ => ⟨S4x2x4x8192x8448, .f32⟩
  | .hbm, ⟨25, _⟩ => ⟨S_, .f32⟩
  | .hbm, ⟨26, _⟩ => ⟨S4x2x4x8192, .f32⟩
  | .hbm, ⟨27, _⟩ => ⟨S4x2x4x8192x1, .f32⟩
  | .hbm, ⟨28, _⟩ => ⟨S4x2x4x8192x8448, .f32⟩
  | .hbm, ⟨29, _⟩ => ⟨S4x2x4x8192x8448, .f32⟩
  | .hbm, ⟨30, _⟩ => ⟨S4x2x128x4x8192, .f32⟩
  | .hbm, ⟨31, _⟩ => ⟨S4x8192x2x4x128, .f32⟩
  | .hbm, ⟨32, _⟩ => ⟨S4x8192x1024, .f32⟩
  | .hbm, ⟨33, _⟩ => ⟨S4x8192x1024, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Moe.lean ====
abbrev S136 : Shape := ⟨1, ![136]⟩
abbrev S1 : Shape := ⟨1, ![1]⟩
abbrev S69632x2048 : Shape := ⟨2, ![69632, 2048]⟩
abbrev S8x2048x5632 : Shape := ⟨3, ![8, 2048, 5632]⟩
abbrev S8x5632x2048 : Shape := ⟨3, ![8, 5632, 2048]⟩
abbrev S512x2048 : Shape := ⟨2, ![512, 2048]⟩
abbrev S1x2048x512 : Shape := ⟨3, ![1, 2048, 512]⟩
abbrev S1x512x2048 : Shape := ⟨3, ![1, 512, 2048]⟩
abbrev S2048x512 : Shape := ⟨2, ![2048, 512]⟩
abbrev S512x512 : Shape := ⟨2, ![512, 512]⟩

abbrev nBuf : Space → Nat
  | .hbm => 8
  | .vmem => 12
  | .smem => 2
  | _ => 0

abbrev bufTy : (tb : Table) → Fin (tcTables nBuf tb) → BufTy
  | .hbm, ⟨0, _⟩ => ⟨S69632x2048, .f32⟩
  | .hbm, ⟨1, _⟩ => ⟨S8x2048x5632, .f32⟩
  | .hbm, ⟨2, _⟩ => ⟨S8x2048x5632, .f32⟩
  | .hbm, ⟨3, _⟩ => ⟨S8x5632x2048, .f32⟩
  | .hbm, ⟨4, _⟩ => ⟨S8x2048x5632, .bf16⟩
  | .hbm, ⟨5, _⟩ => ⟨S8x2048x5632, .bf16⟩
  | .hbm, ⟨6, _⟩ => ⟨S8x5632x2048, .bf16⟩
  | .hbm, ⟨7, _⟩ => ⟨S69632x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .bf16⟩
  | .local _ .vmem, ⟨7, _⟩ => ⟨S1x512x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .smem, ⟨0, _⟩ => ⟨S136, .i32⟩
  | .local _ .smem, ⟨1, _⟩ => ⟨S1, .i32⟩
  | _, _ => ⟨S69632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 11], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c10_i32 : BitVec 32 := 10#32
  let v7 : BitVec 1 := Scalar.cmpi .eq arg1 c10_i32
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_2 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, c0_i32_0.toNat, v4.toNat]

def cc0_transform_3 (k0_off1_inb : ∀ i : grid0.Coords, ∀ a, (k0_off1 i) a + S1.size a ≤ S136.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c0_i32 : BitVec 32 := 0#32
  let v4 : BitVec 32 := Scalar.select v3 arg1 c0_i32
  let c0_i32_0 : BitVec 32 := 0#32
  let c0_i32_1 : BitVec 32 := 0#32
  ![v1.toNat, v4.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MoeRefIdeal.lean ====
abbrev S136 : Shape := ⟨1, ![136]⟩
abbrev S1 : Shape := ⟨1, ![1]⟩
abbrev S69632x2048 : Shape := ⟨2, ![69632, 2048]⟩
abbrev S8x2048x5632 : Shape := ⟨3, ![8, 2048, 5632]⟩
abbrev S8x5632x2048 : Shape := ⟨3, ![8, 5632, 2048]⟩
abbrev S_ : Shape := ⟨0, ![]⟩
abbrev S136x1 : Shape := ⟨2, ![136, 1]⟩
abbrev S136x512 : Shape := ⟨2, ![136, 512]⟩
abbrev S69632x1 : Shape := ⟨2, ![69632, 1]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S69632x5632 : Shape := ⟨2, ![69632, 5632]⟩

abbrev nBuf : Space → Nat
  | .hbm => 284
  | .vmem => 0
  | .smem => 0
  | _ => 0

abbrev hbmTy0_0 (i : Nat) : BufTy := match i % 128 with
  | 0 => ⟨S136, .i32⟩
  | 1 => ⟨S1, .i32⟩
  | 2 => ⟨S69632x2048, .f32⟩
  | 3 => ⟨S8x2048x5632, .f32⟩
  | 4 => ⟨S8x2048x5632, .f32⟩
  | 5 => ⟨S8x5632x2048, .f32⟩
  | 6 => ⟨S136, .i32⟩
  | 7 => ⟨S_, .i32⟩
  | 8 => ⟨S136, .i32⟩
  | 9 => ⟨S136, .i1⟩
  | 10 => ⟨S_, .f32⟩
  | 11 => ⟨S69632x2048, .f32⟩
  | 12 => ⟨S_, .i32⟩
  | 13 => ⟨S136, .i32⟩
  | 14 => ⟨S136, .i1⟩
  | 15 => ⟨S136, .i1⟩
  | 16 => ⟨S_, .f32⟩
  | 17 => ⟨S_, .f32⟩
  | 18 => ⟨S136, .f32⟩
  | 19 => ⟨S136, .f32⟩
  | 20 => ⟨S136, .f32⟩
  | 21 => ⟨S136x1, .f32⟩
  | 22 => ⟨S136x512, .f32⟩
  | 23 => ⟨S69632x1, .f32⟩
  | 24 => ⟨S1x2048x5632, .f32⟩
  | 25 => ⟨S2048x5632, .f32⟩
  | 26 => ⟨S1x2048x5632, .f32⟩
  | 27 => ⟨S2048x5632, .f32⟩
  | 28 => ⟨S1x5632x2048, .f32⟩
  | 29 => ⟨S5632x2048, .f32⟩
  | 30 => ⟨S69632x5632, .f32⟩
  | 31 => ⟨S69632x5632, .f32⟩
  | 32 => ⟨S69632x5632, .f32⟩
  | 33 => ⟨S_, .f32⟩
  | 34 => ⟨S69632x5632, .f32⟩
  | 35 => ⟨S69632x5632, .f32⟩
  | 36 => ⟨S_, .f32⟩
  | 37 => ⟨S69632x5632, .f32⟩
  | 38 => ⟨S69632x5632, .f32⟩
  | 39 => ⟨S69632x5632, .f32⟩
  | 40 => ⟨S69632x5632, .f32⟩
  | 41 => ⟨S69632x5632, .f32⟩
  | 42 => ⟨S69632x2048, .f32⟩
  | 43 => ⟨S69632x2048, .f32⟩
  | 44 => ⟨S69632x2048, .f32⟩
  | 45 => ⟨S69632x2048, .f32⟩
  | 46 => ⟨S_, .i32⟩
  | 47 => ⟨S136, .i32⟩
  | 48 => ⟨S136, .i1⟩
  | 49 => ⟨S136, .i1⟩
  | 50 => ⟨S_, .f32⟩
  | 51 => ⟨S_, .f32⟩
  | 52 => ⟨S136, .f32⟩
  | 53 => ⟨S136, .f32⟩
  | 54 => ⟨S136, .f32⟩
  | 55 => ⟨S136x1, .f32⟩
  | 56 => ⟨S136x512, .f32⟩
  | 57 => ⟨S69632x1, .f32⟩
  | 58 => ⟨S1x2048x5632, .f32⟩
  | 59 => ⟨S2048x5632, .f32⟩
  | 60 => ⟨S1x2048x5632, .f32⟩
  | 61 => ⟨S2048x5632, .f32⟩
  | 62 => ⟨S1x5632x2048, .f32⟩
  | 63 => ⟨S5632x2048, .f32⟩
  | 64 => ⟨S69632x5632, .f32⟩
  | 65 => ⟨S69632x5632, .f32⟩
  | 66 => ⟨S69632x5632, .f32⟩
  | 67 => ⟨S_, .f32⟩
  | 68 => ⟨S69632x5632, .f32⟩
  | 69 => ⟨S69632x5632, .f32⟩
  | 70 => ⟨S_, .f32⟩
  | 71 => ⟨S69632x5632, .f32⟩
  | 72 => ⟨S69632x5632, .f32⟩
  | 73 => ⟨S69632x5632, .f32⟩
  | 74 => ⟨S69632x5632, .f32⟩
  | 75 => ⟨S69632x5632, .f32⟩
  | 76 => ⟨S69632x2048, .f32⟩
  | 77 => ⟨S69632x2048, .f32⟩
  | 78 => ⟨S69632x2048, .f32⟩
  | 79 => ⟨S69632x2048, .f32⟩
  | 80 => ⟨S_, .i32⟩
  | 81 => ⟨S136, .i32⟩
  | 82 => ⟨S136, .i1⟩
  | 83 => ⟨S136, .i1⟩
  | 84 => ⟨S_, .f32⟩
  | 85 => ⟨S_, .f32⟩
  | 86 => ⟨S136, .f32⟩
  | 87 => ⟨S136, .f32⟩
  | 88 => ⟨S136, .f32⟩
  | 89 => ⟨S136x1, .f32⟩
  | 90 => ⟨S136x512, .f32⟩
  | 91 => ⟨S69632x1, .f32⟩
  | 92 => ⟨S1x2048x5632, .f32⟩
  | 93 => ⟨S2048x5632, .f32⟩
  | 94 => ⟨S1x2048x5632, .f32⟩
  | 95 => ⟨S2048x5632, .f32⟩
  | 96 => ⟨S1x5632x2048, .f32⟩
  | 97 => ⟨S5632x2048, .f32⟩
  | 98 => ⟨S69632x5632, .f32⟩
  | 99 => ⟨S69632x5632, .f32⟩
  | 100 => ⟨S69632x5632, .f32⟩
  | 101 => ⟨S_, .f32⟩
  | 102 => ⟨S69632x5632, .f32⟩
  | 103 => ⟨S69632x5632, .f32⟩
  | 104 => ⟨S_, .f32⟩
  | 105 => ⟨S69632x5632, .f32⟩
  | 106 => ⟨S69632x5632, .f32⟩
  | 107 => ⟨S69632x5632, .f32⟩
  | 108 => ⟨S69632x5632, .f32⟩
  | 109 => ⟨S69632x5632, .f32⟩
  | 110 => ⟨S69632x2048, .f32⟩
  | 111 => ⟨S69632x2048, .f32⟩
  | 112 => ⟨S69632x2048, .f32⟩
  | 113 => ⟨S69632x2048, .f32⟩
  | 114 => ⟨S_, .i32⟩
  | 115 => ⟨S136, .i32⟩
  | 116 => ⟨S136, .i1⟩
  | 117 => ⟨S136, .i1⟩
  | 118 => ⟨S_, .f32⟩
  | 119 => ⟨S_, .f32⟩
  | 120 => ⟨S136, .f32⟩
  | 121 => ⟨S136, .f32⟩
  | 122 => ⟨S136, .f32⟩
  | 123 => ⟨S136x1, .f32⟩
  | 124 => ⟨S136x512, .f32⟩
  | 125 => ⟨S69632x1, .f32⟩
  | 126 => ⟨S1x2048x5632, .f32⟩
  | 127 => ⟨S2048x5632, .f32⟩
  | _ => ⟨S136, .i32⟩

abbrev hbmTy0_1 (i : Nat) : BufTy := match i % 128 with
  | 0 => ⟨S1x2048x5632, .f32⟩
  | 1 => ⟨S2048x5632, .f32⟩
  | 2 => ⟨S1x5632x2048, .f32⟩
  | 3 => ⟨S5632x2048, .f32⟩
  | 4 => ⟨S69632x5632, .f32⟩
  | 5 => ⟨S69632x5632, .f32⟩
  | 6 => ⟨S69632x5632, .f32⟩
  | 7 => ⟨S_, .f32⟩
  | 8 => ⟨S69632x5632, .f32⟩
  | 9 => ⟨S69632x5632, .f32⟩
  | 10 => ⟨S_, .f32⟩
  | 11 => ⟨S69632x5632, .f32⟩
  | 12 => ⟨S69632x5632, .f32⟩
  | 13 => ⟨S69632x5632, .f32⟩
  | 14 => ⟨S69632x5632, .f32⟩
  | 15 => ⟨S69632x5632, .f32⟩
  | 16 => ⟨S69632x2048, .f32⟩
  | 17 => ⟨S69632x2048, .f32⟩
  | 18 => ⟨S69632x2048, .f32⟩
  | 19 => ⟨S69632x2048, .f32⟩
  | 20 => ⟨S_, .i32⟩
  | 21 => ⟨S136, .i32⟩
  | 22 => ⟨S136, .i1⟩
  | 23 => ⟨S136, .i1⟩
  | 24 => ⟨S_, .f32⟩
  | 25 => ⟨S_, .f32⟩
  | 26 => ⟨S136, .f32⟩
  | 27 => ⟨S136, .f32⟩
  | 28 => ⟨S136, .f32⟩
  | 29 => ⟨S136x1, .f32⟩
  | 30 => ⟨S136x512, .f32⟩
  | 31 => ⟨S69632x1, .f32⟩
  | 32 => ⟨S1x2048x5632, .f32⟩
  | 33 => ⟨S2048x5632, .f32⟩
  | 34 => ⟨S1x2048x5632, .f32⟩
  | 35 => ⟨S2048x5632, .f32⟩
  | 36 => ⟨S1x5632x2048, .f32⟩
  | 37 => ⟨S5632x2048, .f32⟩
  | 38 => ⟨S69632x5632, .f32⟩
  | 39 => ⟨S69632x5632, .f32⟩
  | 40 => ⟨S69632x5632, .f32⟩
  | 41 => ⟨S_, .f32⟩
  | 42 => ⟨S69632x5632, .f32⟩
  | 43 => ⟨S69632x5632, .f32⟩
  | 44 => ⟨S_, .f32⟩
  | 45 => ⟨S69632x5632, .f32⟩
  | 46 => ⟨S69632x5632, .f32⟩
  | 47 => ⟨S69632x5632, .f32⟩
  | 48 => ⟨S69632x5632, .f32⟩
  | 49 => ⟨S69632x5632, .f32⟩
  | 50 => ⟨S69632x2048, .f32⟩
  | 51 => ⟨S69632x2048, .f32⟩
  | 52 => ⟨S69632x2048, .f32⟩
  | 53 => ⟨S69632x2048, .f32⟩
  | 54 => ⟨S_, .i32⟩
  | 55 => ⟨S136, .i32⟩
  | 56 => ⟨S136, .i1⟩
  | 57 => ⟨S136, .i1⟩
  | 58 => ⟨S_, .f32⟩
  | 59 => ⟨S_, .f32⟩
  | 60 => ⟨S136, .f32⟩
  | 61 => ⟨S136, .f32⟩
  | 62 => ⟨S136, .f32⟩
  | 63 => ⟨S136x1, .f32⟩
  | 64 => ⟨S136x512, .f32⟩
  | 65 => ⟨S69632x1, .f32⟩
  | 66 => ⟨S1x2048x5632, .f32⟩
  | 67 => ⟨S2048x5632, .f32⟩
  | 68 => ⟨S1x2048x5632, .f32⟩
  | 69 => ⟨S2048x5632, .f32⟩
  | 70 => ⟨S1x5632x2048, .f32⟩
  | 71 => ⟨S5632x2048, .f32⟩
  | 72 => ⟨S69632x5632, .f32⟩
  | 73 => ⟨S69632x5632, .f32⟩
  | 74 => ⟨S69632x5632, .f32⟩
  | 75 => ⟨S_, .f32⟩
  | 76 => ⟨S69632x5632, .f32⟩
  | 77 => ⟨S69632x5632, .f32⟩
  | 78 => ⟨S_, .f32⟩
  | 79 => ⟨S69632x5632, .f32⟩
  | 80 => ⟨S69632x5632, .f32⟩
  | 81 => ⟨S69632x5632, .f32⟩
  | 82 => ⟨S69632x5632, .f32⟩
  | 83 => ⟨S69632x5632, .f32⟩
  | 84 => ⟨S69632x2048, .f32⟩
  | 85 => ⟨S69632x2048, .f32⟩
  | 86 => ⟨S69632x2048, .f32⟩
  | 87 => ⟨S69632x2048, .f32⟩
  | 88 => ⟨S_, .i32⟩
  | 89 => ⟨S136, .i32⟩
  | 90 => ⟨S136, .i1⟩
  | 91 => ⟨S136, .i1⟩
  | 92 => ⟨S_, .f32⟩
  | 93 => ⟨S_, .f32⟩
  | 94 => ⟨S136, .f32⟩
  | 95 => ⟨S136, .f32⟩
  | 96 => ⟨S136, .f32⟩
  | 97 => ⟨S136x1, .f32⟩
  | 98 => ⟨S136x512, .f32⟩
  | 99 => ⟨S69632x1, .f32⟩
  | 100 => ⟨S1x2048x5632, .f32⟩
  | 101 => ⟨S2048x5632, .f32⟩
  | 102 => ⟨S1x2048x5632, .f32⟩
  | 103 => ⟨S2048x5632, .f32⟩
  | 104 => ⟨S1x5632x2048, .f32⟩
  | 105 => ⟨S5632x2048, .f32⟩
  | 106 => ⟨S69632x5632, .f32⟩
  | 107 => ⟨S69632x5632, .f32⟩
  | 108 => ⟨S69632x5632, .f32⟩
  | 109 => ⟨S_, .f32⟩
  | 110 => ⟨S69632x5632, .f32⟩
  | 111 => ⟨S69632x5632, .f32⟩
  | 112 => ⟨S_, .f32⟩
  | 113 => ⟨S69632x5632, .f32⟩
  | 114 => ⟨S69632x5632, .f32⟩
  | 115 => ⟨S69632x5632, .f32⟩
  | 116 => ⟨S69632x5632, .f32⟩
  | 117 => ⟨S69632x5632, .f32⟩
  | 118 => ⟨S69632x2048, .f32⟩
  | 119 => ⟨S69632x2048, .f32⟩
  | 120 => ⟨S69632x2048, .f32⟩
  | 121 => ⟨S69632x2048, .f32⟩
  | 122 => ⟨S_, .i32⟩
  | 123 => ⟨S136, .i32⟩
  | 124 => ⟨S136, .i1⟩
  | 125 => ⟨S136, .i1⟩
  | 126 => ⟨S_, .f32⟩
  | 127 => ⟨S_, .f32⟩
  | _ => ⟨S136, .i32⟩

abbrev hbmTy0_2 (i : Nat) : BufTy := match i % 128 with
  | 0 => ⟨S136, .f32⟩
  | 1 => ⟨S136, .f32⟩
  | 2 => ⟨S136, .f32⟩
  | 3 => ⟨S136x1, .f32⟩
  | 4 => ⟨S136x512, .f32⟩
  | 5 => ⟨S69632x1, .f32⟩
  | 6 => ⟨S1x2048x5632, .f32⟩
  | 7 => ⟨S2048x5632, .f32⟩
  | 8 => ⟨S1x2048x5632, .f32⟩
  | 9 => ⟨S2048x5632, .f32⟩
  | 10 => ⟨S1x5632x2048, .f32⟩
  | 11 => ⟨S5632x2048, .f32⟩
  | 12 => ⟨S69632x5632, .f32⟩
  | 13 => ⟨S69632x5632, .f32⟩
  | 14 => ⟨S69632x5632, .f32⟩
  | 15 => ⟨S_, .f32⟩
  | 16 => ⟨S69632x5632, .f32⟩
  | 17 => ⟨S69632x5632, .f32⟩
  | 18 => ⟨S_, .f32⟩
  | 19 => ⟨S69632x5632, .f32⟩
  | 20 => ⟨S69632x5632, .f32⟩
  | 21 => ⟨S69632x5632, .f32⟩
  | 22 => ⟨S69632x5632, .f32⟩
  | 23 => ⟨S69632x5632, .f32⟩
  | 24 => ⟨S69632x2048, .f32⟩
  | 25 => ⟨S69632x2048, .f32⟩
  | 26 => ⟨S69632x2048, .f32⟩
  | 27 => ⟨S69632x2048, .f32⟩
  | _ => ⟨S136, .i32⟩

abbrev hbmTy (i : Nat) : BufTy := match i / 128 with
  | 0 => hbmTy0_0 i
  | 1 => hbmTy0_1 i
  | 2 => hbmTy0_2 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_cst_4 : Ref sig .tc := ⟨.hbm, 51, rfl⟩
abbrev main_call2_v0 : Ref sig .tc := ⟨.hbm, 52, rfl⟩
abbrev main_call2_v1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call3_v0 : Ref sig .tc := ⟨.hbm, 65, rfl⟩
abbrev main_call3_v1 : Ref sig .tc := ⟨.hbm, 66, rfl⟩
abbrev main_call3_cst : Ref sig .tc := ⟨.hbm, 67, rfl⟩
abbrev main_call3_v2 : Ref sig .tc := ⟨.hbm, 68, rfl⟩
abbrev main_call3_v3 : Ref sig .tc := ⟨.hbm, 69, rfl⟩
abbrev main_call3_cst_0 : Ref sig .tc := ⟨.hbm, 70, rfl⟩
abbrev main_call3_v4 : Ref sig .tc := ⟨.hbm, 71, rfl⟩
abbrev main_call3_v5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_c_5 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_cst_6 : Ref sig .tc := ⟨.hbm, 84, rfl⟩
abbrev main_cst_7 : Ref sig .tc := ⟨.hbm, 85, rfl⟩
abbrev main_call4_v0 : Ref sig .tc := ⟨.hbm, 86, rfl⟩
abbrev main_call4_v1 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_call5_v0 : Ref sig .tc := ⟨.hbm, 99, rfl⟩
abbrev main_call5_v1 : Ref sig .tc := ⟨.hbm, 100, rfl⟩
abbrev main_call5_cst : Ref sig .tc := ⟨.hbm, 101, rfl⟩
abbrev main_call5_v2 : Ref sig .tc := ⟨.hbm, 102, rfl⟩
abbrev main_call5_v3 : Ref sig .tc := ⟨.hbm, 103, rfl⟩
abbrev main_call5_cst_0 : Ref sig .tc := ⟨.hbm, 104, rfl⟩
abbrev main_call5_v4 : Ref sig .tc := ⟨.hbm, 105, rfl⟩
abbrev main_call5_v5 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_c_8 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_cst_9 : Ref sig .tc := ⟨.hbm, 118, rfl⟩
abbrev main_cst_10 : Ref sig .tc := ⟨.hbm, 119, rfl⟩
abbrev main_call6_v0 : Ref sig .tc := ⟨.hbm, 120, rfl⟩
abbrev main_call6_v1 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_call7_v0 : Ref sig .tc := ⟨.hbm, 133, rfl⟩
abbrev main_call7_v1 : Ref sig .tc := ⟨.hbm, 134, rfl⟩
abbrev main_call7_cst : Ref sig .tc := ⟨.hbm, 135, rfl⟩
abbrev main_call7_v2 : Ref sig .tc := ⟨.hbm, 136, rfl⟩
abbrev main_call7_v3 : Ref sig .tc := ⟨.hbm, 137, rfl⟩
abbrev main_call7_cst_0 : Ref sig .tc := ⟨.hbm, 138, rfl⟩
abbrev main_call7_v4 : Ref sig .tc := ⟨.hbm, 139, rfl⟩
abbrev main_call7_v5 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_c_11 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_cst_12 : Ref sig .tc := ⟨.hbm, 152, rfl⟩
abbrev main_cst_13 : Ref sig .tc := ⟨.hbm, 153, rfl⟩
abbrev main_call8_v0 : Ref sig .tc := ⟨.hbm, 154, rfl⟩
abbrev main_call8_v1 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_call9_v0 : Ref sig .tc := ⟨.hbm, 167, rfl⟩
abbrev main_call9_v1 : Ref sig .tc := ⟨.hbm, 168, rfl⟩
abbrev main_call9_cst : Ref sig .tc := ⟨.hbm, 169, rfl⟩
abbrev main_call9_v2 : Ref sig .tc := ⟨.hbm, 170, rfl⟩
abbrev main_call9_v3 : Ref sig .tc := ⟨.hbm, 171, rfl⟩
abbrev main_call9_cst_0 : Ref sig .tc := ⟨.hbm, 172, rfl⟩
abbrev main_call9_v4 : Ref sig .tc := ⟨.hbm, 173, rfl⟩
abbrev main_call9_v5 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_c_14 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_cst_15 : Ref sig .tc := ⟨.hbm, 186, rfl⟩
abbrev main_cst_16 : Ref sig .tc := ⟨.hbm, 187, rfl⟩
abbrev main_call10_v0 : Ref sig .tc := ⟨.hbm, 188, rfl⟩
abbrev main_call10_v1 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_call11_v0 : Ref sig .tc := ⟨.hbm, 201, rfl⟩
abbrev main_call11_v1 : Ref sig .tc := ⟨.hbm, 202, rfl⟩
abbrev main_call11_cst : Ref sig .tc := ⟨.hbm, 203, rfl⟩
abbrev main_call11_v2 : Ref sig .tc := ⟨.hbm, 204, rfl⟩
abbrev main_call11_v3 : Ref sig .tc := ⟨.hbm, 205, rfl⟩
abbrev main_call11_cst_0 : Ref sig .tc := ⟨.hbm, 206, rfl⟩
abbrev main_call11_v4 : Ref sig .tc := ⟨.hbm, 207, rfl⟩
abbrev main_call11_v5 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_c_17 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_cst_18 : Ref sig .tc := ⟨.hbm, 220, rfl⟩
abbrev main_cst_19 : Ref sig .tc := ⟨.hbm, 221, rfl⟩
abbrev main_call12_v0 : Ref sig .tc := ⟨.hbm, 222, rfl⟩
abbrev main_call12_v1 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_v137 : Ref sig .tc := ⟨.hbm, 227, rfl⟩
abbrev main_v138 : Ref sig .tc := ⟨.hbm, 228, rfl⟩
abbrev main_v139 : Ref sig .tc := ⟨.hbm, 229, rfl⟩
abbrev main_v140 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_call13_v0 : Ref sig .tc := ⟨.hbm, 235, rfl⟩
abbrev main_call13_v1 : Ref sig .tc := ⟨.hbm, 236, rfl⟩
abbrev main_call13_cst : Ref sig .tc := ⟨.hbm, 237, rfl⟩
abbrev main_call13_v2 : Ref sig .tc := ⟨.hbm, 238, rfl⟩
abbrev main_call13_v3 : Ref sig .tc := ⟨.hbm, 239, rfl⟩
abbrev main_call13_cst_0 : Ref sig .tc := ⟨.hbm, 240, rfl⟩
abbrev main_call13_v4 : Ref sig .tc := ⟨.hbm, 241, rfl⟩
abbrev main_call13_v5 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_c_20 : Ref sig .tc := ⟨.hbm, 250, rfl⟩
abbrev main_v152 : Ref sig .tc := ⟨.hbm, 251, rfl⟩
abbrev main_v153 : Ref sig .tc := ⟨.hbm, 252, rfl⟩
abbrev main_v154 : Ref sig .tc := ⟨.hbm, 253, rfl⟩
abbrev main_cst_21 : Ref sig .tc := ⟨.hbm, 254, rfl⟩
abbrev main_cst_22 : Ref sig .tc := ⟨.hbm, 255, rfl⟩
abbrev main_call14_v0 : Ref sig .tc := ⟨.hbm, 256, rfl⟩
abbrev main_call14_v1 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_v163 : Ref sig .tc := ⟨.hbm, 266, rfl⟩
abbrev main_v164 : Ref sig .tc := ⟨.hbm, 267, rfl⟩
abbrev main_v165 : Ref sig .tc := ⟨.hbm, 268, rfl⟩
abbrev main_call15_v0 : Ref sig .tc := ⟨.hbm, 269, rfl⟩
abbrev main_call15_v1 : Ref sig .tc := ⟨.hbm, 270, rfl⟩
abbrev main_call15_cst : Ref sig .tc := ⟨.hbm, 271, rfl⟩
abbrev main_call15_v2 : Ref sig .tc := ⟨.hbm, 272, rfl⟩
abbrev main_call15_v3 : Ref sig .tc := ⟨.hbm, 273, rfl⟩
abbrev main_call15_cst_0 : Ref sig .tc := ⟨.hbm, 274, rfl⟩
abbrev main_call15_v4 : Ref sig .tc := ⟨.hbm, 275, rfl⟩
abbrev main_call15_v5 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_v172 : Ref sig .tc := ⟨.hbm, 283, rfl⟩

abbrev nD : Nat := 1
abbrev τ : Topo := Topo.v7x

variable {F : FTy → Type} [FloatOps F]
-- ==== Hg.lean ====
abbrev S32768x2048 : Shape := ⟨2, ![32768, 2048]⟩
abbrev S2048x15904 : Shape := ⟨2, ![2048, 15904]⟩
abbrev S2048x5120 : Shape := ⟨2, ![2048, 5120]⟩
abbrev S32768x5120 : Shape := ⟨2, ![32768, 5120]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x15904, .f32⟩
  | .hbm, ⟨2, _⟩ => ⟨S32768x2048, .bf16⟩
  | .hbm, ⟨3, _⟩ => ⟨S2048x5120, .f32⟩
  | .hbm, ⟨4, _⟩ => ⟨S2048x5120, .bf16⟩
  | .hbm, ⟨5, _⟩ => ⟨S32768x5120, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgRefIdeal.lean ====
abbrev S32768x2048 : Shape := ⟨2, ![32768, 2048]⟩
abbrev S2048x15904 : Shape := ⟨2, ![2048, 15904]⟩
abbrev S32768x15904 : Shape := ⟨2, ![32768, 15904]⟩
abbrev S32768x5120 : Shape := ⟨2, ![32768, 5120]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x15904, .f32⟩
  | .hbm, ⟨2, _⟩ => ⟨S32768x15904, .f32⟩
  | .hbm, ⟨3, _⟩ => ⟨S32768x5120, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Ssd.lean ====
abbrev S32768x2048 : Shape := ⟨2, ![32768, 2048]⟩
abbrev S2048x15904 : Shape := ⟨2, ![2048, 15904]⟩
abbrev S2048x3072 : Shape := ⟨2, ![2048, 3072]⟩
abbrev S32768x3072 : Shape := ⟨2, ![32768, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x15904, .f32⟩
  | .hbm, ⟨2, _⟩ => ⟨S32768x2048, .bf16⟩
  | .hbm, ⟨3, _⟩ => ⟨S2048x3072, .f32⟩
  | .hbm, ⟨4, _⟩ => ⟨S2048x3072, .bf16⟩
  | .hbm, ⟨5, _⟩ => ⟨S32768x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SsdRefIdeal.lean ====
abbrev S32768x2048 : Shape := ⟨2, ![32768, 2048]⟩
abbrev S2048x15904 : Shape := ⟨2, ![2048, 15904]⟩
abbrev S32768x15904 : Shape := ⟨2, ![32768, 15904]⟩
abbrev S32768x3072 : Shape := ⟨2, ![32768, 3072]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x15904, .f32⟩
  | .hbm, ⟨2, _⟩ => ⟨S32768x15904, .f32⟩
  | .hbm, ⟨3, _⟩ => ⟨S32768x3072, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Att.lean ====
abbrev S32768x2048 : Shape := ⟨2, ![32768, 2048]⟩
abbrev S2048x15904 : Shape := ⟨2, ![2048, 15904]⟩
abbrev S2048x1536 : Shape := ⟨2, ![2048, 1536]⟩
abbrev S32768x1536 : Shape := ⟨2, ![32768, 1536]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x15904, .f32⟩
  | .hbm, ⟨2, _⟩ => ⟨S32768x2048, .bf16⟩
  | .hbm, ⟨3, _⟩ => ⟨S2048x1536, .f32⟩
  | .hbm, ⟨4, _⟩ => ⟨S2048x1536, .bf16⟩
  | .hbm, ⟨5, _⟩ => ⟨S32768x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttRefIdeal.lean ====
abbrev S32768x2048 : Shape := ⟨2, ![32768, 2048]⟩
abbrev S2048x15904 : Shape := ⟨2, ![2048, 15904]⟩
abbrev S32768x15904 : Shape := ⟨2, ![32768, 15904]⟩
abbrev S32768x1536 : Shape := ⟨2, ![32768, 1536]⟩

abbrev nBuf : Space → Nat
  | .hbm => 4
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x15904, .f32⟩
  | .hbm, ⟨2, _⟩ => ⟨S32768x15904, .f32⟩
  | .hbm, ⟨3, _⟩ => ⟨S32768x1536, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Gate.lean ====
abbrev S32768x2048 : Shape := ⟨2, ![32768, 2048]⟩
abbrev S2048x15904 : Shape := ⟨2, ![2048, 15904]⟩
abbrev S2048x6144 : Shape := ⟨2, ![2048, 6144]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S32768x2048, .f32⟩
  | .hbm, ⟨1, _⟩ => ⟨S2048x15904, .f32⟩
  | .hbm, ⟨2, _⟩ => ⟨S32768x2048, .bf16⟩
  | .hbm, ⟨3, _⟩ => ⟨S2048x6144, .f32⟩
  | .hbm, ⟨4, _⟩ => ⟨S2048x6144, .bf16⟩
  | .hbm, ⟨5, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateRefIdeal.lean ====
abbrev S32768x2048 : Shape := ⟨2, ![32768, 2048]⟩
abbrev S2048x15904 : Shape := ⟨2, ![2048, 15904]⟩
abbrev S32768x15904 : Shape := ⟨2, ![32768, 15904]⟩
abbrev S32768x6144 : Shape := ⟨2, ![32768, 6144]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x15904, .f32⟩
  | .hbm, ⟨2, _⟩ => ⟨S32768x15904, .f32⟩
  | .hbm, ⟨3, _⟩ => ⟨S32768x6144, .f32⟩
  | .hbm, ⟨4, _⟩ => ⟨S32768x6144, .f32⟩
  | .hbm, ⟨5, _⟩ => ⟨S32768x6144, .f32⟩
  | .hbm, ⟨6, _⟩ => ⟨S_, .f32⟩
  | .hbm, ⟨7, _⟩ => ⟨S32768x6144, .f32⟩
  | .hbm, ⟨8, _⟩ => ⟨S32768x6144, .f32⟩
  | .hbm, ⟨9, _⟩ => ⟨S_, .f32⟩
  | .hbm, ⟨10, _⟩ => ⟨S32768x6144, .f32⟩
  | .hbm, ⟨11, _⟩ => ⟨S32768x6144, .f32⟩
  | .hbm, ⟨12, _⟩ => ⟨S32768x6144, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Ffn.lean ====
abbrev S32768x2048 : Shape := ⟨2, ![32768, 2048]⟩
abbrev S2048x5632 : Shape := ⟨2, ![2048, 5632]⟩
abbrev S5632x2048 : Shape := ⟨2, ![5632, 2048]⟩
abbrev S4x1x2048 : Shape := ⟨3, ![4, 1, 2048]⟩
abbrev S512x2048 : Shape := ⟨2, ![512, 2048]⟩
abbrev S2048x512 : Shape := ⟨2, ![2048, 512]⟩
abbrev S1x1x2048 : Shape := ⟨3, ![1, 1, 2048]⟩
abbrev S512x512 : Shape := ⟨2, ![512, 512]⟩
abbrev S1x2048 : Shape := ⟨2, ![1, 2048]⟩

abbrev nBuf : Space → Nat
  | .hbm => 11
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S32768x2048, .f32⟩
  | .hbm, ⟨5, _⟩ => ⟨S4x1x2048, .f32⟩
  | .hbm, ⟨6, _⟩ => ⟨S32768x2048, .bf16⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v27 : BitVec 1 := Scalar.cmpi .eq arg1 c10_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S32768x2048 : Shape := ⟨2, ![32768, 2048]⟩
abbrev S2048x5632 : Shape := ⟨2, ![2048, 5632]⟩
abbrev S5632x2048 : Shape := ⟨2, ![5632, 2048]⟩
abbrev S4x1x2048 : Shape := ⟨3, ![4, 1, 2048]⟩
abbrev S32768x5632 : Shape := ⟨2, ![32768, 5632]⟩
abbrev S_ : Shape := ⟨0, ![]⟩
abbrev S4x8192x2048 : Shape := ⟨3, ![4, 8192, 2048]⟩

abbrev nBuf : Space → Nat
  | .hbm => 25
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x5632, .f32⟩
  | .hbm, ⟨2, _⟩ => ⟨S2048x5632, .f32⟩
  | .hbm, ⟨3, _⟩ => ⟨S5632x2048, .f32⟩
  | .hbm, ⟨4, _⟩ => ⟨S32768x2048, .f32⟩
  | .hbm, ⟨5, _⟩ => ⟨S4x1x2048, .f32⟩
  | .hbm, ⟨6, _⟩ => ⟨S32768x5632, .f32⟩
  | .hbm, ⟨7, _⟩ => ⟨S32768x5632, .f32⟩
  | .hbm, ⟨8, _⟩ => ⟨S32768x5632, .f32⟩
  | .hbm, ⟨9, _⟩ => ⟨S_, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x5632, .f32⟩
  | .hbm, ⟨18, _⟩ => ⟨S32768x2048, .f32⟩
  | .hbm, ⟨19, _⟩ => ⟨S4x8192x2048, .f32⟩
  | .hbm, ⟨20, _⟩ => ⟨S4x8192x2048, .f32⟩
  | .hbm, ⟨21, _⟩ => ⟨S4x8192x2048, .f32⟩
  | .hbm, ⟨22, _⟩ => ⟨S4x8192x2048, .f32⟩
  | .hbm, ⟨23, _⟩ => ⟨S4x8192x2048, .f32⟩
  | .hbm, ⟨24, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩

abbrev nD : Nat := 1
abbrev τ : Topo := Topo.v7x

variable {F : FTy → Type} [FloatOps F]
-- ==== Merge.lean ====
abbrev S32768x1024 : Shape := ⟨2, ![32768, 1024]⟩
abbrev S32768x6144 : Shape := ⟨2, ![32768, 6144]⟩
abbrev S3x1024x2048 : Shape := ⟨3, ![3, 1024, 2048]⟩
abbrev S32768x2048 : Shape := ⟨2, ![32768, 2048]⟩
abbrev S1024x1024 : Shape := ⟨2, ![1024, 1024]⟩
abbrev S1024x512 : Shape := ⟨2, ![1024, 512]⟩
abbrev S3x1024x512 : Shape := ⟨3, ![3, 1024, 512]⟩
abbrev S1x1024x512 : Shape := ⟨3, ![1, 1024, 512]⟩

abbrev nBuf : Space → Nat
  | .hbm => 11
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x6144, .f32⟩
  | .hbm, ⟨4, _⟩ => ⟨S3x1024x2048, .f32⟩
  | .hbm, ⟨5, _⟩ => ⟨S32768x1024, .bf16⟩
  | .hbm, ⟨6, _⟩ => ⟨S32768x1024, .bf16⟩
  | .hbm, ⟨7, _⟩ => ⟨S32768x1024, .bf16⟩
  | .hbm, ⟨8, _⟩ => ⟨S32768x6144, .bf16⟩
  | .hbm, ⟨9, _⟩ => ⟨S3x1024x2048, .bf16⟩
  | .hbm, ⟨10, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S3x1024x512, .bf16⟩
  | .local _ .vmem, ⟨13, _⟩ => ⟨S3x1024x512, .bf16⟩
  | .local _ .vmem, ⟨14, _⟩ => ⟨S1024x512, .bf16⟩
  | .local _ .vmem, ⟨15, _⟩ => ⟨S1024x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S32768x1024 : Shape := ⟨2, ![32768, 1024]⟩
abbrev S32768x6144 : Shape := ⟨2, ![32768, 6144]⟩
abbrev S3x1024x2048 : Shape := ⟨3, ![3, 1024, 2048]⟩
abbrev S32768x2048 : Shape := ⟨2, ![32768, 2048]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x6144, .f32⟩
  | .hbm, ⟨4, _⟩ => ⟨S3x1024x2048, .f32⟩
  | .hbm, ⟨5, _⟩ => ⟨S32768x2048, .f32⟩
  | .hbm, ⟨6, _⟩ => ⟨S1x1024x2048, .f32⟩
  | .hbm, ⟨7, _⟩ => ⟨S1024x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S1x1024x2048, .f32⟩
  | .hbm, ⟨15, _⟩ => ⟨S1024x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S1x1024x2048, .f32⟩
  | .hbm, ⟨21, _⟩ => ⟨S1024x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Out.lean ====
abbrev S32768x2048 : Shape := ⟨2, ![32768, 2048]⟩
abbrev S2048x2048 : Shape := ⟨2, ![2048, 2048]⟩
abbrev S4x1x2048 : Shape := ⟨3, ![4, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .f32⟩
  | .hbm, ⟨3, _⟩ => ⟨S4x1x2048, .f32⟩
  | .hbm, ⟨4, _⟩ => ⟨S32768x2048, .bf16⟩
  | .hbm, ⟨5, _⟩ => ⟨S2048x2048, .bf16⟩
  | .hbm, ⟨6, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c8192_i32 : BitVec 32 := 8192#32
  let v1 : BitVec 32 := Scalar.divsi v0 c8192_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8192_i32 c0_i32_1
  let v8 : BitVec 32 := Scalar.extui v7
  let c0_i32_2 : BitVec 32 := 0#32
  let v9 : BitVec 1 := Scalar.cmpi .slt c8192_i32 c0_i32_2
  let v10 : BitVec 32 := Scalar.extui v9
  let v11 : BitVec 32 := Scalar.subi v8 v10
  let v12 : BitVec 1 := Scalar.cmpi .ne v6 v11
  let v13 : BitVec 32 := Scalar.remsi v0 c8192_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutRefIdeal.lean ====
abbrev S32768x2048 : Shape := ⟨2, ![32768, 2048]⟩
abbrev S2048x2048 : Shape := ⟨2, ![2048, 2048]⟩
abbrev S4x1x2048 : Shape := ⟨3, ![4, 1, 2048]⟩
abbrev S4x8192x2048 : Shape := ⟨3, ![4, 8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x2048, .f32⟩
  | .hbm, ⟨2, _⟩ => ⟨S32768x2048, .f32⟩
  | .hbm, ⟨3, _⟩ => ⟨S4x1x2048, .f32⟩
  | .hbm, ⟨4, _⟩ => ⟨S32768x2048, .f32⟩
  | .hbm, ⟨5, _⟩ => ⟨S4x8192x2048, .f32⟩
  | .hbm, ⟨6, _⟩ => ⟨S4x8192x2048, .f32⟩
  | .hbm, ⟨7, _⟩ => ⟨S4x8192x2048, .f32⟩
  | .hbm, ⟨8, _⟩ => ⟨S4x8192x2048, .f32⟩
  | .hbm, ⟨9, _⟩ => ⟨S4x8192x2048, .f32⟩
  | .hbm, ⟨10, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Final.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S32768x2048, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x2048, .f32⟩
  | .hbm, ⟨14, _⟩ => ⟨S32768x2048, .f32⟩
  | .hbm, ⟨15, _⟩ => ⟨S1x2048, .f32⟩
  | .hbm, ⟨16, _⟩ => ⟨S32768x2048, .f32⟩
  | .hbm, ⟨17, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Mod.lean ====
abbrev S4x8192x2048 : Shape := ⟨3, ![4, 8192, 2048]⟩
abbrev S2048 : Shape := ⟨1, ![2048]⟩
abbrev S4x1x2048 : Shape := ⟨3, ![4, 1, 2048]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S1x2048, .f32⟩
  | .hbm, ⟨5, _⟩ => ⟨S4x8192x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x512x2048, .bf16⟩
  | .local _ .vmem, ⟨8, _⟩ => ⟨S1x512x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ModRefIdeal.lean ====
abbrev S4x8192x2048 : Shape := ⟨3, ![4, 8192, 2048]⟩
abbrev S2048 : Shape := ⟨1, ![2048]⟩
abbrev S4x1x2048 : Shape := ⟨3, ![4, 1, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S4x1x2048, .f32⟩
  | .hbm, ⟨3, _⟩ => ⟨S4x1x2048, .f32⟩
  | .hbm, ⟨4, _⟩ => ⟨S4x8192x2048, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S_, .f32⟩
  | .hbm, ⟨9, _⟩ => ⟨S4x8192x1, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S4x8192x1, .f32⟩
  | .hbm, ⟨15, _⟩ => ⟨S4x8192x2048, .f32⟩
  | .hbm, ⟨16, _⟩ => ⟨S4x8192x2048, .f32⟩
  | .hbm, ⟨17, _⟩ => ⟨S1x1x2048, .f32⟩
  | .hbm, ⟨18, _⟩ => ⟨S4x8192x2048, .f32⟩
  | .hbm, ⟨19, _⟩ => ⟨S4x8192x2048, .f32⟩
  | .hbm, ⟨20, _⟩ => ⟨S_, .f32⟩
  | .hbm, ⟨21, _⟩ => ⟨S4x1x2048, .f32⟩
  | .hbm, ⟨22, _⟩ => ⟨S4x1x2048, .f32⟩
  | .hbm, ⟨23, _⟩ => ⟨S4x8192x2048, .f32⟩
  | .hbm, ⟨24, _⟩ => ⟨S4x8192x2048, .f32⟩
  | .hbm, ⟨25, _⟩ => ⟨S4x8192x2048, .f32⟩
  | .hbm, ⟨26, _⟩ => ⟨S4x8192x2048, .f32⟩
  | .hbm, ⟨27, _⟩ => ⟨S4x8192x2048, .bf16⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Hgout.lean ====
abbrev S32768x1024 : Shape := ⟨2, ![32768, 1024]⟩
abbrev S32768x5120 : Shape := ⟨2, ![32768, 5120]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1x128 : Shape := ⟨2, ![1, 128]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x5120, .f32⟩
  | .hbm, ⟨3, _⟩ => ⟨S1024, .f32⟩
  | .hbm, ⟨4, _⟩ => ⟨S1x1024, .f32⟩
  | .hbm, ⟨5, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== HgoutRefIdeal.lean ====
abbrev S32768x1024 : Shape := ⟨2, ![32768, 1024]⟩
abbrev S32768x5120 : Shape := ⟨2, ![32768, 5120]⟩
abbrev S1024 : Shape := ⟨1, ![1024]⟩
abbrev S32768x8x128 : Shape := ⟨3, ![32768, 8, 128]⟩
abbrev S8x128 : Shape := ⟨2, ![8, 128]⟩
abbrev S_ : Shape := ⟨0, ![]⟩
abbrev S32768x8 : Shape := ⟨2, ![32768, 8]⟩
abbrev S32768x8x1 : Shape := ⟨3, ![32768, 8, 1]⟩
abbrev S1x8x128 : Shape := ⟨3, ![1, 8, 128]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x5120, .f32⟩
  | .hbm, ⟨3, _⟩ => ⟨S1024, .f32⟩
  | .hbm, ⟨4, _⟩ => ⟨S32768x1024, .f32⟩
  | .hbm, ⟨5, _⟩ => ⟨S32768x1024, .f32⟩
  | .hbm, ⟨6, _⟩ => ⟨S32768x8x128, .f32⟩
  | .hbm, ⟨7, _⟩ => ⟨S8x128, .f32⟩
  | .hbm, ⟨8, _⟩ => ⟨S32768x8x128, .f32⟩
  | .hbm, ⟨9, _⟩ => ⟨S_, .f32⟩
  | .hbm, ⟨10, _⟩ => ⟨S32768x8, .f32⟩
  | .hbm, ⟨11, _⟩ => ⟨S32768x8x1, .f32⟩
  | .hbm, ⟨12, _⟩ => ⟨S_, .f32⟩
  | .hbm, ⟨13, _⟩ => ⟨S32768x8x1, .f32⟩
  | .hbm, ⟨14, _⟩ => ⟨S32768x8x1, .f32⟩
  | .hbm, ⟨15, _⟩ => ⟨S_, .f32⟩
  | .hbm, ⟨16, _⟩ => ⟨S32768x8x1, .f32⟩
  | .hbm, ⟨17, _⟩ => ⟨S32768x8x1, .f32⟩
  | .hbm, ⟨18, _⟩ => ⟨S32768x8x1, .f32⟩
  | .hbm, ⟨19, _⟩ => ⟨S32768x8x128, .f32⟩
  | .hbm, ⟨20, _⟩ => ⟨S32768x8x128, .f32⟩
  | .hbm, ⟨21, _⟩ => ⟨S1x8x128, .f32⟩
  | .hbm, ⟨22, _⟩ => ⟨S32768x8x128, .f32⟩
  | .hbm, ⟨23, _⟩ => ⟨S32768x8x128, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Ssdout.lean ====
abbrev S32768x1024 : Shape := ⟨2, ![32768, 1024]⟩
abbrev S32768x3072 : Shape := ⟨2, ![32768, 3072]⟩
abbrev S1024 : Shape := ⟨1, ![1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x3072, .f32⟩
  | .hbm, ⟨3, _⟩ => ⟨S1024, .f32⟩
  | .hbm, ⟨4, _⟩ => ⟨S1x1024, .f32⟩
  | .hbm, ⟨5, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SsdoutRefIdeal.lean ====
abbrev S32768x1024 : Shape := ⟨2, ![32768, 1024]⟩
abbrev S32768x3072 : Shape := ⟨2, ![32768, 3072]⟩
abbrev S1024 : Shape := ⟨1, ![1024]⟩
abbrev S_ : Shape := ⟨0, ![]⟩
abbrev S32768x4x256 : Shape := ⟨3, ![32768, 4, 256]⟩
abbrev S4x256 : Shape := ⟨2, ![4, 256]⟩
abbrev S32768x4 : Shape := ⟨2, ![32768, 4]⟩
abbrev S32768x4x1 : Shape := ⟨3, ![32768, 4, 1]⟩
abbrev S1x4x256 : Shape := ⟨3, ![1, 4, 256]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x3072, .f32⟩
  | .hbm, ⟨3, _⟩ => ⟨S1024, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x4x256, .f32⟩
  | .hbm, ⟨17, _⟩ => ⟨S4x256, .f32⟩
  | .hbm, ⟨18, _⟩ => ⟨S32768x4x256, .f32⟩
  | .hbm, ⟨19, _⟩ => ⟨S_, .f32⟩
  | .hbm, ⟨20, _⟩ => ⟨S32768x4, .f32⟩
  | .hbm, ⟨21, _⟩ => ⟨S32768x4x1, .f32⟩
  | .hbm, ⟨22, _⟩ => ⟨S_, .f32⟩
  | .hbm, ⟨23, _⟩ => ⟨S32768x4x1, .f32⟩
  | .hbm, ⟨24, _⟩ => ⟨S32768x4x1, .f32⟩
  | .hbm, ⟨25, _⟩ => ⟨S_, .f32⟩
  | .hbm, ⟨26, _⟩ => ⟨S32768x4x1, .f32⟩
  | .hbm, ⟨27, _⟩ => ⟨S32768x4x1, .f32⟩
  | .hbm, ⟨28, _⟩ => ⟨S32768x4x1, .f32⟩
  | .hbm, ⟨29, _⟩ => ⟨S32768x4x256, .f32⟩
  | .hbm, ⟨30, _⟩ => ⟨S32768x4x256, .f32⟩
  | .hbm, ⟨31, _⟩ => ⟨S1x4x256, .f32⟩
  | .hbm, ⟨32, _⟩ => ⟨S32768x4x256, .f32⟩
  | .hbm, ⟨33, _⟩ => ⟨S32768x4x256, .f32⟩
  | .hbm, ⟨34, _⟩ => ⟨S32768x1024, .f32⟩
  | .hbm, ⟨35, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== Ada.lean ====
abbrev S8x2048 : Shape := ⟨2, ![8, 2048]⟩
abbrev S2048x12288 : Shape := ⟨2, ![2048, 12288]⟩
abbrev S12288 : Shape := ⟨1, ![12288]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S1x12288, .f32⟩
  | .hbm, ⟨4, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x2048 : Shape := ⟨2, ![8, 2048]⟩
abbrev S2048x12288 : Shape := ⟨2, ![2048, 12288]⟩
abbrev S12288 : Shape := ⟨1, ![12288]⟩
abbrev S_ : Shape := ⟨0, ![]⟩
abbrev S8x12288 : Shape := ⟨2, ![8, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x12288, .f32⟩
  | .hbm, ⟨2, _⟩ => ⟨S12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x12288, .f32⟩
  | .hbm, ⟨13, _⟩ => ⟨S1x12288, .f32⟩
  | .hbm, ⟨14, _⟩ => ⟨S8x12288, .f32⟩
  | .hbm, ⟨15, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Dt.lean ====
abbrev S32768x2048 : Shape := ⟨2, ![32768, 2048]⟩
abbrev S2048x15904 : Shape := ⟨2, ![2048, 15904]⟩
abbrev S_ : Shape := ⟨0, ![]⟩
abbrev S2048x128 : Shape := ⟨2, ![2048, 128]⟩
abbrev S2048x32 : Shape := ⟨2, ![2048, 32]⟩
abbrev S1 : Shape := ⟨1, ![1]⟩
abbrev S32768x128 : Shape := ⟨2, ![32768, 128]⟩
abbrev S1024x2048 : Shape := ⟨2, ![1024, 2048]⟩
abbrev S1024x128 : Shape := ⟨2, ![1024, 128]⟩

abbrev nBuf : Space → Nat
  | .hbm => 11
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048x15904, .f32⟩
  | .hbm, ⟨2, _⟩ => ⟨S_, .bf16⟩
  | .hbm, ⟨3, _⟩ => ⟨S2048x128, .bf16⟩
  | .hbm, ⟨4, _⟩ => ⟨S2048x32, .f32⟩
  | .hbm, ⟨5, _⟩ => ⟨S2048x32, .bf16⟩
  | .hbm, ⟨6, _⟩ => ⟨S_, .i32⟩
  | .hbm, ⟨7, _⟩ => ⟨S1, .i32⟩
  | .hbm, ⟨8, _⟩ => ⟨S2048x128, .bf16⟩
  | .hbm, ⟨9, _⟩ => ⟨S32768x2048, .bf16⟩
  | .hbm, ⟨10, _⟩ => ⟨S32768x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DtRefIdeal.lean ====
abbrev S32768x2048 : Shape := ⟨2, ![32768, 2048]⟩
abbrev S2048x15904 : Shape := ⟨2, ![2048, 15904]⟩
abbrev S32768x15904 : Shape := ⟨2, ![32768, 15904]⟩
abbrev S32768x32 : Shape := ⟨2, ![32768, 32]⟩
abbrev S_ : Shape := ⟨0, ![]⟩
abbrev S32768x128 : Shape := ⟨2, ![32768, 128]⟩

abbrev nBuf : Space → Nat
  | .hbm => 7
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048x15904, .f32⟩
  | .hbm, ⟨2, _⟩ => ⟨S32768x15904, .f32⟩
  | .hbm, ⟨3, _⟩ => ⟨S32768x32, .f32⟩
  | .hbm, ⟨4, _⟩ => ⟨S_, .i32⟩
  | .hbm, ⟨5, _⟩ => ⟨S_, .f32⟩
  | .hbm, ⟨6, _⟩ => ⟨S32768x128, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Proof.Product.lean ====
/- A product of rows with a run of the weights' columns, and its tiles: what every projection shares. Also the origin of a
   block and a gated residual, part by part. -/
module

public import Idealize.ShloMosaic.Lib.Pointwise
public import Idealize.ShloMosaic.Lib.Pipeline.ValueKit

@[expose] public section

noncomputable section

namespace Cert.Product

open Idealize.ShloMosaic

/-- The rows, and the weights of all projections side by side. -/
abbrev Rows := (⟨2, ![32768, 2048]⟩ : Shape).Idx → EReal
abbrev Weights := (⟨2, ![2048, 15904]⟩ : Shape).Idx → EReal

theorem ix2_of {a b : ℕ} (y : (⟨2, ![a, b]⟩ : Shape).Idx) : ∃ (r : Fin a) (z : Fin b), y = ix2 r z :=
  ⟨y 0, y 1, funext fun x => by match x with | ⟨0, _⟩ => rfl | ⟨1, _⟩ => rfl⟩

theorem ix3_of {a b c : ℕ} (y : (⟨3, ![a, b, c]⟩ : Shape).Idx) : ∃ (n : Fin a) (r : Fin b) (z : Fin c), y = ix3 n r z :=
  ⟨y 0, y 1, y 2, funext fun x => by match x with | ⟨0, _⟩ => rfl | ⟨1, _⟩ => rfl | ⟨2, _⟩ => rfl⟩

theorem origin : (![0, 0] : Fin 2 → Nat) = fun _ => 0 := funext fun a => by fin_cases a <;> rfl

theorem origin3 : (![0, 0, 0] : Fin 3 → Nat) = fun _ => 0 := funext fun a => by fin_cases a <;> rfl

/-- The index `off + k * t + r` of a tiled axis. -/
theorem tiled_lt {n k t : ℕ} (ht : t < n) (r : Fin k) (off N : ℕ) (hN : off + n * k ≤ N) : off + k * t + r.val < N := by
  have hr := r.isLt
  have : k * t + k ≤ n * k := by
    rw [← Nat.mul_succ, Nat.mul_comm]
    exact Nat.mul_le_mul_right k ht
  omega

/-- The rows times the `n` columns of the weights that begin at column `off`. -/
def columns (off : ℕ) {n : ℕ} (hn : off + n ≤ 15904) (h : Rows) (w : Weights) : (⟨2, ![32768, n]⟩ : Shape).Idx → EReal :=
  fun i => ∑ d : Fin 2048, h (ix2 (i 0) d) * w (ix2 d ⟨off + (i 1).val, by have : (i 1).val < n := (i 1).isLt; omega⟩)

/-- A tile of the product: `a` holds the rows `1024 * s + r`, and `b` the columns `off + (k * t + z)`. -/
theorem tile {off n k s t : ℕ} (hn : off + n ≤ 15904) {h : Rows} {w : Weights}
    {a : (⟨2, ![1024, 2048]⟩ : Shape).Idx → EReal} {b : (⟨2, ![2048, k]⟩ : Shape).Idx → EReal} {r : Fin 1024} {z : Fin k}
    (hr : 0 + 1024 * s + r.val < 32768) (hz : 0 + k * t + z.val < n)
    (ha : ∀ d, a (ix2 r d) = h (ix2 ⟨0 + 1024 * s + r.val, hr⟩ d))
    (hb : ∀ d, b (ix2 d z) = w (ix2 d ⟨off + (0 + k * t + z.val), by omega⟩)) :
    ∑ d : Fin 2048, a (ix2 r d) * b (ix2 d z) = columns off hn h w (ix2 ⟨0 + 1024 * s + r.val, hr⟩ ⟨0 + k * t + z.val, hz⟩) :=
  Finset.sum_congr rfl fun d _ => by rw [ha, hb]; rfl

/-- The logistic function, as `1 / (1 + exp (0 - x))`. -/
def sigmoid (x : EReal) : EReal := Ideal.div 1 (1 + Ideal.exp (0 - x))

theorem sigmoid_neg (x : EReal) : Ideal.div 1 (1 + Ideal.exp (-x)) = sigmoid x := by
  unfold sigmoid
  rw [zero_sub]

/-- A residual plus a modulated sum, part by part. -/
theorem combine {x x' g g' s s' : EReal} (hx : x = x') (hg : g = g') (hs : s = s') : x + g * s = x' + g' * s' := by rw [hx, hg, hs]

end Cert.Product

end
-- ==== Proof.HgArray.lean ====
/- The projection onto the first recurrence's 5120 columns: its result array, and its reference, are the product of the
   rows and those columns of the weights. -/
module

public import proofs.«01_k».proof.Proof.Gen.HgIdeal.Value
public import proofs.«01_k».proof.Proof.Gen.HgRefIdeal.Read
public import proofs.«01_k».proof.Proof.Product

@[expose] public section

set_option maxRecDepth 16384

noncomputable section

namespace Cert.HgIdeal.Projection

open Cert.HgIdeal Cert.HgIdeal.Gen Cert.Product
open Idealize.ShloMosaic Idealize.ShloMosaic.TcCoe Idealize.SL.Sem
open Idealize.ShloMosaic.Pipeline (Dat)

/-- One tile of the product. -/
theorem out_apply (a : Vec Ideal S1024x2048 .bf16) (w : Vec Ideal S2048x1024 .bf16) (r z : Fin 1024) :
    (out0_2 (F := Ideal) a w (ix2 r z) : EReal) = ∑ d : Fin 2048, a (ix2 r d) * w (ix2 d z) := by
  unfold out0_2
  rw [View.canon_unit_zero (S := S1024x1024) origin, View.ld_unit_zero (S := S1024x2048) origin, View.ld_unit_zero (S := S2048x1024) origin]
  unfold k0_pay1
  pointwise

/-- The tile of each array at each grid point. -/
theorem index_eq : ∀ t : Fin grid0.N, win0_0.index t = ![(grid0.coords t 0).val, 0] ∧ win0_1.index t = ![0, (grid0.coords t 1).val]
    ∧ win0_2.index t = ![(grid0.coords t 0).val, (grid0.coords t 1).val] := by decide +kernel

variable (m : (ℓ : Loc nD τ sig) → Buf (Elt Ideal) ℓ) (c : Dev nD)

theorem V_rows (p : Fin 32768) (d : Fin 2048) : (V m c main_v0 (ix2 p d) : EReal) = m ((c.tc : Thread nD τ).loc main_arg0) (ix2 p d) := by
  unfold_abbrev_sides
  after_results
  pointwise

theorem V_columns (d : Fin 2048) (z : Fin 5120) :
    (V m c main_v2 (ix2 d z) : EReal) = m ((c.tc : Thread nD τ).loc main_arg1) (ix2 d ⟨0 + z.val, by have := z.isLt; omega⟩) := by
  unfold_abbrev_sides
  after_results
  pointwise

/-- The result array after the run. -/
theorem array_eq : (dats m 0 c).arrAt 2 cfg0.N
    = columns 0 (n := 5120) (by decide) (m ((c.tc : Thread nD τ).loc main_arg0)) (m ((c.tc : Thread nD τ).loc main_arg1)) := by
  refine (dats m 0 c).arrAt_eq_of_covers 2 _ (by decide +kernel) fun t hf y => ?_
  obtain ⟨r, z, rfl⟩ := ix2_of (a := 1024) (b := 1024) y
  obtain ⟨ia, iw, io⟩ := index_eq t
  have hr := tiled_lt (n := 32) (grid0.coords t 0).isLt r 0 32768 (by decide)
  have hz := tiled_lt (n := 5) (grid0.coords t 1).isLt z 0 5120 (by decide)
  have e : (win0_2.blk t).view.emb (ix2 r z) = ix2 ⟨_, hr⟩ ⟨_, hz⟩ := by blk_ext [io]
  refine Eq.trans ?_ (congrArg (columns 0 (n := 5120) (by decide) _ _) e).symm
  refine (congrFun (after0_2 m c t) (ix2 r z)).trans ((out_apply _ _ r z).trans (tile _ hr hz (fun d => ?_) fun d => ?_))
  · refine Eq.trans ?_ (V_rows m c _ d)
    blk_ext [iblk, ia]
  · refine Eq.trans ?_ (V_columns m c d ⟨_, hz⟩)
    blk_ext [iblk, iw]

end Cert.HgIdeal.Projection

namespace Cert.HgRefIdeal.Projection

open Cert.HgRefIdeal Cert.HgRefIdeal.Read Cert.Product
open Idealize.ShloMosaic

/-- The reference. -/
theorem ref_eq (x0 : Rows) (x1 : Weights) : val_main_v1 (F := Ideal) x0 x1 = columns 0 (n := 5120) (by decide) x0 x1 := by
  funext i
  obtain ⟨p, z, rfl⟩ := ix2_of (a := 32768) (b := 5120) i
  unfold val_main_v1 val_main_v0 columns
  pointwise

end Cert.HgRefIdeal.Projection

end
-- ==== Proof.SsdArray.lean ====
/- The projection onto the second recurrence's 3072 columns, from column 5120 on: `Product.tile` at its own tiles. -/
module

public import proofs.«01_k».proof.Proof.Gen.SsdIdeal.Value
public import proofs.«01_k».proof.Proof.Gen.SsdRefIdeal.Read
public import proofs.«01_k».proof.Proof.Product

@[expose] public section

set_option maxRecDepth 16384

noncomputable section

namespace Cert.SsdIdeal.Projection

open Cert.SsdIdeal Cert.SsdIdeal.Gen Cert.Product
open Idealize.ShloMosaic Idealize.ShloMosaic.TcCoe Idealize.SL.Sem
open Idealize.ShloMosaic.Pipeline (Dat)

theorem out_apply (a : Vec Ideal S1024x2048 .bf16) (w : Vec Ideal S2048x1024 .bf16) (r z : Fin 1024) :
    (out0_2 (F := Ideal) a w (ix2 r z) : EReal) = ∑ d : Fin 2048, a (ix2 r d) * w (ix2 d z) := by
  unfold out0_2
  rw [View.canon_unit_zero (S := S1024x1024) origin, View.ld_unit_zero (S := S1024x2048) origin, View.ld_unit_zero (S := S2048x1024) origin]
  unfold k0_pay1
  pointwise

theorem index_eq : ∀ t : Fin grid0.N, win0_0.index t = ![(grid0.coords t 0).val, 0] ∧ win0_1.index t = ![0, (grid0.coords t 1).val]
    ∧ win0_2.index t = ![(grid0.coords t 0).val, (grid0.coords t 1).val] := by decide +kernel

variable (m : (ℓ : Loc nD τ sig) → Buf (Elt Ideal) ℓ) (c : Dev nD)

theorem V_rows (p : Fin 32768) (d : Fin 2048) : (V m c main_v0 (ix2 p d) : EReal) = m ((c.tc : Thread nD τ).loc main_arg0) (ix2 p d) := by
  unfold_abbrev_sides
  after_results
  pointwise

theorem V_columns (d : Fin 2048) (z : Fin 3072) :
    (V m c main_v2 (ix2 d z) : EReal) = m ((c.tc : Thread nD τ).loc main_arg1) (ix2 d ⟨5120 + z.val, by have := z.isLt; omega⟩) := by
  unfold_abbrev_sides
  after_results
  pointwise

/-- The result array after the run. -/
theorem array_eq : (dats m 0 c).arrAt 2 cfg0.N
    = columns 5120 (n := 3072) (by decide) (m ((c.tc : Thread nD τ).loc main_arg0)) (m ((c.tc : Thread nD τ).loc main_arg1)) := by
  refine (dats m 0 c).arrAt_eq_of_covers 2 _ (by decide +kernel) fun t hf y => ?_
  obtain ⟨r, z, rfl⟩ := ix2_of (a := 1024) (b := 1024) y
  obtain ⟨ia, iw, io⟩ := index_eq t
  have hr := tiled_lt (n := 32) (grid0.coords t 0).isLt r 0 32768 (by decide)
  have hz := tiled_lt (n := 3) (grid0.coords t 1).isLt z 0 3072 (by decide)
  have e : (win0_2.blk t).view.emb (ix2 r z) = ix2 ⟨_, hr⟩ ⟨_, hz⟩ := by blk_ext [io]
  refine Eq.trans ?_ (congrArg (columns 5120 (n := 3072) (by decide) _ _) e).symm
  refine (congrFun (after0_2 m c t) (ix2 r z)).trans ((out_apply _ _ r z).trans (tile _ hr hz (fun d => ?_) fun d => ?_))
  · refine Eq.trans ?_ (V_rows m c _ d)
    blk_ext [iblk, ia]
  · refine Eq.trans ?_ (V_columns m c d ⟨_, hz⟩)
    blk_ext [iblk, iw]

end Cert.SsdIdeal.Projection

namespace Cert.SsdRefIdeal.Projection

open Cert.SsdRefIdeal Cert.SsdRefIdeal.Read Cert.Product
open Idealize.ShloMosaic

/-- The reference. -/
theorem ref_eq (x0 : Rows) (x1 : Weights) : val_main_v1 (F := Ideal) x0 x1 = columns 5120 (n := 3072) (by decide) x0 x1 := by
  funext i
  obtain ⟨p, z, rfl⟩ := ix2_of (a := 32768) (b := 3072) i
  unfold val_main_v1 val_main_v0 columns
  pointwise

end Cert.SsdRefIdeal.Projection

end
-- ==== Proof.AttArray.lean ====
/- The projection onto the attention's 1536 columns, from column 8224 on, in tiles of 512 columns: `Product.tile`. -/
module

public import proofs.«01_k».proof.Proof.Gen.AttIdeal.Value
public import proofs.«01_k».proof.Proof.Gen.AttRefIdeal.Read
public import proofs.«01_k».proof.Proof.Product

@[expose] public section

set_option maxRecDepth 16384

noncomputable section

namespace Cert.AttIdeal.Projection

open Cert.AttIdeal Cert.AttIdeal.Gen Cert.Product
open Idealize.ShloMosaic Idealize.ShloMosaic.TcCoe Idealize.SL.Sem
open Idealize.ShloMosaic.Pipeline (Dat)

theorem out_apply (a : Vec Ideal S1024x2048 .bf16) (w : Vec Ideal S2048x512 .bf16) (r : Fin 1024) (z : Fin 512) :
    (out0_2 (F := Ideal) a w (ix2 r z) : EReal) = ∑ d : Fin 2048, a (ix2 r d) * w (ix2 d z) := by
  unfold out0_2
  rw [View.canon_unit_zero (S := S1024x512) origin, View.ld_unit_zero (S := S1024x2048) origin, View.ld_unit_zero (S := S2048x512) origin]
  unfold k0_pay1
  pointwise

theorem index_eq : ∀ t : Fin grid0.N, win0_0.index t = ![(grid0.coords t 0).val, 0] ∧ win0_1.index t = ![0, (grid0.coords t 1).val]
    ∧ win0_2.index t = ![(grid0.coords t 0).val, (grid0.coords t 1).val] := by decide +kernel

variable (m : (ℓ : Loc nD τ sig) → Buf (Elt Ideal) ℓ) (c : Dev nD)

theorem V_rows (p : Fin 32768) (d : Fin 2048) : (V m c main_v0 (ix2 p d) : EReal) = m ((c.tc : Thread nD τ).loc main_arg0) (ix2 p d) := by
  unfold_abbrev_sides
  after_results
  pointwise

theorem V_columns (d : Fin 2048) (z : Fin 1536) :
    (V m c main_v2 (ix2 d z) : EReal) = m ((c.tc : Thread nD τ).loc main_arg1) (ix2 d ⟨8224 + z.val, by have := z.isLt; omega⟩) := by
  unfold_abbrev_sides
  after_results
  pointwise

/-- The result array after the run. -/
theorem array_eq : (dats m 0 c).arrAt 2 cfg0.N
    = columns 8224 (n := 1536) (by decide) (m ((c.tc : Thread nD τ).loc main_arg0)) (m ((c.tc : Thread nD τ).loc main_arg1)) := by
  refine (dats m 0 c).arrAt_eq_of_covers 2 _ (by decide +kernel) fun t hf y => ?_
  obtain ⟨r, z, rfl⟩ := ix2_of (a := 1024) (b := 512) y
  obtain ⟨ia, iw, io⟩ := index_eq t
  have hr := tiled_lt (n := 32) (grid0.coords t 0).isLt r 0 32768 (by decide)
  have hz := tiled_lt (n := 3) (grid0.coords t 1).isLt z 0 1536 (by decide)
  have e : (win0_2.blk t).view.emb (ix2 r z) = ix2 ⟨_, hr⟩ ⟨_, hz⟩ := by blk_ext [io]
  refine Eq.trans ?_ (congrArg (columns 8224 (n := 1536) (by decide) _ _) e).symm
  refine (congrFun (after0_2 m c t) (ix2 r z)).trans ((out_apply _ _ r z).trans (tile _ hr hz (fun d => ?_) fun d => ?_))
  · refine Eq.trans ?_ (V_rows m c _ d)
    blk_ext [iblk, ia]
  · refine Eq.trans ?_ (V_columns m c d ⟨_, hz⟩)
    blk_ext [iblk, iw]

end Cert.AttIdeal.Projection

namespace Cert.AttRefIdeal.Projection

open Cert.AttRefIdeal Cert.AttRefIdeal.Read Cert.Product
open Idealize.ShloMosaic

/-- The reference. -/
theorem ref_eq (x0 : Rows) (x1 : Weights) : val_main_v1 (F := Ideal) x0 x1 = columns 8224 (n := 1536) (by decide) x0 x1 := by
  funext i
  obtain ⟨p, z, rfl⟩ := ix2_of (a := 32768) (b := 1536) i
  unfold val_main_v1 val_main_v0 columns
  pointwise

end Cert.AttRefIdeal.Projection

end
-- ==== Proof.GateArray.lean ====
/- The merge gates: the logistic function of the product with the last 6144 columns. `Product.tile` gives the product. -/
module

public import proofs.«01_k».proof.Proof.Gen.GateIdeal.Value
public import proofs.«01_k».proof.Proof.Gen.GateRefIdeal.Read
public import proofs.«01_k».proof.Proof.Product

@[expose] public section

set_option maxRecDepth 16384

noncomputable section

namespace Cert.GateIdeal.Projection

open Cert.GateIdeal Cert.GateIdeal.Gen Cert.Product
open Idealize.ShloMosaic Idealize.ShloMosaic.TcCoe Idealize.SL.Sem
open Idealize.ShloMosaic.Pipeline (Dat)

/-- One tile of the gates. -/
theorem out_apply (a : Vec Ideal S1024x2048 .bf16) (w : Vec Ideal S2048x1024 .bf16) (r z : Fin 1024) :
    (out0_2 (F := Ideal) a w (ix2 r z) : EReal) = sigmoid (∑ d : Fin 2048, a (ix2 r d) * w (ix2 d z)) := by
  unfold out0_2
  rw [View.canon_unit_zero (S := S1024x1024) origin, View.ld_unit_zero (S := S1024x2048) origin, View.ld_unit_zero (S := S2048x1024) origin]
  unfold k0_pay1 sigmoid
  pointwise

theorem index_eq : ∀ t : Fin grid0.N, win0_0.index t = ![(grid0.coords t 0).val, 0] ∧ win0_1.index t = ![0, (grid0.coords t 1).val]
    ∧ win0_2.index t = ![(grid0.coords t 0).val, (grid0.coords t 1).val] := by decide +kernel

variable (m : (ℓ : Loc nD τ sig) → Buf (Elt Ideal) ℓ) (c : Dev nD)

theorem V_rows (p : Fin 32768) (d : Fin 2048) : (V m c main_v0 (ix2 p d) : EReal) = m ((c.tc : Thread nD τ).loc main_arg0) (ix2 p d) := by
  unfold_abbrev_sides
  after_results
  pointwise

theorem V_columns (d : Fin 2048) (z : Fin 6144) :
    (V m c main_v2 (ix2 d z) : EReal) = m ((c.tc : Thread nD τ).loc main_arg1) (ix2 d ⟨9760 + z.val, by have := z.isLt; omega⟩) := by
  unfold_abbrev_sides
  after_results
  pointwise

/-- The gates of all rows. -/
def gates : S32768x6144.Idx → EReal := fun i =>
  sigmoid (columns 9760 (n := 6144) (by decide) (m ((c.tc : Thread nD τ).loc main_arg0)) (m ((c.tc : Thread nD τ).loc main_arg1)) i)

/-- The result array after the run. -/
theorem array_eq : (dats m 0 c).arrAt 2 cfg0.N = gates m c := by
  refine (dats m 0 c).arrAt_eq_of_covers 2 _ (by decide +kernel) fun t hf y => ?_
  obtain ⟨r, z, rfl⟩ := ix2_of (a := 1024) (b := 1024) y
  obtain ⟨ia, iw, io⟩ := index_eq t
  have hr := tiled_lt (n := 32) (grid0.coords t 0).isLt r 0 32768 (by decide)
  have hz := tiled_lt (n := 6) (grid0.coords t 1).isLt z 0 6144 (by decide)
  have e : (win0_2.blk t).view.emb (ix2 r z) = ix2 ⟨_, hr⟩ ⟨_, hz⟩ := by blk_ext [io]
  refine Eq.trans ?_ (congrArg (gates m c) e).symm
  refine (congrFun (after0_2 m c t) (ix2 r z)).trans ((out_apply _ _ r z).trans (congrArg sigmoid (tile _ hr hz (fun d => ?_) fun d => ?_)))
  · refine Eq.trans ?_ (V_rows m c _ d)
    blk_ext [iblk, ia]
  · refine Eq.trans ?_ (V_columns m c d ⟨_, hz⟩)
    blk_ext [iblk, iw]

end Cert.GateIdeal.Projection

namespace Cert.GateRefIdeal.Projection

open Cert.GateRefIdeal Cert.GateRefIdeal.Read Cert.Product
open Idealize.ShloMosaic

theorem product_eq (x0 : Rows) (x1 : Weights) : val_main_v1 (F := Ideal) x0 x1 = columns 9760 (n := 6144) (by decide) x0 x1 := by
  funext i
  obtain ⟨p, z, rfl⟩ := ix2_of (a := 32768) (b := 6144) i
  unfold val_main_v1 val_main_v0 columns
  pointwise

/-- The reference. -/
theorem ref_eq (x0 : Rows) (x1 : Weights) :
    val_main_v8 (F := Ideal) x0 x1 = fun i => sigmoid (columns 9760 (n := 6144) (by decide) x0 x1 i) := by
  rw [← product_eq]
  funext i
  obtain ⟨p, z, rfl⟩ := ix2_of (a := 32768) (b := 6144) i
  rw [← sigmoid_neg]
  unfold val_main_v8 val_main_v7 val_main_v6 val_main_v5 val_main_v4 val_main_v3 val_main_v2 val_main_cst val_main_cst_0
  generalize val_main_v1 (F := Ideal) x0 x1 = y
  pointwise

end Cert.GateRefIdeal.Projection

end
-- ==== Proof.Gated.lean ====
/- The gated linear unit of a feed-forward's hidden column, its activation alone, and the sum over the 5632 hidden columns in blocks of 512. -/
module

public import Idealize.ShloMosaic.Lib.Pointwise

@[expose] public section

noncomputable section

namespace Cert.Gated

open Idealize.ShloMosaic

/-- A gate `g` and an up-projection `u` combine to `g / (1 + exp (-g)) * u`. -/
def gated (g u : EReal) : EReal := Ideal.div g (1 + Ideal.exp (0 - g)) * u

theorem one_add_exp_ne (x : EReal) : (1 : EReal) + Ideal.exp x ≠ 0 := by
  induction x with
  | bot => show (1 : EReal) + 0 ≠ 0; simp
  | coe r =>
    show (1 : EReal) + ((Real.exp r : ℝ) : EReal) ≠ 0
    have h : (0 : ℝ) < 1 + Real.exp r := by positivity
    exact_mod_cast h.ne'
  | top =>
    show (1 : EReal) + ⊤ ≠ 0
    rw [EReal.add_top_of_ne_bot (show (1 : EReal) ≠ ⊥ from EReal.coe_ne_bot 1)]
    exact EReal.top_ne_zero

/-- The gate as a product with the logistic function is the gate as a quotient. -/
theorem gated_eq (g u : EReal) : g * Ideal.div 1 (1 + Ideal.exp (-g)) * u = gated g u := by
  unfold gated Ideal.div
  rw [zero_sub, if_neg (one_add_exp_ne _), if_neg (one_add_exp_ne _), one_mul]

/-- An argument times its logistic function, as `x / (1 + exp (-x))`. -/
def silu (x : EReal) : EReal := Ideal.div x (1 + Ideal.exp (0 - x))

theorem silu_eq (x : EReal) : x * Ideal.div 1 (1 + Ideal.exp (-x)) = silu x := by
  have h := gated_eq x 1
  unfold gated at h
  rwa [mul_one, mul_one] at h

/-- The hidden columns of block `g`, summed. -/
def blockSum (f : Fin 5632 → EReal) (g : ℕ) : EReal := ∑ j : Fin 512, if h : 512 * g + j.val < 5632 then f ⟨512 * g + j.val, h⟩ else 0

/-- A sum over `a * b` columns, block by block. -/
theorem sum_blocks (a b : ℕ) (f : ℕ → EReal) : ∑ g ∈ Finset.range a, ∑ j ∈ Finset.range b, f (b * g + j) = ∑ k ∈ Finset.range (b * a), f k := by
  induction a with
  | zero => simp
  | succ a ih => rw [Finset.sum_range_succ, ih, Nat.mul_succ, Finset.sum_range_add]

/-- All blocks together are all columns. -/
theorem blocks_eq (f : Fin 5632 → EReal) : ∑ g ∈ Finset.range 11, blockSum f g = ∑ j : Fin 5632, f j := by
  let f' : ℕ → EReal := fun k => if h : k < 5632 then f ⟨k, h⟩ else 0
  have h1 : ∀ g, blockSum f g = ∑ j ∈ Finset.range 512, f' (512 * g + j) := fun g =>
    (Finset.sum_range fun j => f' (512 * g + j)).symm
  have h2 : ∑ j : Fin 5632, f j = ∑ k ∈ Finset.range (512 * 11), f' k := by
    refine Eq.trans ?_ (Finset.sum_range f').symm
    refine Finset.sum_congr rfl fun k _ => ?_
    show _ = dite _ _ _
    rw [dif_pos k.isLt]
  rw [h2, ← sum_blocks]
  exact Finset.sum_congr rfl fun g _ => h1 g

/-- Block `g` of columns that are known one by one. -/
theorem blockSum_eq {f : Fin 5632 → EReal} {g : ℕ} {a : Fin 512 → EReal} (h : ∀ (j : Fin 512) (k : Fin 5632), k.val = 512 * g + j.val → a j = f k)
    (hg : g < 11) : ∑ j : Fin 512, a j = blockSum f g :=
  Finset.sum_congr rfl fun j _ => by
    have hj := j.isLt
    have hlt : 512 * g + j.val < 5632 := by omega
    rw [dif_pos hlt]
    exact h j ⟨_, hlt⟩ rfl

end Cert.Gated

end
-- ==== Proof.FfnArray.lean ====
/- The result array of the dense feed-forward after its run, in closed form: at row `p` and column `z` the residual plus
   the batch's modulation times the sum over the hidden columns. -/
module

public import proofs.«01_k».proof.Proof.Gen.FfnIdeal.Value
public import proofs.«01_k».proof.Proof.Gated
public import proofs.«01_k».proof.Proof.Product

@[expose] public section

set_option maxRecDepth 16384

noncomputable section

namespace Cert.FfnIdeal.Dense

open Cert.FfnIdeal Cert.FfnIdeal.Gen Cert.Gated Cert.Product
open Idealize.ShloMosaic Idealize.ShloMosaic.TcCoe Idealize.SL.Sem
open Idealize.ShloMosaic.Pipeline (Dat)

/-! ## One step at an index -/

theorem pay_zero (r : Fin 512) (z : Fin 2048) : k0_pay1 (F := Ideal) (ix2 r z) = (0 : EReal) := by
  unfold k0_pay1
  pointwise

theorem pay_step (h : Vec Ideal S512x2048 .bf16) (wg wu : Vec Ideal S2048x512 .bf16) (acc : Vec Ideal S512x2048 .f32) (wd : Vec Ideal S512x2048 .bf16)
    (r : Fin 512) (z : Fin 2048) :
    (k0_pay2 (F := Ideal) h wg wu acc wd (ix2 r z) : EReal) = acc (ix2 r z) +
      ∑ j : Fin 512, gated (∑ d : Fin 2048, h (ix2 r d) * wg (ix2 d j)) (∑ d : Fin 2048, h (ix2 r d) * wu (ix2 d j)) * wd (ix2 j z) := by
  unfold k0_pay2 gated
  pointwise

theorem pay_out (x : Vec Ideal S512x2048 .f32) (g : Vec Ideal S1x1x2048 .f32) (acc : Vec Ideal S512x2048 .f32) (r : Fin 512) (z : Fin 2048) :
    (k0_pay3 (F := Ideal) x g acc (ix2 r z) : EReal) = x (ix2 r z) + g (ix3 0 0 z) * acc (ix2 r z) := by
  unfold k0_pay3
  pointwise

/-! ## The blocks that a point reads, in the arguments -/

theorem tile_val (t : Fin grid0.N) : (grid0.coords t 0).val = t.val / 11 := by
  have ht : t.val < 704 := Nat.lt_of_lt_of_eq t.isLt N_0
  rw [show (grid0.coords t 0).val = t.val / 11 % 64 from Pipeline.Grid.coords_val t 0 (by decide) rfl]
  omega

theorem column_val (t : Fin grid0.N) : (grid0.coords t 1).val = t.val % 11 := by
  rw [show (grid0.coords t 1).val = t.val / 1 % 11 from Pipeline.Grid.coords_val t 1 (by decide) rfl, Nat.div_one]

theorem index_eq : ∀ t : Fin grid0.N, win0_0.index t = ![(grid0.coords t 0).val, 0] ∧ win0_1.index t = ![0, (grid0.coords t 1).val]
    ∧ win0_2.index t = ![0, (grid0.coords t 1).val] ∧ win0_3.index t = ![(grid0.coords t 1).val, 0] ∧ win0_4.index t = ![(grid0.coords t 0).val, 0]
    ∧ win0_5.index t = ![(grid0.coords t 0).val / 16, 0, 0] ∧ win0_6.index t = ![(grid0.coords t 0).val, 0] := by decide +kernel

variable (m : (ℓ : Loc nD τ sig) → Buf (Elt Ideal) ℓ) (c : Dev nD)

theorem V_rows (p : Fin 32768) (d : Fin 2048) : V m c main_v0 (ix2 p d) = m ((c.tc : Thread nD τ).loc main_arg0) (ix2 p d) := by
  unfold_abbrev_sides
  after_results
  pointwise

theorem V_gate (d : Fin 2048) (j : Fin 5632) : V m c main_v1 (ix2 d j) = m ((c.tc : Thread nD τ).loc main_arg1) (ix2 d j) := by
  unfold_abbrev_sides
  after_results
  pointwise

theorem V_up (d : Fin 2048) (j : Fin 5632) : V m c main_v2 (ix2 d j) = m ((c.tc : Thread nD τ).loc main_arg2) (ix2 d j) := by
  unfold_abbrev_sides
  after_results
  pointwise

theorem V_down (j : Fin 5632) (z : Fin 2048) : V m c main_v3 (ix2 j z) = m ((c.tc : Thread nD τ).loc main_arg3) (ix2 j z) := by
  unfold_abbrev_sides
  after_results
  pointwise

section
variable (t : Fin cfg0.N)

/-- Row `r` of the point's tile, and column `j` of its block of hidden columns. -/
def rowAt (r : Fin 512) : Fin 32768 := ⟨0 + 512 * (grid0.coords t 0).val + r.val, tiled_lt (n := 64) (grid0.coords t 0).isLt r 0 32768 (by decide)⟩
def hiddenAt (j : Fin 512) : Fin 5632 := ⟨0 + 512 * (grid0.coords t 1).val + j.val, tiled_lt (n := 11) (grid0.coords t 1).isLt j 0 5632 (by decide)⟩
/-- The batch of the point's tile. -/
def batchAt : Fin 4 := ⟨0 + 1 * ((grid0.coords t 0).val / 16) + 0, by have : (grid0.coords t 0).val < 64 := (grid0.coords t 0).isLt; omega⟩

theorem block_rows (r : Fin 512) (d : Fin 2048) : iblk m c 0 t (ix2 r d) = m ((c.tc : Thread nD τ).loc main_arg0) (ix2 (rowAt t r) d) := by
  refine Eq.trans ?_ (V_rows m c _ d)
  unfold rowAt
  blk_ext [iblk, (index_eq t).1]

theorem block_gate (d : Fin 2048) (j : Fin 512) : iblk m c 1 t (ix2 d j) = m ((c.tc : Thread nD τ).loc main_arg1) (ix2 d (hiddenAt t j)) := by
  refine Eq.trans ?_ (V_gate m c d _)
  unfold hiddenAt
  blk_ext [iblk, (index_eq t).2.1]

theorem block_up (d : Fin 2048) (j : Fin 512) : iblk m c 2 t (ix2 d j) = m ((c.tc : Thread nD τ).loc main_arg2) (ix2 d (hiddenAt t j)) := by
  refine Eq.trans ?_ (V_up m c d _)
  unfold hiddenAt
  blk_ext [iblk, (index_eq t).2.2.1]

theorem block_down (j : Fin 512) (z : Fin 2048) : iblk m c 3 t (ix2 j z) = m ((c.tc : Thread nD τ).loc main_arg3) (ix2 (hiddenAt t j) z) := by
  refine Eq.trans ?_ (V_down m c _ z)
  unfold hiddenAt
  blk_ext [iblk, (index_eq t).2.2.2.1]

theorem block_residual (r : Fin 512) (z : Fin 2048) : iblk m c 4 t (ix2 r z) = m ((c.tc : Thread nD τ).loc main_arg4) (ix2 (rowAt t r) z) := by
  refine Eq.trans ?_ (congrFun (V_main_arg4 m c) _)
  unfold rowAt
  blk_ext [iblk, (index_eq t).2.2.2.2.1]

theorem block_modulation (z : Fin 2048) : iblk m c 5 t (ix3 0 0 z) = m ((c.tc : Thread nD τ).loc main_arg5) (ix3 (batchAt t) 0 z) := by
  refine Eq.trans ?_ (congrFun (V_main_arg5 m c) _)
  unfold batchAt
  blk_ext [iblk, (index_eq t).2.2.2.2.2.1]

end

/-! ## What a point leaves in the carried sum and in the result's block -/

theorem first {A B : Type} {o : A × B} {x : A} {y : B} (h : o = (x, y)) : o.1 = x := by rw [h]
theorem second {A B : Type} {o : A × B} {x : A} {y : B} (h : o = (x, y)) : o.2 = y := by rw [h]

abbrev before (t : Fin cfg0.N) : Vec Ideal S512x2048 .f32 := (outsAt0 m c (t.val - 1) (Nat.lt_of_le_of_lt (Nat.sub_le _ _) t.isLt)).2

/-- The first point of a tile, a middle one, and the last one. -/
theorem steps (t : Fin cfg0.N) :
    (t.val % 11 = 0 → (outsAt0 m c t.val t.isLt).2 = k0_pay2 (F := Ideal) (iblk m c 0 t) (iblk m c 1 t) (iblk m c 2 t) (k0_pay1 (F := Ideal)) (iblk m c 3 t))
    ∧ (¬t.val % 11 = 0 → ¬t.val % 11 = 10 →
      (outsAt0 m c t.val t.isLt).2 = k0_pay2 (F := Ideal) (iblk m c 0 t) (iblk m c 1 t) (iblk m c 2 t) (before m c t) (iblk m c 3 t))
    ∧ (t.val % 11 = 10 →
      (outsAt0 m c t.val t.isLt).2 = k0_pay2 (F := Ideal) (iblk m c 0 t) (iblk m c 1 t) (iblk m c 2 t) (before m c t) (iblk m c 3 t))
    ∧ (t.val % 11 = 10 → (outsAt0 m c t.val t.isLt).1
      = k0_pay3 (F := Ideal) (iblk m c 4 t) (iblk m c 5 t) (k0_pay2 (F := Ideal) (iblk m c 0 t) (iblk m c 1 t) (iblk m c 2 t) (before m c t) (iblk m c 3 t))) := by
  refine ⟨fun h0 => (second (outsAt0_A m c t h0 (by omega))).trans ?_, fun h0 h1 => (second (outsAt0_B m c t h0 h1)).trans ?_,
    fun h1 => (second (outsAt0_C m c t (by omega) h1)).trans ?_, fun h1 => (first (outsAt0_C m c t (by omega) h1)).trans ?_⟩
  on_goal 1 => (refine (View.read_writes_eq_canon _ _ _ fun _ => scover0_A_0 ..).trans ?_; unfold kernelRun0_A)
  on_goal 2 => (refine (View.read_writes_eq_canon _ _ _ fun _ => scover0_B_0 ..).trans ?_; unfold kernelRun0_B)
  on_goal 3 => (refine (View.read_writes_eq_canon _ _ _ fun _ => scover0_C_0 ..).trans ?_; unfold kernelRun0_C)
  on_goal 4 => (refine (View.read_writes_eq_canon _ _ _ fun _ => cover0_C_6 ..).trans ?_; unfold kernelRun0_C)
  all_goals
    dsimp only
    sl_unfold_words
    simp only [View.canon_cons_unit_zero (S := S512x2048) origin, View.canon_unit_zero (S := S512x2048) origin, View.readCov_unit_zero (S := S512x2048) _ origin,
      View.readAt_eq_ld, (hs0_0 t).read_unread, (hs0_1 t).read_unread, (hs0_2 t).read_unread, (hs0_3 t).read_unread, (hs0_4 t).read_unread, (hs0_5 t).read_unread,
      (Memref.isWhole_whole _).read_unread, View.ld_unit_zero (S := S512x2048) origin, View.ld_unit_zero (S := S2048x512) origin, View.ld_unit_zero (S := S1x1x2048) origin3]

/-! ## The sum after each point -/

/-- What hidden column `j` adds at row `p` and column `z`. -/
def column (h : S32768x2048.Idx → EReal) (wg wu : S2048x5632.Idx → EReal) (wd : S5632x2048.Idx → EReal) (p : Fin 32768) (z : Fin 2048) (j : Fin 5632) : EReal :=
  gated (∑ d : Fin 2048, h (ix2 p d) * wg (ix2 d j)) (∑ d : Fin 2048, h (ix2 p d) * wu (ix2 d j)) * wd (ix2 j z)

/-- The same, of the call's arguments. -/
def columnOf (p : Fin 32768) (z : Fin 2048) : Fin 5632 → EReal :=
  column (m ((c.tc : Thread nD τ).loc main_arg0)) (m ((c.tc : Thread nD τ).loc main_arg1)) (m ((c.tc : Thread nD τ).loc main_arg2)) (m ((c.tc : Thread nD τ).loc main_arg3)) p z

/-- A step adds its block of hidden columns. -/
theorem step_apply (t : Fin cfg0.N) (acc : Vec Ideal S512x2048 .f32) (r : Fin 512) (z : Fin 2048) :
    (k0_pay2 (F := Ideal) (iblk m c 0 t) (iblk m c 1 t) (iblk m c 2 t) acc (iblk m c 3 t) (ix2 r z) : EReal)
      = acc (ix2 r z) + blockSum (columnOf m c (rowAt t r) z) (t.val % 11) := by
  refine (pay_step _ _ _ _ _ r z).trans (congrArg _ (blockSum_eq (fun j k hk => ?_) (Nat.mod_lt _ (by decide))))
  obtain rfl : k = hiddenAt t j := Fin.ext (by show k.val = 0 + 512 * (grid0.coords t 1).val + j.val; rw [column_val, hk, Nat.zero_add])
  unfold columnOf column
  refine congrArg₂ (· * ·) (congrArg₂ gated (Finset.sum_congr rfl fun d _ => ?_) (Finset.sum_congr rfl fun d _ => ?_)) (block_down m c t j z)
  · exact congrArg₂ (· * ·) (block_rows m c t r d) (block_gate m c t d j)
  · exact congrArg₂ (· * ·) (block_rows m c t r d) (block_up m c t d j)

/-- The carried sum holds the blocks so far. -/
theorem sum_eq : ∀ (n : ℕ) (hn : n < cfg0.N) (r : Fin 512) (z : Fin 2048),
    ((outsAt0 m c n hn).2 (ix2 r z) : EReal) = ∑ g ∈ Finset.range (n % 11 + 1), blockSum (columnOf m c (rowAt ⟨n, hn⟩ r) z) g := by
  have first : ∀ (t : Fin cfg0.N), t.val % 11 = 0 → ∀ r z,
      ((outsAt0 m c t.val t.isLt).2 (ix2 r z) : EReal) = ∑ g ∈ Finset.range (t.val % 11 + 1), blockSum (columnOf m c (rowAt t r) z) g := fun t h0 r z => by
    refine (congrFun ((steps m c t).1 h0) (ix2 r z)).trans ((step_apply m c t _ r z).trans ?_)
    rw [pay_zero, h0, Finset.sum_range_one, zero_add]
  intro n
  induction n with
  | zero => exact fun hn => first ⟨0, hn⟩ rfl
  | succ n ih =>
    intro hn r z
    by_cases h0 : (n + 1) % 11 = 0
    · exact first ⟨n + 1, hn⟩ h0 r z
    · have hn' := Nat.lt_of_succ_lt hn
      have hrow : rowAt ⟨n, hn'⟩ r = rowAt ⟨n + 1, hn⟩ r := Fin.ext (by
        show 0 + 512 * (grid0.coords (⟨n, hn'⟩ : Fin grid0.N) 0).val + r.val = 0 + 512 * (grid0.coords (⟨n + 1, hn⟩ : Fin grid0.N) 0).val + r.val
        rw [tile_val, tile_val]
        show 0 + 512 * (n / 11) + r.val = 0 + 512 * ((n + 1) / 11) + r.val
        omega)
      have hr : (n + 1) % 11 = n % 11 + 1 := by omega
      have e : (outsAt0 m c (n + 1) hn).2 = k0_pay2 (F := Ideal) (iblk m c 0 ⟨n + 1, hn⟩) (iblk m c 1 ⟨n + 1, hn⟩) (iblk m c 2 ⟨n + 1, hn⟩) (before m c ⟨n + 1, hn⟩) (iblk m c 3 ⟨n + 1, hn⟩) := by
        by_cases h1 : (n + 1) % 11 = 10
        · exact (steps m c ⟨n + 1, hn⟩).2.2.1 h1
        · exact (steps m c ⟨n + 1, hn⟩).2.1 h0 h1
      refine (congrFun e (ix2 r z)).trans ((step_apply m c ⟨n + 1, hn⟩ _ r z).trans ?_)
      refine (congrArg (· + _) (ih hn' r z)).trans ?_
      show _ + blockSum _ ((n + 1) % 11) = _
      rw [hrow, hr, Finset.sum_range_succ _ (n % 11 + 1)]

/-- The result at an index. -/
def result (h : S32768x2048.Idx → EReal) (wg wu : S2048x5632.Idx → EReal) (wd : S5632x2048.Idx → EReal) (x : S32768x2048.Idx → EReal) (mod : S4x1x2048.Idx → EReal)
    (y : S32768x2048.Idx) : EReal :=
  x y + mod (ix3 ⟨(y 0).val / 8192, by have : (y 0).val < 32768 := (y 0).isLt; omega⟩ 0 (y 1)) * ∑ j : Fin 5632, column h wg wu wd (y 0) (y 1) j

/-- The same, of the call's arguments. -/
def resultAt : S32768x2048.Idx → EReal :=
  result (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

/-- The block written back at the last point of a tile. -/
theorem out_apply (t : Fin cfg0.N) (h1 : t.val % 11 = 10) (r : Fin 512) (z : Fin 2048) :
    ((outsAt0 m c t.val t.isLt).1 (ix2 r z) : EReal) = resultAt m c (ix2 (rowAt t r) z) := by
  have e := (steps m c t).2.2.2 h1
  rw [← (steps m c t).2.2.1 h1] at e
  have hs := sum_eq m c t.val t.isLt r z
  rw [h1, blocks_eq] at hs
  refine (congrFun e (ix2 r z)).trans ((pay_out _ _ _ r z).trans ?_)
  have hb : batchAt t = ⟨(rowAt t r).val / 8192, by have := (rowAt t r).isLt; omega⟩ := Fin.ext (by
    have := r.isLt
    show 0 + 1 * ((grid0.coords t 0).val / 16) + 0 = (0 + 512 * (grid0.coords t 0).val + r.val) / 8192
    omega)
  have hm := block_modulation m c t z
  rw [hb] at hm
  exact combine (block_residual m c t r z) hm hs

/-- The result array after the run. -/
theorem array_eq : (dats m 0 c).arrAt 6 cfg0.N = resultAt m c := by
  refine (dats m 0 c).arrAt_eq_of_covers 6 _ (by decide +kernel) fun t hf y => ?_
  obtain ⟨r, z, rfl⟩ := ix2_of (a := 512) (b := 2048) y
  have e : (win0_6.blk t).view.emb (ix2 r z) = ix2 (rowAt t r) z := by
    unfold rowAt
    blk_ext [(index_eq t).2.2.2.2.2.2]
  refine Eq.trans ?_ (congrArg (resultAt m c) e).symm
  exact (congrFun (after0_6 m c t) (ix2 r z)).trans (out_apply m c t ((flush0_6 t).mp hf) r z)

end Cert.FfnIdeal.Dense

end
-- ==== Proof.FfnRef.lean ====
/- The reference of the dense feed-forward at an index, and its agreement with the call's result. -/
module

public import proofs.«01_k».proof.Proof.Gen.FfnRefIdeal.Read
public import proofs.«01_k».proof.Proof.FfnArray

@[expose] public section

set_option maxRecDepth 16384

noncomputable section

namespace Cert.FfnRefIdeal.Dense

open Cert.FfnRefIdeal Cert.FfnRefIdeal.Gen Cert.FfnRefIdeal.Read Cert.Gated Cert.Product
open Cert.FfnIdeal.Dense (column result)
open Idealize.ShloMosaic

variable (x0 : (⟨S32768x2048, .f32⟩ : BufTy).Contents (Elt Ideal)) (x1 x2 : (⟨S2048x5632, .f32⟩ : BufTy).Contents (Elt Ideal))
  (x3 : (⟨S5632x2048, .f32⟩ : BufTy).Contents (Elt Ideal)) (x4 : (⟨S32768x2048, .f32⟩ : BufTy).Contents (Elt Ideal)) (x5 : (⟨S4x1x2048, .f32⟩ : BufTy).Contents (Elt Ideal))

/-- The hidden layer. -/
theorem hidden_apply (p : Fin 32768) (j : Fin 5632) :
    (val_main_v3 (F := Ideal) x0 x1 x2 (ix2 p j) : EReal) = gated (∑ d : Fin 2048, x0 (ix2 p d) * x1 (ix2 d j)) (∑ d : Fin 2048, x0 (ix2 p d) * x2 (ix2 d j)) := by
  rw [← gated_eq]
  unfold val_main_v3 val_main_v2 val_main_v1 val_main_call0_v5 val_main_call0_v4 val_main_call0_v3 val_main_call0_v2 val_main_call0_v1 val_main_call0_v0 val_main_call0_cst val_main_call0_cst_0 val_main_v0
  pointwise

/-- The reference. -/
theorem ref_eq : val_main_v10 (F := Ideal) x0 x1 x2 x3 x4 x5 = result x0 x1 x2 x3 x4 x5 := by
  funext i
  obtain ⟨p, z, rfl⟩ := ix2_of (a := 32768) (b := 2048) i
  have e : (val_main_v10 (F := Ideal) x0 x1 x2 x3 x4 x5 (ix2 p z) : EReal)
      = x4 (ix2 p z) + x5 (ix3 ⟨p.val / 8192, by have := p.isLt; omega⟩ 0 z) * ∑ j : Fin 5632, val_main_v3 (F := Ideal) x0 x1 x2 (ix2 p j) * x3 (ix2 j z) := by
    unfold val_main_v10 val_main_v9 val_main_v8 val_main_v7 val_main_v6 val_main_v5 val_main_v4
    generalize val_main_v3 (F := Ideal) x0 x1 x2 = y
    pointwise
  refine e.trans (combine rfl rfl (Finset.sum_congr rfl fun j _ => ?_))
  exact congrArg (· * x3 (ix2 j z)) (hidden_apply x0 x1 x2 p j)

end Cert.FfnRefIdeal.Dense

end
-- ==== Proof.MergeArray.lean ====
/- The merge of the three branches: its result array, and its reference, are the sum of the branches' products with their
   weights, each times its gate. -/
module

public import proofs.«01_k».proof.Proof.Gen.MergeIdeal.Value
public import proofs.«01_k».proof.Proof.Gen.MergeRefIdeal.Read
public import proofs.«01_k».proof.Proof.Product

@[expose] public section

set_option maxRecDepth 16384

noncomputable section

namespace Cert.MergeIdeal.Merge

open Cert.MergeIdeal Cert.MergeIdeal.Gen Cert.Product
open Idealize.ShloMosaic Idealize.ShloMosaic.TcCoe Idealize.SL.Sem
open Idealize.ShloMosaic.Pipeline (Dat)

/-- One tile of the result. -/
theorem pay_apply (g0 g1 g2 : Vec Ideal S1024x512 .bf16) (a0 a1 a2 : Vec Ideal S1024x1024 .bf16) (w0 w1 w2 : Vec Ideal S1x1024x512 .bf16) (r : Fin 1024) (z : Fin 512) :
    (k0_pay1 (F := Ideal) g0 a0 w0 g1 a1 w1 g2 a2 w2 (ix2 r z) : EReal)
      = g0 (ix2 r z) * (∑ d : Fin 1024, a0 (ix2 r d) * w0 (ix3 0 d z)) + g1 (ix2 r z) * (∑ d : Fin 1024, a1 (ix2 r d) * w1 (ix3 0 d z))
        + g2 (ix2 r z) * ∑ d : Fin 1024, a2 (ix2 r d) * w2 (ix3 0 d z) := by
  unfold k0_pay1
  pointwise

/-- The weights of one branch, out of the block of all three. -/
theorem branch_apply (w : Vec Ideal S3x1024x512 .bf16) (n : Fin 3) (inb : ∀ a, (![n.val, 0, 0] : Fin 3 → ℕ) a + S1x1024x512.size a ≤ S3x1024x512.size a) (d : Fin 1024) (z : Fin 512) :
    View.ld w (Rect.unit (s := S3x1024x512) ![n.val, 0, 0] S1x1024x512.size inb) (ix3 0 d z) = w (ix3 n d z) := by
  refine (View.ld_apply _ _ _).trans (congrArg w (funext fun a => Fin.ext ?_))
  match a with
  | ⟨0, _⟩ => show n.val + 1 * 0 = n.val; omega
  | ⟨1, _⟩ => show 0 + 1 * d.val = d.val; omega
  | ⟨2, _⟩ => show 0 + 1 * z.val = z.val; omega

theorem out_apply (a0 a1 a2 : Vec Ideal S1024x1024 .bf16) (g0 g1 g2 : Vec Ideal S1024x512 .bf16) (w : Vec Ideal S3x1024x512 .bf16) (r : Fin 1024) (z : Fin 512) :
    (out0_7 (F := Ideal) a0 a1 a2 g0 g1 g2 w (ix2 r z) : EReal)
      = g0 (ix2 r z) * (∑ d : Fin 1024, a0 (ix2 r d) * w (ix3 0 d z)) + g1 (ix2 r z) * (∑ d : Fin 1024, a1 (ix2 r d) * w (ix3 1 d z))
        + g2 (ix2 r z) * ∑ d : Fin 1024, a2 (ix2 r d) * w (ix3 2 d z) := by
  unfold out0_7
  rw [View.canon_unit_zero (S := S1024x512) origin]
  simp only [View.ld_unit_zero (S := S1024x512) origin, View.ld_unit_zero (S := S1024x1024) origin]
  refine (pay_apply _ _ _ _ _ _ _ _ _ r z).trans ?_
  exact congrArg₂ (· + ·) (congrArg₂ (· + ·) (congrArg (g0 (ix2 r z) * ·) (Finset.sum_congr rfl fun d _ => congrArg (a0 (ix2 r d) * ·) (branch_apply w 0 _ d z)))
    (congrArg (g1 (ix2 r z) * ·) (Finset.sum_congr rfl fun d _ => congrArg (a1 (ix2 r d) * ·) (branch_apply w 1 _ d z))))
    (congrArg (g2 (ix2 r z) * ·) (Finset.sum_congr rfl fun d _ => congrArg (a2 (ix2 r d) * ·) (branch_apply w 2 _ d z)))

/-- The tile of each array at each grid point: a branch has four tiles of gate columns. -/
theorem index_eq : ∀ t : Fin grid0.N, win0_0.index t = ![(grid0.coords t 0).val, 0] ∧ win0_1.index t = ![(grid0.coords t 0).val, 0]
    ∧ win0_2.index t = ![(grid0.coords t 0).val, 0] ∧ win0_3.index t = ![(grid0.coords t 0).val, (grid0.coords t 1).val]
    ∧ win0_4.index t = ![(grid0.coords t 0).val, 4 + (grid0.coords t 1).val] ∧ win0_5.index t = ![(grid0.coords t 0).val, 8 + (grid0.coords t 1).val]
    ∧ win0_6.index t = ![0, 0, (grid0.coords t 1).val] ∧ win0_7.index t = ![(grid0.coords t 0).val, (grid0.coords t 1).val] := by decide +kernel

/-- What one branch adds: its gate, in the columns from `2048 * n` on, times its product with its weights. -/
def branch (n : Fin 3) (y : S32768x1024.Idx → EReal) (g : S32768x6144.Idx → EReal) (w : S3x1024x2048.Idx → EReal) (p : Fin 32768) (z : Fin 2048) : EReal :=
  g (ix2 p ⟨2048 * n.val + z.val, by omega⟩) * ∑ d : Fin 1024, y (ix2 p d) * w (ix3 n d z)

/-- The result at an index. -/
def result (y0 y1 y2 : S32768x1024.Idx → EReal) (g : S32768x6144.Idx → EReal) (w : S3x1024x2048.Idx → EReal) (i : S32768x2048.Idx) : EReal :=
  branch 0 y0 g w (i 0) (i 1) + branch 1 y1 g w (i 0) (i 1) + branch 2 y2 g w (i 0) (i 1)

variable (m : (ℓ : Loc nD τ sig) → Buf (Elt Ideal) ℓ) (c : Dev nD)

/-- The operands, cast. -/
theorem V_first (p : Fin 32768) (d : Fin 1024) : V m c main_v0 (ix2 p d) = m ((c.tc : Thread nD τ).loc main_arg0) (ix2 p d) := by
  unfold_abbrev_sides
  after_results
  pointwise

theorem V_second (p : Fin 32768) (d : Fin 1024) : V m c main_v1 (ix2 p d) = m ((c.tc : Thread nD τ).loc main_arg1) (ix2 p d) := by
  unfold_abbrev_sides
  after_results
  pointwise

theorem V_third (p : Fin 32768) (d : Fin 1024) : V m c main_v2 (ix2 p d) = m ((c.tc : Thread nD τ).loc main_arg2) (ix2 p d) := by
  unfold_abbrev_sides
  after_results
  pointwise

theorem V_gates (p : Fin 32768) (z : Fin 6144) : V m c main_v3 (ix2 p z) = m ((c.tc : Thread nD τ).loc main_arg3) (ix2 p z) := by
  unfold_abbrev_sides
  after_results
  pointwise

theorem V_weights (n : Fin 3) (d : Fin 1024) (z : Fin 2048) : V m c main_v4 (ix3 n d z) = m ((c.tc : Thread nD τ).loc main_arg4) (ix3 n d z) := by
  unfold_abbrev_sides
  after_results
  pointwise

/-- The result, of the call's arguments. -/
def resultAt : S32768x2048.Idx → EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

section
variable (t : Fin cfg0.N)

/-- Row `r` and column `z` of the point's tile. -/
def rowAt (r : Fin 1024) : Fin 32768 := ⟨0 + 1024 * (grid0.coords t 0).val + r.val, tiled_lt (n := 32) (grid0.coords t 0).isLt r 0 32768 (by decide)⟩
def columnAt (z : Fin 512) : Fin 2048 := ⟨0 + 512 * (grid0.coords t 1).val + z.val, tiled_lt (n := 4) (grid0.coords t 1).isLt z 0 2048 (by decide)⟩

theorem block_weights (n : Fin 3) (d : Fin 1024) (z : Fin 512) : iblk m c 6 t (ix3 n d z) = m ((c.tc : Thread nD τ).loc main_arg4) (ix3 n d (columnAt t z)) := by
  refine Eq.trans ?_ (V_weights m c n d _)
  unfold columnAt
  blk_ext [iblk, (index_eq t).2.2.2.2.2.2.1]

/-- A branch's part of a tile, from its rows, its gates and the weights. -/
theorem branch_eq {n : Fin 3} {r : Fin 1024} {z : Fin 512} {a : Vec Ideal S1024x1024 .bf16} {g : Vec Ideal S1024x512 .bf16} {y : S32768x1024.Idx → EReal}
    (ha : ∀ d, a (ix2 r d) = y (ix2 (rowAt t r) d))
    (hg : g (ix2 r z) = m ((c.tc : Thread nD τ).loc main_arg3) (ix2 (rowAt t r) ⟨2048 * n.val + (columnAt t z).val, by have := (columnAt t z).isLt; omega⟩)) :
    (g (ix2 r z) * ∑ d : Fin 1024, a (ix2 r d) * iblk m c 6 t (ix3 n d z) : EReal)
      = branch n y (m ((c.tc : Thread nD τ).loc main_arg3)) (m ((c.tc : Thread nD τ).loc main_arg4)) (rowAt t r) (columnAt t z) :=
  congrArg₂ (· * ·) hg (Finset.sum_congr rfl fun d _ => congrArg₂ (· * ·) (ha d) (block_weights m c t n d z))

end

/-- The result array after the run. -/
theorem array_eq : (dats m 0 c).arrAt 7 cfg0.N = resultAt m c := by
  refine (dats m 0 c).arrAt_eq_of_covers 7 _ (by decide +kernel) fun t hf y => ?_
  obtain ⟨r, z, rfl⟩ := ix2_of (a := 1024) (b := 512) y
  obtain ⟨i0, i1, i2, j0, j1, j2, _, io⟩ := index_eq t
  have e : (win0_7.blk t).view.emb (ix2 r z) = ix2 (rowAt t r) (columnAt t z) := by
    unfold rowAt columnAt
    blk_ext [io]
  have gate (n : Fin 3) (k : Fin 6144) (hk : k.val = 2048 * n.val + (columnAt t z).val) :
      V m c main_v3 (ix2 (rowAt t r) k) = m ((c.tc : Thread nD τ).loc main_arg3) (ix2 (rowAt t r) ⟨2048 * n.val + (columnAt t z).val, by have := (columnAt t z).isLt; omega⟩) := by
    exact (V_gates m c _ k).trans (congrArg (fun k => m ((c.tc : Thread nD τ).loc main_arg3) (ix2 (rowAt t r) k)) (Fin.ext hk))
  have h1 : (grid0.coords t 1).val < 4 := (grid0.coords t 1).isLt
  refine Eq.trans ?_ (congrArg (resultAt m c) e).symm
  refine (congrFun (after0_7 m c t) (ix2 r z)).trans ((out_apply _ _ _ _ _ _ _ r z).trans
    (congrArg₂ (· + ·) (congrArg₂ (· + ·) (branch_eq m c t (fun d => ?_) ?_) (branch_eq m c t (fun d => ?_) ?_)) (branch_eq m c t (fun d => ?_) ?_)))
  · refine Eq.trans ?_ (V_first m c _ d)
    unfold rowAt
    blk_ext [iblk, i0]
  · refine Eq.trans ?_ (gate 0 ⟨0 + 512 * (grid0.coords t 1).val + z.val, by omega⟩ (by
      show 0 + 512 * (grid0.coords t 1).val + z.val = 2048 * 0 + (0 + 512 * (grid0.coords t 1).val + z.val)
      omega))
    unfold rowAt
    blk_ext [iblk, j0]
  · refine Eq.trans ?_ (V_second m c _ d)
    unfold rowAt
    blk_ext [iblk, i1]
  · refine Eq.trans ?_ (gate 1 ⟨0 + 512 * (4 + (grid0.coords t 1).val) + z.val, by omega⟩ (by
      show 0 + 512 * (4 + (grid0.coords t 1).val) + z.val = 2048 * 1 + (0 + 512 * (grid0.coords t 1).val + z.val)
      omega))
    unfold rowAt
    blk_ext [iblk, j1]
  · refine Eq.trans ?_ (V_third m c _ d)
    unfold rowAt
    blk_ext [iblk, i2]
  · refine Eq.trans ?_ (gate 2 ⟨0 + 512 * (8 + (grid0.coords t 1).val) + z.val, by omega⟩ (by
      show 0 + 512 * (8 + (grid0.coords t 1).val) + z.val = 2048 * 2 + (0 + 512 * (grid0.coords t 1).val + z.val)
      omega))
    unfold rowAt
    blk_ext [iblk, j2]

end Cert.MergeIdeal.Merge

namespace Cert.MergeRefIdeal.Merge

open Cert.MergeRefIdeal Cert.MergeRefIdeal.Gen Cert.MergeRefIdeal.Read Cert.Product
open Cert.MergeIdeal.Merge (branch result)
open Idealize.ShloMosaic

variable (x0 x1 x2 : (⟨S32768x1024, .f32⟩ : BufTy).Contents (Elt Ideal)) (x3 : (⟨S32768x6144, .f32⟩ : BufTy).Contents (Elt Ideal)) (x4 : (⟨S3x1024x2048, .f32⟩ : BufTy).Contents (Elt Ideal))

/-- The reference. -/
theorem ref_eq : val_main_v19 (F := Ideal) x0 x1 x2 x3 x4 = result x0 x1 x2 x3 x4 := by
  funext i
  obtain ⟨p, z, rfl⟩ := ix2_of (a := 32768) (b := 2048) i
  unfold val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst result branch
  pointwise

end Cert.MergeRefIdeal.Merge

end
-- ==== Proof.OutArray.lean ====
/- The output projection with its gated residual: its result array, and its reference, are at row `p` and column `z` the
   residual plus the batch's modulation times the product. -/
module

public import proofs.«01_k».proof.Proof.Gen.OutIdeal.Value
public import proofs.«01_k».proof.Proof.Gen.OutRefIdeal.Read
public import proofs.«01_k».proof.Proof.Product

@[expose] public section

set_option maxRecDepth 16384

noncomputable section

namespace Cert.OutIdeal.Output

open Cert.OutIdeal Cert.OutIdeal.Gen Cert.Product
open Idealize.ShloMosaic Idealize.ShloMosaic.TcCoe Idealize.SL.Sem
open Idealize.ShloMosaic.Pipeline (Dat)

/-- One tile of the result. -/
theorem out_apply (a : Vec Ideal S1024x2048 .bf16) (w : Vec Ideal S2048x1024 .bf16) (x : Vec Ideal S1024x1024 .f32) (g : Vec Ideal S1x1x1024 .f32) (r z : Fin 1024) :
    (out0_4 (F := Ideal) a w x g (ix2 r z) : EReal) = x (ix2 r z) + g (ix3 0 0 z) * ∑ d : Fin 2048, a (ix2 r d) * w (ix2 d z) := by
  unfold out0_4
  rw [View.canon_unit_zero (S := S1024x1024) origin, View.ld_unit_zero (S := S1024x2048) origin, View.ld_unit_zero (S := S2048x1024) origin,
    View.ld_unit_zero (S := S1024x1024) origin, View.ld_unit_zero (S := S1x1x1024) origin3]
  unfold k0_pay1
  pointwise

/-- The tile of each array at each grid point: eight tiles of rows to a batch. -/
theorem index_eq : ∀ t : Fin grid0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val / 8, 0, (grid0.coords t 1).val]
    ∧ win0_4.index t = ![(grid0.coords t 0).val, (grid0.coords t 1).val] := by decide +kernel

/-- The result at an index. -/
def result (h : S32768x2048.Idx → EReal) (w : S2048x2048.Idx → EReal) (x : S32768x2048.Idx → EReal) (mod : S4x1x2048.Idx → EReal) (y : S32768x2048.Idx) : EReal :=
  x y + mod (ix3 ⟨(y 0).val / 8192, by have : (y 0).val < 32768 := (y 0).isLt; omega⟩ 0 (y 1)) * ∑ d : Fin 2048, h (ix2 (y 0) d) * w (ix2 d (y 1))

variable (m : (ℓ : Loc nD τ sig) → Buf (Elt Ideal) ℓ) (c : Dev nD)

theorem V_rows (p : Fin 32768) (d : Fin 2048) : V m c main_v0 (ix2 p d) = m ((c.tc : Thread nD τ).loc main_arg0) (ix2 p d) := by
  unfold_abbrev_sides
  after_results
  pointwise

theorem V_weights (d z : Fin 2048) : V m c main_v1 (ix2 d z) = m ((c.tc : Thread nD τ).loc main_arg1) (ix2 d z) := by
  unfold_abbrev_sides
  after_results
  pointwise

/-- The same, of the call's arguments. -/
def resultAt : S32768x2048.Idx → EReal :=
  result (m ((c.tc : Thread nD τ).loc main_arg0)) (m ((c.tc : Thread nD τ).loc main_arg1)) (m ((c.tc : Thread nD τ).loc main_arg2)) (m ((c.tc : Thread nD τ).loc main_arg3))

/-- The result array after the run. -/
theorem array_eq : (dats m 0 c).arrAt 4 cfg0.N = resultAt m c := by
  refine (dats m 0 c).arrAt_eq_of_covers 4 _ (by decide +kernel) fun t hf y => ?_
  obtain ⟨r, z, rfl⟩ := ix2_of (a := 1024) (b := 1024) y
  obtain ⟨ia, iw, ix, im, io⟩ := index_eq t
  have hr := tiled_lt (n := 32) (grid0.coords t 0).isLt r 0 32768 (by decide)
  have hz := tiled_lt (n := 2) (grid0.coords t 1).isLt z 0 2048 (by decide)
  have ht : (grid0.coords t 0).val < 32 := (grid0.coords t 0).isLt
  have hb : 0 + 1 * ((grid0.coords t 0).val / 8) + 0 < 4 := by omega
  have e : (win0_4.blk t).view.emb (ix2 r z) = ix2 ⟨_, hr⟩ ⟨_, hz⟩ := by blk_ext [io]
  refine Eq.trans ?_ (congrArg (resultAt m c) e).symm
  refine (congrFun (after0_4 m c t) (ix2 r z)).trans ((out_apply _ _ _ _ r z).trans (combine ?_ ?_ (Finset.sum_congr rfl fun d _ => congrArg₂ (· * ·) ?_ ?_)))
  · refine Eq.trans ?_ (congrFun (V_main_arg2 m c) _)
    blk_ext [iblk, ix]
  · have q : (⟨_, hb⟩ : Fin 4) = ⟨(0 + 1024 * (grid0.coords t 0).val + r.val) / 8192, by omega⟩ := Fin.ext (by
      have := r.isLt
      show 0 + 1 * ((grid0.coords t 0).val / 8) + 0 = (0 + 1024 * (grid0.coords t 0).val + r.val) / 8192
      omega)
    refine Eq.trans ?_ (congrArg (fun b => m ((c.tc : Thread nD τ).loc main_arg3) (ix3 b 0 ⟨_, hz⟩)) q)
    refine Eq.trans ?_ (congrFun (V_main_arg3 m c) _)
    blk_ext [iblk, im]
  · refine Eq.trans ?_ (V_rows m c _ d)
    blk_ext [iblk, ia]
  · refine Eq.trans ?_ (V_weights m c d ⟨_, hz⟩)
    blk_ext [iblk, iw]

end Cert.OutIdeal.Output

namespace Cert.OutRefIdeal.Output

open Cert.OutRefIdeal Cert.OutRefIdeal.Gen Cert.OutRefIdeal.Read Cert.Product
open Cert.OutIdeal.Output (result)
open Idealize.ShloMosaic

/-- The reference. -/
theorem ref_eq (x0 : (⟨S32768x2048, .f32⟩ : BufTy).Contents (Elt Ideal)) (x1 : (⟨S2048x2048, .f32⟩ : BufTy).Contents (Elt Ideal))
    (x2 : (⟨S32768x2048, .f32⟩ : BufTy).Contents (Elt Ideal)) (x3 : (⟨S4x1x2048, .f32⟩ : BufTy).Contents (Elt Ideal)) :
    val_main_v6 (F := Ideal) x0 x1 x2 x3 = result x0 x1 x2 x3 := by
  funext i
  obtain ⟨p, z, rfl⟩ := ix2_of (a := 32768) (b := 2048) i
  show (val_main_v6 (F := Ideal) x0 x1 x2 x3 (ix2 p z) : EReal)
      = x2 (ix2 p z) + x3 (ix3 ⟨p.val / 8192, by have := p.isLt; omega⟩ 0 z) * ∑ d : Fin 2048, x0 (ix2 p d) * x1 (ix2 d z)
  unfold val_main_v6 val_main_v5 val_main_v4 val_main_v3 val_main_v2 val_main_v1 val_main_v0
  pointwise

end Cert.OutRefIdeal.Output

end
-- ==== Proof.Norm.lean ====
/- The root-mean-square norm of a row, and of a row's groups of columns; a block's columns of one group. -/
module

public import Idealize.ShloMosaic.Lib.Pointwise
public import Idealize.ShloMosaic.Lib.Pipeline.ValueKit

@[expose] public section

noncomputable section

namespace Cert.Norm

open Idealize.ShloMosaic

/-- Element `j` of the row `x` of `k` elements, over the root of the mean square plus 10⁻⁶ (the float next to it), times `w`. -/
def rms {k : ℕ} (n : EReal) (x : Fin k → EReal) (j : Fin k) (w : EReal) : EReal :=
  x j * Ideal.rsqrt (Ideal.div (∑ d : Fin k, x d * x d) n + Ideal.ofBits .f32 0x358637BD#32) * w

theorem rms_congr {k : ℕ} {n : EReal} {x x' : Fin k → EReal} {j : Fin k} {w w' : EReal} (hx : ∀ d, x d = x' d) (hw : w = w') : rms n x j w = rms n x' j w' := by
  rw [funext hx, hw]

/-- The group of `k` columns in which column `z` lies, and the place of `z` in it. -/
def group (k : ℕ) {n : ℕ} (hk : k ∣ n) (x : Fin n → EReal) (z : Fin n) (d : Fin k) : EReal :=
  x ⟨k * (z.val / k) + d.val, by
    obtain ⟨q, rfl⟩ := hk
    have hz : z.val / k < q := Nat.div_lt_of_lt_mul z.isLt
    calc k * (z.val / k) + d.val < k * (z.val / k) + k := Nat.add_lt_add_left d.isLt _
      _ = k * (z.val / k + 1) := (Nat.mul_succ _ _).symm
      _ ≤ k * q := Nat.mul_le_mul_left k hz⟩

def place (k : ℕ) {n : ℕ} (h0 : 0 < k) (z : Fin n) : Fin k := ⟨z.val % k, Nat.mod_lt _ h0⟩

/-- Column `j` of group `h`. -/
theorem group_eq {k n : ℕ} (hk : k ∣ n) (x : Fin n → EReal) {h : ℕ} {j : Fin k} (hz : k * h + j.val < n) (d : Fin k) (hd : k * h + d.val < n) :
    group k hk x ⟨k * h + j.val, hz⟩ d = x ⟨k * h + d.val, hd⟩ := by
  refine congrArg x (Fin.ext ?_)
  show k * ((k * h + j.val) / k) + d.val = k * h + d.val
  rw [Nat.mul_add_div (Nat.lt_of_le_of_lt (Nat.zero_le _) j.isLt), Nat.div_eq_of_lt j.isLt, Nat.add_zero]

theorem place_eq {k n : ℕ} (h0 : 0 < k) {h : ℕ} {j : Fin k} (hz : k * h + j.val < n) : place k h0 (⟨k * h + j.val, hz⟩ : Fin n) = j :=
  Fin.ext (by
    show (k * h + j.val) % k = j.val
    rw [Nat.mul_add_mod, Nat.mod_eq_of_lt j.isLt])

section
variable {e : EltTy} {n k w : ℕ} (h : ℕ) (inb : ∀ a, (![0, k * h] : Fin 2 → ℕ) a + (![n, k] : Fin 2 → ℕ) a ≤ (![n, w] : Fin 2 → ℕ) a) (r : Fin n) (j : Fin k) (hz : k * h + j.val < w)

/-- The columns of group `h`, as a part of a block. -/
theorem columns_emb : (Rect.unit (s := ⟨2, ![n, w]⟩) ![0, k * h] ![n, k] inb).emb (ix2 r j) = ix2 r ⟨k * h + j.val, hz⟩ :=
  funext fun a => Fin.ext (by
    match a with
    | ⟨0, _⟩ => show 0 + 1 * r.val = r.val; omega
    | ⟨1, _⟩ => show k * h + 1 * j.val = k * h + j.val; omega)

theorem columns_apply (x : Vec Ideal ⟨2, ![n, w]⟩ e) :
    View.ld x (Rect.unit (s := ⟨2, ![n, w]⟩) ![0, k * h] ![n, k] inb) (ix2 r j) = x (ix2 r ⟨k * h + j.val, hz⟩) :=
  (View.ld_apply _ _ _).trans (congrArg x (columns_emb h inb r j hz))

end

end Cert.Norm

end
-- ==== Proof.FinalArray.lean ====
/- The final norm: its result array, and its reference, are each row over the root of its mean square, times the weights. -/
module

public import proofs.«01_k».proof.Proof.Gen.FinalIdeal.Value
public import proofs.«01_k».proof.Proof.Gen.FinalRefIdeal.Read
public import proofs.«01_k».proof.Proof.Norm
public import proofs.«01_k».proof.Proof.Product

@[expose] public section

set_option maxRecDepth 16384

noncomputable section

namespace Cert.FinalIdeal.Final

open Cert.FinalIdeal Cert.FinalIdeal.Gen Cert.Product Cert.Norm
open Idealize.ShloMosaic Idealize.ShloMosaic.TcCoe Idealize.SL.Sem
open Idealize.ShloMosaic.Pipeline (Dat)

/-- One tile of the result. -/
theorem out_apply (x : Vec Ideal S512x2048 .f32) (w : Vec Ideal S1x2048 .f32) (r : Fin 512) (z : Fin 2048) :
    (out0_2 (F := Ideal) x w (ix2 r z) : EReal) = rms (Ideal.ofBits .f32 0x45000000#32) (fun d => x (ix2 r d)) z (w (ix2 0 z)) := by
  unfold out0_2
  rw [View.canon_unit_zero (S := S512x2048) origin, View.ld_unit_zero (S := S512x2048) origin, View.ld_unit_zero (S := S1x2048) origin]
  unfold k0_pay1 rms
  pointwise

/-- The tile of each array at each grid point. -/
theorem index_eq : ∀ t : Fin grid0.N, win0_0.index t = ![(grid0.coords t 0).val, 0] ∧ win0_1.index t = ![0, 0]
    ∧ win0_2.index t = ![(grid0.coords t 0).val, 0] := by decide +kernel

/-- The result at an index; the first constant is 2048. -/
def result (x : S32768x2048.Idx → EReal) (w : S2048.Idx → EReal) (y : S32768x2048.Idx) : EReal :=
  rms (Ideal.ofBits .f32 0x45000000#32) (fun d => x (ix2 (y 0) d)) (y 1) (w (ix1 (y 1)))

variable (m : (ℓ : Loc nD τ sig) → Buf (Elt Ideal) ℓ) (c : Dev nD)

theorem V_weights (z : Fin 2048) : V m c main_v0 (ix2 0 z) = m ((c.tc : Thread nD τ).loc main_arg1) (ix1 z) := by
  unfold_abbrev_sides
  after_results
  pointwise

/-- The same, of the call's arguments. -/
def resultAt : S32768x2048.Idx → EReal := result (m ((c.tc : Thread nD τ).loc main_arg0)) (m ((c.tc : Thread nD τ).loc main_arg1))

/-- The result array after the run. -/
theorem array_eq : (dats m 0 c).arrAt 2 cfg0.N = resultAt m c := by
  refine (dats m 0 c).arrAt_eq_of_covers 2 _ (by decide +kernel) fun t hf y => ?_
  obtain ⟨r, z, rfl⟩ := ix2_of (a := 512) (b := 2048) y
  obtain ⟨ix, iw, io⟩ := index_eq t
  have hr := tiled_lt (n := 64) (grid0.coords t 0).isLt r 0 32768 (by decide)
  have e : (win0_2.blk t).view.emb (ix2 r z) = ix2 ⟨_, hr⟩ z := by blk_ext [io]
  refine Eq.trans ?_ (congrArg (resultAt m c) e).symm
  refine (congrFun (after0_2 m c t) (ix2 r z)).trans ((out_apply _ _ r z).trans ?_)
  show rms _ _ z _ = rms _ (fun d => m ((c.tc : Thread nD τ).loc main_arg0) (ix2 ⟨_, hr⟩ d)) z (m ((c.tc : Thread nD τ).loc main_arg1) (ix1 z))
  refine rms_congr (fun d => ?_) ?_
  · refine Eq.trans ?_ (congrFun (V_main_arg0 m c) _)
    blk_ext [iblk, ix]
  · refine Eq.trans ?_ (V_weights m c z)
    blk_ext [iblk, iw]

end Cert.FinalIdeal.Final

namespace Cert.FinalRefIdeal.Final

open Cert.FinalRefIdeal Cert.FinalRefIdeal.Gen Cert.FinalRefIdeal.Read Cert.Product Cert.Norm
open Cert.FinalIdeal.Final (result)
open Idealize.ShloMosaic

/-- The reference. -/
theorem ref_eq (x0 : (⟨S32768x2048, .f32⟩ : BufTy).Contents (Elt Ideal)) (x1 : (⟨S2048, .f32⟩ : BufTy).Contents (Elt Ideal)) :
    val_main_v12 (F := Ideal) x0 x1 = result x0 x1 := by
  funext i
  obtain ⟨p, z, rfl⟩ := ix2_of (a := 32768) (b := 2048) i
  show (val_main_v12 (F := Ideal) x0 x1 (ix2 p z) : EReal) = rms (Ideal.ofBits .f32 0x45000000#32) (fun d => x0 (ix2 p d)) z (x1 (ix1 z))
  unfold val_main_v12 val_main_v11 val_main_v10 val_main_v9 val_main_v8 val_main_v7 val_main_v6 val_main_v5 val_main_v4 val_main_v3 val_main_v2 val_main_v1 val_main_v0 val_main_cst val_main_cst_0 val_main_cst_1 rms
  pointwise

end Cert.FinalRefIdeal.Final

end
-- ==== Proof.ModArray.lean ====
/- The modulated norm before a block: its result array, and its reference, are each row over the root of its mean square,
   times the weights and the batch's scale plus one, plus the batch's shift. -/
module

public import proofs.«01_k».proof.Proof.Gen.ModIdeal.Value
public import proofs.«01_k».proof.Proof.Gen.ModRefIdeal.Read
public import proofs.«01_k».proof.Proof.Norm
public import proofs.«01_k».proof.Proof.Product

@[expose] public section

set_option maxRecDepth 16384

noncomputable section

namespace Cert.ModIdeal.Modulate

open Cert.ModIdeal Cert.ModIdeal.Gen Cert.Product Cert.Norm
open Idealize.ShloMosaic Idealize.ShloMosaic.TcCoe Idealize.SL.Sem
open Idealize.ShloMosaic.Pipeline (Dat)

/-- One tile of the result. -/
theorem out_apply (x : Vec Ideal S1x512x2048 .f32) (w : Vec Ideal S1x2048 .f32) (shift scale : Vec Ideal S1x1x2048 .f32) (r : Fin 512) (z : Fin 2048) :
    (out0_4 (F := Ideal) x w shift scale (ix3 0 r z) : EReal)
      = rms (Ideal.ofBits .f32 0x45000000#32) (fun d => x (ix3 0 r d)) z (w (ix2 0 z)) * (1 + scale (ix3 0 0 z)) + shift (ix3 0 0 z) := by
  unfold out0_4
  rw [View.canon_unit_zero (S := S1x512x2048) origin3, View.ld_unit_zero (S := S1x512x2048) origin3, View.ld_unit_zero (S := S1x2048) origin,
    View.ld_unit_zero (S := S1x1x2048) origin3, View.ld_unit_zero (S := S1x1x2048) origin3]
  unfold k0_pay1 rms
  pointwise

/-- The tile of each array at each grid point: sixteen tiles of rows to a batch. -/
theorem index_eq : ∀ t : Fin grid0.N, win0_0.index t = ![(grid0.coords t 0).val, (grid0.coords t 1).val, 0] ∧ win0_1.index t = ![0, 0]
    ∧ win0_2.index t = ![(grid0.coords t 0).val, 0, 0] ∧ win0_3.index t = ![(grid0.coords t 0).val, 0, 0]
    ∧ win0_4.index t = ![(grid0.coords t 0).val, (grid0.coords t 1).val, 0] := by decide +kernel

/-- The result at an index; the first constant is 2048. -/
def result (x : S4x8192x2048.Idx → EReal) (w : S2048.Idx → EReal) (shift scale : S4x1x2048.Idx → EReal) (y : S4x8192x2048.Idx) : EReal :=
  rms (Ideal.ofBits .f32 0x45000000#32) (fun d => x (ix3 (y 0) (y 1) d)) (y 2) (w (ix1 (y 2))) * (1 + scale (ix3 (y 0) 0 (y 2))) + shift (ix3 (y 0) 0 (y 2))

variable (m : (ℓ : Loc nD τ sig) → Buf (Elt Ideal) ℓ) (c : Dev nD)

theorem V_weights (z : Fin 2048) : V m c main_v0 (ix2 0 z) = m ((c.tc : Thread nD τ).loc main_arg1) (ix1 z) := by
  unfold_abbrev_sides
  after_results
  pointwise

/-- The same, of the call's arguments. -/
def resultAt : S4x8192x2048.Idx → EReal :=
  result (m ((c.tc : Thread nD τ).loc main_arg0)) (m ((c.tc : Thread nD τ).loc main_arg1)) (m ((c.tc : Thread nD τ).loc main_arg2)) (m ((c.tc : Thread nD τ).loc main_arg3))

/-- The result array after the run. -/
theorem array_eq : (dats m 0 c).arrAt 4 cfg0.N = resultAt m c := by
  refine (dats m 0 c).arrAt_eq_of_covers 4 _ (by decide +kernel) fun t hf y => ?_
  obtain ⟨n, r, z, rfl⟩ := ix3_of (a := 1) (b := 512) (c := 2048) y
  obtain rfl : n = 0 := Subsingleton.elim _ _
  obtain ⟨ix, iw, ih, ic, io⟩ := index_eq t
  have hb := tiled_lt (n := 4) (k := 1) (grid0.coords t 0).isLt 0 0 4 (by decide)
  have hr := tiled_lt (n := 16) (grid0.coords t 1).isLt r 0 8192 (by decide)
  have e : (win0_4.blk t).view.emb (ix3 0 r z) = ix3 ⟨_, hb⟩ ⟨_, hr⟩ z := by blk_ext [io]
  refine Eq.trans ?_ (congrArg (resultAt m c) e).symm
  refine (congrFun (after0_4 m c t) (ix3 0 r z)).trans ((out_apply _ _ _ _ r z).trans ?_)
  show rms _ _ z _ * (1 + _) + _ = rms _ (fun d => m ((c.tc : Thread nD τ).loc main_arg0) (ix3 ⟨_, hb⟩ ⟨_, hr⟩ d)) z (m ((c.tc : Thread nD τ).loc main_arg1) (ix1 z))
      * (1 + m ((c.tc : Thread nD τ).loc main_arg3) (ix3 ⟨_, hb⟩ 0 z)) + m ((c.tc : Thread nD τ).loc main_arg2) (ix3 ⟨_, hb⟩ 0 z)
  refine congrArg₂ (· + ·) (congrArg₂ (· * ·) (rms_congr (fun d => ?_) ?_) (congrArg (1 + ·) ?_)) ?_
  · refine Eq.trans ?_ (congrFun (V_main_arg0 m c) _)
    blk_ext [iblk, ix]
  · refine Eq.trans ?_ (V_weights m c z)
    blk_ext [iblk, iw]
  · refine Eq.trans ?_ (congrFun (V_main_arg3 m c) _)
    blk_ext [iblk, ic]
  · refine Eq.trans ?_ (congrFun (V_main_arg2 m c) _)
    blk_ext [iblk, ih]

end Cert.ModIdeal.Modulate

namespace Cert.ModRefIdeal.Modulate

open Cert.ModRefIdeal Cert.ModRefIdeal.Gen Cert.ModRefIdeal.Read Cert.Product Cert.Norm
open Cert.ModIdeal.Modulate (result)
open Idealize.ShloMosaic

/-- The reference. -/
theorem ref_eq (x0 : (⟨S4x8192x2048, .f32⟩ : BufTy).Contents (Elt Ideal)) (x1 : (⟨S2048, .f32⟩ : BufTy).Contents (Elt Ideal)) (x2 x3 : (⟨S4x1x2048, .f32⟩ : BufTy).Contents (Elt Ideal)) :
    val_main_v19 (F := Ideal) x0 x1 x2 x3 = result x0 x1 x2 x3 := by
  funext i
  obtain ⟨b, p, z, rfl⟩ := ix3_of (a := 4) (b := 8192) (c := 2048) i
  show (val_main_v19 (F := Ideal) x0 x1 x2 x3 (ix3 b p z) : EReal)
      = rms (Ideal.ofBits .f32 0x45000000#32) (fun d => x0 (ix3 b p d)) z (x1 (ix1 z)) * (1 + x3 (ix3 b 0 z)) + x2 (ix3 b 0 z)
  unfold val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2 rms
  pointwise

end Cert.ModRefIdeal.Modulate

end
-- ==== Proof.HgoutArray.lean ====
/- The readout of the gated linear recurrence: its result array, and its reference, are in each head the sum of the two
   scans over the root of its mean square, times the weights and the activated gate. -/
module

public import proofs.«01_k».proof.Proof.Gen.HgoutIdeal.Value
public import proofs.«01_k».proof.Proof.Gen.HgoutRefIdeal.Read
public import proofs.«01_k».proof.Proof.Gated
public import proofs.«01_k».proof.Proof.Norm
public import proofs.«01_k».proof.Proof.Product

@[expose] public section

set_option maxRecDepth 16384

noncomputable section

namespace Cert.HgoutIdeal.Readout

open Cert.HgoutIdeal Cert.HgoutIdeal.Gen Cert.Product Cert.Norm Cert.Gated
open Idealize.ShloMosaic Idealize.ShloMosaic.TcCoe Idealize.SL.Sem
open Idealize.ShloMosaic.Pipeline (Dat)

/-- Column `z` of a row: `a` and `b` are the row's two scans, `w` and `g` its weight and gate there; the constant is 128. -/
def readout (a b : Fin 1024 → EReal) (z : Fin 1024) (w g : EReal) : EReal :=
  rms (Ideal.ofBits .f32 0x43000000#32) (group 128 (by decide) (fun k => a k + b k) z) (place 128 (by decide) z) w * silu g

/-- One head's tile, from the loads. -/
def head (a b : Vec Ideal S512x128 .f32) (w : Vec Ideal S1x128 .f32) (g : Vec Ideal S512x128 .f32) (r : Fin 512) (j : Fin 128) : EReal :=
  rms (Ideal.ofBits .f32 0x43000000#32) (fun d : Fin 128 => a (ix2 r d) + b (ix2 r d)) j (w (ix2 0 j)) * silu (g (ix2 r j))

section
variable (a b : Vec Ideal S512x128 .f32) (w : Vec Ideal S1x128 .f32) (g : Vec Ideal S512x128 .f32) (r : Fin 512) (j : Fin 128)

/-- Every head stores `head` of its loads, however the body's operations are split between its parts. -/
theorem pay0 : (k0_pay2 (F := Ideal) a b w g (ix2 r j) : EReal) = head a b w g r j := by
  unfold k0_pay2 head rms silu
  pointwise

theorem pay1 : (k0_pay6 (F := Ideal) (k0_pay3 a b) (k0_pay4 a b) k0_pay5 w g (ix2 r j) : EReal) = head a b w g r j := by
  unfold k0_pay6 k0_pay5 k0_pay4 k0_pay3 head rms silu
  pointwise

theorem pay2 : (k0_pay9 (F := Ideal) (k0_pay7 a b w) g (k0_pay8 g) (ix2 r j) : EReal) = head a b w g r j := by
  unfold k0_pay9 k0_pay8 k0_pay7 head rms silu
  pointwise

theorem pay3 : (k0_pay10 (F := Ideal) a b w g (ix2 r j) : EReal) = head a b w g r j := by
  unfold k0_pay10 head rms silu
  pointwise

theorem pay4 : (k0_pay12 (F := Ideal) (k0_pay11 a b) w g (ix2 r j) : EReal) = head a b w g r j := by
  unfold k0_pay12 k0_pay11 head rms silu
  pointwise

theorem pay5 : (k0_pay15 (F := Ideal) (k0_pay13 a b) (k0_pay14 w) g (ix2 r j) : EReal) = head a b w g r j := by
  unfold k0_pay15 k0_pay14 k0_pay13 head rms silu
  pointwise

theorem pay6 : (k0_pay16 (F := Ideal) a b w g (ix2 r j) : EReal) = head a b w g r j := by
  unfold k0_pay16 head rms silu
  pointwise

theorem pay7 : (k0_pay1 (F := Ideal) a b w g (ix2 r j) : EReal) = head a b w g r j := by
  unfold k0_pay1 head rms silu
  pointwise

end

/-- The block's function. -/
def tile (a b g : Vec Ideal S512x1024 .f32) (w : Vec Ideal S1x1024 .f32) (y : S512x1024.Idx) : EReal :=
  readout (fun k => a (ix2 (y 0) k)) (fun k => b (ix2 (y 0) k)) (y 1) (w (ix2 0 (y 1))) (g (ix2 (y 0) (y 1)))

/-- The store of head `h` is its part of the block's function. -/
theorem piece (a b g : Vec Ideal S512x1024 .f32) (w : Vec Ideal S1x1024 .f32) (h : ℕ) (hh : h < 8)
    (inb : ∀ a, (![0, 128 * h] : Fin 2 → ℕ) a + S512x128.size a ≤ S512x1024.size a)
    (inw : ∀ a, (![0, 128 * h] : Fin 2 → ℕ) a + S1x128.size a ≤ S1x1024.size a)
    {pay : Vec Ideal S512x128 .f32 → Vec Ideal S512x128 .f32 → Vec Ideal S1x128 .f32 → Vec Ideal S512x128 .f32 → FVec Ideal S512x128 .bf16}
    (hp : ∀ a b w g r j, (pay a b w g (ix2 r j) : EReal) = head a b w g r j) (x : S512x128.Idx) :
    pay (View.ld a (Rect.unit (s := S512x1024) ![0, 128 * h] S512x128.size inb)) (View.ld b (Rect.unit (s := S512x1024) ![0, 128 * h] S512x128.size inb))
      (View.ld w (Rect.unit (s := S1x1024) ![0, 128 * h] S1x128.size inw)) (View.ld g (Rect.unit (s := S512x1024) ![0, 128 * h] S512x128.size inb)) x
        = tile a b g w ((Rect.unit (s := S512x1024) ![0, 128 * h] S512x128.size inb).emb x) := by
  obtain ⟨r, j, rfl⟩ := ix2_of (a := 512) (b := 128) x
  have hz (d : Fin 128) : 128 * h + d.val < 1024 := by omega
  refine ((hp _ _ _ _ r j).trans ?_).trans (congrArg (tile a b g w) (columns_emb h inb r j (hz j))).symm
  show _ = readout (fun k => a (ix2 r k)) (fun k => b (ix2 r k)) ⟨128 * h + j.val, hz j⟩ (w (ix2 0 ⟨128 * h + j.val, hz j⟩)) (g (ix2 r ⟨128 * h + j.val, hz j⟩))
  unfold head readout
  rw [place_eq]
  refine congrArg₂ (· * ·) (rms_congr (fun d => ?_) (columns_apply h inw 0 j (hz j) w)) (congrArg silu (columns_apply h inb r j (hz j) g))
  rw [group_eq _ _ (hz j) d (hz d)]
  exact congrArg₂ (· + ·) (columns_apply h inb r d (hz d) a) (columns_apply h inb r d (hz d) b)

theorem out_apply (a b g : Vec Ideal S512x1024 .f32) (w : Vec Ideal S1x1024 .f32) (y : S512x1024.Idx) :
    (out0_4 (F := Ideal) a b g w y : EReal) = tile a b g w y := by
  unfold out0_4
  refine View.canon_apply_of_pieces (Val := Elt Ideal) (e := .bf16) (tile a b g w) _ ?_ y (cover0_4 _ _ _ _ _ _ _ _ y)
  simp only [List.forall_mem_cons, List.not_mem_nil, false_imp_iff, implies_true, and_true]
  exact ⟨piece a b g w 7 (by decide) inb_S512x1024_S512x128_0_896 inb_S1x1024_S1x128_0_896 pay7, piece a b g w 6 (by decide) inb_S512x1024_S512x128_0_768 inb_S1x1024_S1x128_0_768 pay6,
    piece a b g w 5 (by decide) inb_S512x1024_S512x128_0_640 inb_S1x1024_S1x128_0_640 pay5, piece a b g w 4 (by decide) inb_S512x1024_S512x128_0_512 inb_S1x1024_S1x128_0_512 pay4,
    piece a b g w 3 (by decide) inb_S512x1024_S512x128_0_384 inb_S1x1024_S1x128_0_384 pay3, piece a b g w 2 (by decide) inb_S512x1024_S512x128_0_256 inb_S1x1024_S1x128_0_256 pay2,
    piece a b g w 1 (by decide) inb_S512x1024_S512x128_0_128 inb_S1x1024_S1x128_0_128 pay1, piece a b g w 0 (by decide) inb_S512x1024_S512x128_0_0 inb_S1x1024_S1x128_0_0 pay0⟩

/-- The tile of each array at each grid point: the gate's columns are the fifth 1024. -/
theorem index_eq : ∀ t : Fin grid0.N, win0_0.index t = ![(grid0.coords t 0).val, 0] ∧ win0_1.index t = ![(grid0.coords t 0).val, 0]
    ∧ win0_2.index t = ![(grid0.coords t 0).val, 4] ∧ win0_3.index t = ![0, 0] ∧ win0_4.index t = ![(grid0.coords t 0).val, 0] := by decide +kernel

/-- The result at an index. -/
def result (a b : S32768x1024.Idx → EReal) (p : S32768x5120.Idx → EReal) (w : S1024.Idx → EReal) (y : S32768x1024.Idx) : EReal :=
  readout (fun k => a (ix2 (y 0) k)) (fun k => b (ix2 (y 0) k)) (y 1) (w (ix1 (y 1)))
    (p (ix2 (y 0) ⟨4096 + (y 1).val, by have : (y 1).val < 1024 := (y 1).isLt; omega⟩))

variable (m : (ℓ : Loc nD τ sig) → Buf (Elt Ideal) ℓ) (c : Dev nD)

theorem V_weights (z : Fin 1024) : V m c main_v0 (ix2 0 z) = m ((c.tc : Thread nD τ).loc main_arg3) (ix1 z) := by
  unfold_abbrev_sides
  after_results
  pointwise

/-- The same, of the call's arguments. -/
def resultAt : S32768x1024.Idx → EReal :=
  result (m ((c.tc : Thread nD τ).loc main_arg0)) (m ((c.tc : Thread nD τ).loc main_arg1)) (m ((c.tc : Thread nD τ).loc main_arg2)) (m ((c.tc : Thread nD τ).loc main_arg3))

theorem readout_congr {a a' b b' : Fin 1024 → EReal} {z : Fin 1024} {w w' g g' : EReal} (ha : ∀ k, a k = a' k) (hb : ∀ k, b k = b' k) (hw : w = w') (hg : g = g') :
    readout a b z w g = readout a' b' z w' g' := by rw [funext ha, funext hb, hw, hg]

/-- The result array after the run. -/
theorem array_eq : (dats m 0 c).arrAt 4 cfg0.N = resultAt m c := by
  refine (dats m 0 c).arrAt_eq_of_covers 4 _ (by decide +kernel) fun t hf y => ?_
  obtain ⟨r, z, rfl⟩ := ix2_of (a := 512) (b := 1024) y
  obtain ⟨ia, ib, ig, iw, io⟩ := index_eq t
  have hr := tiled_lt (n := 64) (grid0.coords t 0).isLt r 0 32768 (by decide)
  have e : (win0_4.blk t).view.emb (ix2 r z) = ix2 ⟨_, hr⟩ z := by blk_ext [io]
  refine Eq.trans ?_ (congrArg (resultAt m c) e).symm
  refine (congrFun (after0_4 m c t) (ix2 r z)).trans ((out_apply _ _ _ _ _).trans ?_)
  refine readout_congr (fun k => ?_) (fun k => ?_) ?_ ?_
  · refine Eq.trans ?_ (congrFun (V_main_arg0 m c) _)
    blk_ext [iblk, ia]
  · refine Eq.trans ?_ (congrFun (V_main_arg1 m c) _)
    blk_ext [iblk, ib]
  · refine Eq.trans ?_ (V_weights m c z)
    blk_ext [iblk, iw]
  · refine Eq.trans ?_ (congrFun (V_main_arg2 m c) _)
    blk_ext [iblk, ig]

end Cert.HgoutIdeal.Readout

namespace Cert.HgoutRefIdeal.Readout

open Cert.HgoutRefIdeal Cert.HgoutRefIdeal.Gen Cert.HgoutRefIdeal.Read Cert.Product Cert.Norm Cert.Gated
open Cert.HgoutIdeal.Readout (result readout)
open Idealize.ShloMosaic

variable (x0 x1 : (⟨S32768x1024, .f32⟩ : BufTy).Contents (Elt Ideal)) (x2 : (⟨S32768x5120, .f32⟩ : BufTy).Contents (Elt Ideal)) (x3 : (⟨S1024, .f32⟩ : BufTy).Contents (Elt Ideal))

/-- The activated gate. -/
theorem activated (p : Fin 32768) (z : Fin 1024) : (val_main_v18 (F := Ideal) x2 (ix2 p z) : EReal) = silu (x2 (ix2 p ⟨4096 + z.val, by omega⟩)) := by
  refine Eq.trans ?_ (silu_eq _)
  unfold val_main_v18 val_main_call0_v5 val_main_call0_v4 val_main_call0_v3 val_main_call0_v2 val_main_call0_v1 val_main_call0_v0 val_main_call0_cst val_main_call0_cst_0 val_main_v0
  pointwise

/-- The norm of one head. -/
theorem normed (p : Fin 32768) (h : Fin 8) (j : Fin 128) : (val_main_v16 (F := Ideal) x0 x1 x3 (ix3 p h j) : EReal)
    = rms (Ideal.ofBits .f32 0x43000000#32) (fun d : Fin 128 => x0 (ix2 p ⟨h.val * 128 + d.val, by omega⟩) + x1 (ix2 p ⟨h.val * 128 + d.val, by omega⟩)) j (x3 (ix1 ⟨h.val * 128 + j.val, by omega⟩)) := by
  unfold val_main_v16 val_main_v15 val_main_v14 val_main_v13 val_main_v12 val_main_v11 val_main_v10 val_main_v9 val_main_v8 val_main_v7 val_main_v6 val_main_v5 val_main_v4 val_main_v3 val_main_v2 val_main_v1 val_main_cst val_main_cst_0 val_main_cst_1 rms
  pointwise

/-- The reference. -/
theorem ref_eq : val_main_v20 (F := Ideal) x0 x1 x2 x3 = result x0 x1 x2 x3 := by
  funext i
  obtain ⟨p, z, rfl⟩ := ix2_of (a := 32768) (b := 1024) i
  have h : (val_main_v20 (F := Ideal) x0 x1 x2 x3 (ix2 p z) : EReal)
      = val_main_v16 (F := Ideal) x0 x1 x3 (ix3 p ⟨z.val / 128, by omega⟩ ⟨z.val % 128, by omega⟩) * val_main_v18 (F := Ideal) x2 (ix2 p z) := by
    unfold val_main_v20 val_main_v19 val_main_v17
    pointwise
  refine h.trans (congrArg₂ (· * ·) ((normed x0 x1 x3 p _ _).trans (rms_congr (fun d => ?_) ?_)) (activated x2 p z))
  · exact congrArg (fun k => x0 (ix2 p k) + x1 (ix2 p k)) (Fin.ext (congrArg (· + d.val) (Nat.mul_comm _ _)))
  · exact congrArg (fun k => x3 (ix1 k)) (Fin.ext (Nat.div_add_mod' z.val 128))

end Cert.HgoutRefIdeal.Readout

end
-- ==== Proof.SsdoutArray.lean ====
/- The readout of the state-space branch: its result array, and its reference, are in each group of heads the gated sum of
   the two scans over the root of its mean square, times the weights. -/
module

public import proofs.«01_k».proof.Proof.Gen.SsdoutIdeal.Value
public import proofs.«01_k».proof.Proof.Gen.SsdoutRefIdeal.Read
public import proofs.«01_k».proof.Proof.Gated
public import proofs.«01_k».proof.Proof.Norm
public import proofs.«01_k».proof.Proof.Product

@[expose] public section

set_option maxRecDepth 16384

noncomputable section

namespace Cert.SsdoutIdeal.Readout

open Cert.SsdoutIdeal Cert.SsdoutIdeal.Gen Cert.Product Cert.Norm Cert.Gated
open Idealize.ShloMosaic Idealize.ShloMosaic.TcCoe Idealize.SL.Sem
open Idealize.ShloMosaic.Pipeline (Dat)

/-- Column `z` of a row: `a` and `b` are the row's two scans, `g` its gates and `w` the weight; the constant is 256. -/
def readout (a b g : Fin 1024 → EReal) (z : Fin 1024) (w : EReal) : EReal :=
  rms (Ideal.ofBits .f32 0x43800000#32) (group 256 (by decide) (fun k => (a k + b k) * silu (g k)) z) (place 256 (by decide) z) w

theorem readout_congr {a a' b b' g g' : Fin 1024 → EReal} {z : Fin 1024} {w w' : EReal} (ha : ∀ k, a k = a' k) (hb : ∀ k, b k = b' k) (hg : ∀ k, g k = g' k) (hw : w = w') :
    readout a b g z w = readout a' b' g' z w' := by rw [funext ha, funext hb, funext hg, hw]

/-- One group's tile, from the loads. -/
def part (a b g : Vec Ideal S512x256 .f32) (w : Vec Ideal S1x256 .f32) (r : Fin 512) (j : Fin 256) : EReal :=
  rms (Ideal.ofBits .f32 0x43800000#32) (fun d : Fin 256 => (a (ix2 r d) + b (ix2 r d)) * silu (g (ix2 r d))) j (w (ix2 0 j))

section
variable (a b g : Vec Ideal S512x256 .f32) (w : Vec Ideal S1x256 .f32) (r : Fin 512) (j : Fin 256)

/-- Every group stores `part` of its loads, however the body's operations are split between its parts. -/
theorem pay0 : (k0_pay3 (F := Ideal) a b g w (ix2 r j) : EReal) = part a b g w r j := by
  unfold k0_pay3 part rms silu
  pointwise

theorem pay1 : (k0_pay7 (F := Ideal) (k0_pay4 a b) g (k0_pay5 g) k0_pay6 w (ix2 r j) : EReal) = part a b g w r j := by
  unfold k0_pay7 k0_pay6 k0_pay5 k0_pay4 part rms silu
  pointwise

theorem pay2 : (k0_pay1 (F := Ideal) (k0_pay8 a b g) w (ix2 r j) : EReal) = part a b g w r j := by
  unfold k0_pay1 k0_pay8 part rms silu
  pointwise

theorem pay3 : (k0_pay2 (F := Ideal) a b g w (ix2 r j) : EReal) = part a b g w r j := by
  unfold k0_pay2 part rms silu
  pointwise

end

/-- The block's function. -/
def tile (a b g : Vec Ideal S512x1024 .f32) (w : Vec Ideal S1x1024 .f32) (y : S512x1024.Idx) : EReal :=
  readout (fun k => a (ix2 (y 0) k)) (fun k => b (ix2 (y 0) k)) (fun k => g (ix2 (y 0) k)) (y 1) (w (ix2 0 (y 1)))

/-- The store of group `h` is its part of the block's function. -/
theorem piece (a b g : Vec Ideal S512x1024 .f32) (w : Vec Ideal S1x1024 .f32) (h : ℕ) (hh : h < 4)
    (inb : ∀ a, (![0, 256 * h] : Fin 2 → ℕ) a + S512x256.size a ≤ S512x1024.size a)
    (inw : ∀ a, (![0, 256 * h] : Fin 2 → ℕ) a + S1x256.size a ≤ S1x1024.size a)
    {pay : Vec Ideal S512x256 .f32 → Vec Ideal S512x256 .f32 → Vec Ideal S512x256 .f32 → Vec Ideal S1x256 .f32 → FVec Ideal S512x256 .bf16}
    (hp : ∀ a b g w r j, (pay a b g w (ix2 r j) : EReal) = part a b g w r j) (x : S512x256.Idx) :
    pay (View.ld a (Rect.unit (s := S512x1024) ![0, 256 * h] S512x256.size inb)) (View.ld b (Rect.unit (s := S512x1024) ![0, 256 * h] S512x256.size inb))
      (View.ld g (Rect.unit (s := S512x1024) ![0, 256 * h] S512x256.size inb)) (View.ld w (Rect.unit (s := S1x1024) ![0, 256 * h] S1x256.size inw)) x
        = tile a b g w ((Rect.unit (s := S512x1024) ![0, 256 * h] S512x256.size inb).emb x) := by
  obtain ⟨r, j, rfl⟩ := ix2_of (a := 512) (b := 256) x
  have hz (d : Fin 256) : 256 * h + d.val < 1024 := by omega
  refine ((hp _ _ _ _ r j).trans ?_).trans (congrArg (tile a b g w) (columns_emb h inb r j (hz j))).symm
  show _ = readout (fun k => a (ix2 r k)) (fun k => b (ix2 r k)) (fun k => g (ix2 r k)) ⟨256 * h + j.val, hz j⟩ (w (ix2 0 ⟨256 * h + j.val, hz j⟩))
  unfold part readout
  rw [place_eq]
  refine rms_congr (fun d => ?_) (columns_apply h inw 0 j (hz j) w)
  rw [group_eq _ _ (hz j) d (hz d)]
  exact congrArg₂ (· * ·) (congrArg₂ (· + ·) (columns_apply h inb r d (hz d) a) (columns_apply h inb r d (hz d) b)) (congrArg silu (columns_apply h inb r d (hz d) g))

theorem out_apply (a b g : Vec Ideal S512x1024 .f32) (w : Vec Ideal S1x1024 .f32) (y : S512x1024.Idx) :
    (out0_4 (F := Ideal) a b g w y : EReal) = tile a b g w y := by
  unfold out0_4
  refine View.canon_apply_of_pieces (Val := Elt Ideal) (e := .bf16) (tile a b g w) _ ?_ y (cover0_4 _ _ _ _ y)
  simp only [List.forall_mem_cons, List.not_mem_nil, false_imp_iff, implies_true, and_true]
  exact ⟨piece a b g w 3 (by decide) inb_S512x1024_S512x256_0_768 inb_S1x1024_S1x256_0_768 pay3, piece a b g w 2 (by decide) inb_S512x1024_S512x256_0_512 inb_S1x1024_S1x256_0_512 pay2,
    piece a b g w 1 (by decide) inb_S512x1024_S512x256_0_256 inb_S1x1024_S1x256_0_256 pay1, piece a b g w 0 (by decide) inb_S512x1024_S512x256_0_0 inb_S1x1024_S1x256_0_0 pay0⟩

/-- The tile of each array at each grid point: the gates are the first 1024 columns. -/
theorem index_eq : ∀ t : Fin grid0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![(grid0.coords t 0).val, 0] := by decide +kernel

/-- The result at an index. -/
def result (a b : S32768x1024.Idx → EReal) (p : S32768x3072.Idx → EReal) (w : S1024.Idx → EReal) (y : S32768x1024.Idx) : EReal :=
  readout (fun k => a (ix2 (y 0) k)) (fun k => b (ix2 (y 0) k)) (fun k => p (ix2 (y 0) ⟨k.val, by omega⟩)) (y 1) (w (ix1 (y 1)))

variable (m : (ℓ : Loc nD τ sig) → Buf (Elt Ideal) ℓ) (c : Dev nD)

theorem V_weights (z : Fin 1024) : V m c main_v0 (ix2 0 z) = m ((c.tc : Thread nD τ).loc main_arg3) (ix1 z) := by
  unfold_abbrev_sides
  after_results
  pointwise

/-- The same, of the call's arguments. -/
def resultAt : S32768x1024.Idx → EReal :=
  result (m ((c.tc : Thread nD τ).loc main_arg0)) (m ((c.tc : Thread nD τ).loc main_arg1)) (m ((c.tc : Thread nD τ).loc main_arg2)) (m ((c.tc : Thread nD τ).loc main_arg3))

/-- The result array after the run. -/
theorem array_eq : (dats m 0 c).arrAt 4 cfg0.N = resultAt m c := by
  refine (dats m 0 c).arrAt_eq_of_covers 4 _ (by decide +kernel) fun t hf y => ?_
  obtain ⟨r, z, rfl⟩ := ix2_of (a := 512) (b := 1024) y
  obtain ⟨ia, ib, ig, iw, io⟩ := index_eq t
  have hr := tiled_lt (n := 64) (grid0.coords t 0).isLt r 0 32768 (by decide)
  have e : (win0_4.blk t).view.emb (ix2 r z) = ix2 ⟨_, hr⟩ z := by blk_ext [io]
  refine Eq.trans ?_ (congrArg (resultAt m c) e).symm
  refine (congrFun (after0_4 m c t) (ix2 r z)).trans ((out_apply _ _ _ _ _).trans ?_)
  refine readout_congr (fun k => ?_) (fun k => ?_) (fun k => ?_) ?_
  · refine Eq.trans ?_ (congrFun (V_main_arg0 m c) _)
    blk_ext [iblk, ia]
  · refine Eq.trans ?_ (congrFun (V_main_arg1 m c) _)
    blk_ext [iblk, ib]
  · refine Eq.trans ?_ (congrFun (V_main_arg2 m c) _)
    blk_ext [iblk, ig]
  · refine Eq.trans ?_ (V_weights m c z)
    blk_ext [iblk, iw]

end Cert.SsdoutIdeal.Readout

namespace Cert.SsdoutRefIdeal.Readout

open Cert.SsdoutRefIdeal Cert.SsdoutRefIdeal.Gen Cert.SsdoutRefIdeal.Read Cert.Product Cert.Norm Cert.Gated
open Cert.SsdoutIdeal.Readout (result readout)
open Idealize.ShloMosaic

variable (x0 x1 : (⟨S32768x1024, .f32⟩ : BufTy).Contents (Elt Ideal)) (x2 : (⟨S32768x3072, .f32⟩ : BufTy).Contents (Elt Ideal)) (x3 : (⟨S1024, .f32⟩ : BufTy).Contents (Elt Ideal))

/-- The gated sum of the scans. -/
theorem activated (p : Fin 32768) (z : Fin 1024) : (val_main_v3 (F := Ideal) x0 x1 x2 (ix2 p z) : EReal) = (x0 (ix2 p z) + x1 (ix2 p z)) * silu (x2 (ix2 p ⟨z.val, by omega⟩)) := by
  refine Eq.trans ?_ (congrArg ((x0 (ix2 p z) + x1 (ix2 p z)) * ·) (silu_eq _))
  unfold val_main_v3 val_main_v2 val_main_v1 val_main_call0_v5 val_main_call0_v4 val_main_call0_v3 val_main_call0_v2 val_main_call0_v1 val_main_call0_v0 val_main_call0_cst val_main_call0_cst_0 val_main_v0
  pointwise

/-- The norm of one group. -/
theorem normed (p : Fin 32768) (h : Fin 4) (j : Fin 256) : (val_main_v18 (F := Ideal) x0 x1 x2 x3 (ix3 p h j) : EReal)
    = rms (Ideal.ofBits .f32 0x43800000#32) (fun d : Fin 256 => val_main_v3 (F := Ideal) x0 x1 x2 (ix2 p ⟨h.val * 256 + d.val, by omega⟩)) j (x3 (ix1 ⟨h.val * 256 + j.val, by omega⟩)) := by
  unfold val_main_v18 val_main_v17 val_main_v16 val_main_v15 val_main_v14 val_main_v13 val_main_v12 val_main_v11 val_main_v10 val_main_v9 val_main_v8 val_main_v7 val_main_v6 val_main_v5 val_main_v4 val_main_cst val_main_cst_0 val_main_cst_1 rms
  pointwise

/-- The reference. -/
theorem ref_eq : val_main_v20 (F := Ideal) x0 x1 x2 x3 = result x0 x1 x2 x3 := by
  funext i
  obtain ⟨p, z, rfl⟩ := ix2_of (a := 32768) (b := 1024) i
  have h : (val_main_v20 (F := Ideal) x0 x1 x2 x3 (ix2 p z) : EReal) = val_main_v18 (F := Ideal) x0 x1 x2 x3 (ix3 p ⟨z.val / 256, by omega⟩ ⟨z.val % 256, by omega⟩) := by
    unfold val_main_v20 val_main_v19
    pointwise
  refine h.trans ((normed x0 x1 x2 x3 p _ _).trans (rms_congr (fun d => ?_) ?_))
  · refine (activated x0 x1 x2 p _).trans ?_
    exact congrArg (fun k : Fin 1024 => (x0 (ix2 p k) + x1 (ix2 p k)) * silu (x2 (ix2 p ⟨k.val, by omega⟩))) (Fin.ext (congrArg (· + d.val) (Nat.mul_comm _ _)))
  · exact congrArg (fun k => x3 (ix1 k)) (Fin.ext (Nat.div_add_mod' z.val 256))

end Cert.SsdoutRefIdeal.Readout

end
-- ==== Proof.AdaArray.lean ====
/- The modulation from the conditioning vectors: its result array, and its reference, are the product of the activated
   vectors with the weights plus the bias. -/
module

public import proofs.«01_k».proof.Proof.Gen.AdaIdeal.Value
public import proofs.«01_k».proof.Proof.Gen.AdaRefIdeal.Read
public import proofs.«01_k».proof.Proof.Gated
public import proofs.«01_k».proof.Proof.Product

@[expose] public section

set_option maxRecDepth 16384

noncomputable section

namespace Cert.AdaIdeal.Modulation

open Cert.AdaIdeal Cert.AdaIdeal.Gen Cert.Product Cert.Gated
open Idealize.ShloMosaic Idealize.ShloMosaic.TcCoe Idealize.SL.Sem
open Idealize.ShloMosaic.Pipeline (Dat)

/-- One tile of the result. -/
theorem out_apply (x : Vec Ideal S8x2048 .f32) (w : Vec Ideal S2048x1024 .f32) (b : Vec Ideal S1x1024 .f32) (r : Fin 8) (z : Fin 1024) :
    (out0_3 (F := Ideal) x w b (ix2 r z) : EReal) = (∑ d : Fin 2048, silu (x (ix2 r d)) * w (ix2 d z)) + b (ix2 0 z) := by
  unfold out0_3
  rw [View.canon_unit_zero (S := S8x1024) origin, View.ld_unit_zero (S := S8x2048) origin, View.ld_unit_zero (S := S2048x1024) origin,
    View.ld_unit_zero (S := S1x1024) origin]
  unfold k0_pay1 silu
  pointwise

/-- The tile of each array at each grid point. -/
theorem index_eq : ∀ t : Fin grid0.N, win0_0.index t = ![0, 0] ∧ win0_1.index t = ![0, (grid0.coords t 0).val]
    ∧ win0_2.index t = ![0, (grid0.coords t 0).val] ∧ win0_3.index t = ![0, (grid0.coords t 0).val] := by decide +kernel

/-- The result at an index. -/
def result (x : S8x2048.Idx → EReal) (w : S2048x12288.Idx → EReal) (b : S12288.Idx → EReal) (y : S8x12288.Idx) : EReal :=
  (∑ d : Fin 2048, silu (x (ix2 (y 0) d)) * w (ix2 d (y 1))) + b (ix1 (y 1))

variable (m : (ℓ : Loc nD τ sig) → Buf (Elt Ideal) ℓ) (c : Dev nD)

theorem V_bias (z : Fin 12288) : V m c main_v0 (ix2 0 z) = m ((c.tc : Thread nD τ).loc main_arg2) (ix1 z) := by
  unfold_abbrev_sides
  after_results
  pointwise

/-- The same, of the call's arguments. -/
def resultAt : S8x12288.Idx → EReal :=
  result (m ((c.tc : Thread nD τ).loc main_arg0)) (m ((c.tc : Thread nD τ).loc main_arg1)) (m ((c.tc : Thread nD τ).loc main_arg2))

/-- The result array after the run. -/
theorem array_eq : (dats m 0 c).arrAt 3 cfg0.N = resultAt m c := by
  refine (dats m 0 c).arrAt_eq_of_covers 3 _ (by decide +kernel) fun t hf y => ?_
  obtain ⟨r, z, rfl⟩ := ix2_of (a := 8) (b := 1024) y
  obtain ⟨ix, iw, ib, io⟩ := index_eq t
  have hz := tiled_lt (n := 12) (grid0.coords t 0).isLt z 0 12288 (by decide)
  have e : (win0_3.blk t).view.emb (ix2 r z) = ix2 r ⟨_, hz⟩ := by blk_ext [io]
  refine Eq.trans ?_ (congrArg (resultAt m c) e).symm
  refine (congrFun (after0_3 m c t) (ix2 r z)).trans ((out_apply _ _ _ r z).trans
    (congrArg₂ (· + ·) (Finset.sum_congr rfl fun d _ => congrArg₂ (· * ·) (congrArg silu ?_) ?_) ?_))
  · refine Eq.trans ?_ (congrFun (V_main_arg0 m c) _)
    blk_ext [iblk, ix]
  · refine Eq.trans ?_ (congrFun (V_main_arg1 m c) _)
    blk_ext [iblk, iw]
  · refine Eq.trans ?_ (V_bias m c ⟨_, hz⟩)
    blk_ext [iblk, ib]

end Cert.AdaIdeal.Modulation

namespace Cert.AdaRefIdeal.Modulation

open Cert.AdaRefIdeal Cert.AdaRefIdeal.Gen Cert.AdaRefIdeal.Read Cert.Product Cert.Gated
open Cert.AdaIdeal.Modulation (result)
open Idealize.ShloMosaic

variable (x0 : (⟨S8x2048, .f32⟩ : BufTy).Contents (Elt Ideal)) (x1 : (⟨S2048x12288, .f32⟩ : BufTy).Contents (Elt Ideal)) (x2 : (⟨S12288, .f32⟩ : BufTy).Contents (Elt Ideal))

/-- The activation. -/
theorem activated (r : Fin 8) (d : Fin 2048) : (val_main_v0 (F := Ideal) x0 (ix2 r d) : EReal) = silu (x0 (ix2 r d)) := by
  refine Eq.trans ?_ (silu_eq _)
  unfold val_main_v0 val_main_call0_v5 val_main_call0_v4 val_main_call0_v3 val_main_call0_v2 val_main_call0_v1 val_main_call0_v0 val_main_call0_cst val_main_call0_cst_0
  pointwise

/-- The reference. -/
theorem ref_eq : val_main_v4 (F := Ideal) x0 x1 x2 = result x0 x1 x2 := by
  funext i
  obtain ⟨r, z, rfl⟩ := ix2_of (a := 8) (b := 12288) i
  have h : (val_main_v4 (F := Ideal) x0 x1 x2 (ix2 r z) : EReal) = (∑ d : Fin 2048, val_main_v0 (F := Ideal) x0 (ix2 r d) * x1 (ix2 d z)) + x2 (ix1 z) := by
    unfold val_main_v4 val_main_v3 val_main_v2 val_main_v1
    pointwise
  exact h.trans (congrArg (· + x2 (ix1 z)) (Finset.sum_congr rfl fun d _ => congrArg (· * x1 (ix2 d z)) (activated x0 r d)))

end Cert.AdaRefIdeal.Modulation

end
-- ==== Proof.DtArray.lean ====
/- The step sizes' projection: its result array, and its reference, are the product with the 32 columns of the weights from
   column 8192 on, and zero in the 96 columns after them. -/
module

public import proofs.«01_k».proof.Proof.Gen.DtIdeal.Value
public import proofs.«01_k».proof.Proof.Gen.DtRefIdeal.Read
public import proofs.«01_k».proof.Proof.Product
public import Idealize.ShloMosaic.Lib.Routing.OpsPair
public import Idealize.ShloMosaic.Lib.Routing.OpsSet
public import Idealize.ShloMosaic.Lib.KernelVsHost

@[expose] public section

set_option maxRecDepth 16384

noncomputable section

namespace Cert.DtIdeal.StepSize

open Cert.DtIdeal Cert.DtIdeal.Gen Cert.Product
open Idealize.ShloMosaic Idealize.ShloMosaic.TcCoe Idealize.SL.Sem
open Idealize.ShloMosaic.Pipeline (Dat)

/-- One tile of the result. -/
theorem out_apply (h : Vec Ideal S1024x2048 .bf16) (w : Vec Ideal S2048x128 .bf16) (r : Fin 1024) (z : Fin 128) :
    (out0_2 (F := Ideal) h w (ix2 r z) : EReal) = ∑ d : Fin 2048, h (ix2 r d) * w (ix2 d z) := by
  unfold out0_2
  rw [View.canon_unit_zero (S := S1024x128) origin, View.ld_unit_zero (S := S1024x2048) origin, View.ld_unit_zero (S := S2048x128) origin]
  unfold k0_pay1
  pointwise

/-- The tile of each array at each grid point. -/
theorem index_eq : ∀ t : Fin grid0.N, win0_0.index t = ![(grid0.coords t 0).val, 0] ∧ win0_1.index t = ![0, 0]
    ∧ win0_2.index t = ![(grid0.coords t 0).val, 0] := by decide +kernel

/-- The weights of column `z`: those of the step sizes, then zeros. -/
def weight (w : Weights) (d : Fin 2048) (z : Fin 128) : EReal := if h : z.val < 32 then w (ix2 d ⟨8192 + z.val, by omega⟩) else 0

/-- The result at an index. -/
def result (h : Rows) (w : Weights) (y : S32768x128.Idx) : EReal := ∑ d : Fin 2048, h (ix2 (y 0) d) * weight w d (y 1)

/-- An update of the first columns at index word zero lands at its own row and column. -/
theorem lands (idx : IVec S1 32) (hidx : ∀ i, idx i = 0#32) (d' d : Fin 2048) (z' : Fin 32) (z : Fin 128) :
    scatter_S2048x128_S1_S2048x32_01_n_1_0.resultIdx? (ix2 d' z') idx = some (ix2 d z) ↔ d' = d ∧ z'.val = z.val := by
  have w0 : scatter_S2048x128_S1_S2048x32_01_n_1_0.window (ix2 d' z') 0 = d'.val := rfl
  have w1 : scatter_S2048x128_S1_S2048x32_01_n_1_0.window (ix2 d' z') 1 = z'.val := rfl
  have s0 : scatter_S2048x128_S1_S2048x32_01_n_1_0.start (ix2 d' z') idx 0 = 0 := rfl
  have s1 : scatter_S2048x128_S1_S2048x32_01_n_1_0.start (ix2 d' z') idx 1 = 0 := (congrArg BitVec.toInt (hidx _) : _)
  rw [Fin.ext_iff]
  refine (Routing.resultIdx?_ix2 (R := 2048) (C := 128) _ _ idx d z).trans ?_
  rw [w0, w1, s0, s1]
  omega

/-- Zeros with the first 32 columns set. -/
theorem set_apply (x : Vec Ideal S2048x128 .bf16) (idx : IVec S1 32) (hidx : ∀ i, idx i = 0#32) (u : Vec Ideal S2048x32 .bf16) (d : Fin 2048) (z : Fin 128) :
    Host.scatter scatter_S2048x128_S1_S2048x32_01_n_1_0 (fun _ b => b) x idx u (ix2 d z) = if h : z.val < 32 then u (ix2 d ⟨z.val, h⟩) else x (ix2 d z) := by
  have own (j : S2048x32.Idx) (hj : scatter_S2048x128_S1_S2048x32_01_n_1_0.resultIdx? j idx = some (ix2 d z)) : ∃ z' : Fin 32, j = ix2 d z' ∧ z'.val = z.val := by
    obtain ⟨d', z', rfl⟩ := ix2_of (a := 2048) (b := 32) j
    obtain ⟨rfl, e⟩ := (lands idx hidx d' d z' z).mp hj
    exact ⟨z', rfl, e⟩
  by_cases h : z.val < 32
  · rw [dif_pos h]
    refine Routing.scatter_set_hit _ x idx u _ _ (fun j hj => ?_) (ix2 d ⟨z.val, h⟩) ((lands idx hidx d d ⟨z.val, h⟩ z).mpr ⟨rfl, rfl⟩)
    obtain ⟨z', rfl, e⟩ := own j hj
    exact congrArg (fun k => u (ix2 d k)) (Fin.ext e)
  · rw [dif_neg h]
    refine Routing.scatter_set_miss _ x idx u _ fun j hj => ?_
    obtain ⟨z', -, e⟩ := own j hj
    exact h (e ▸ z'.isLt)

variable (m : (ℓ : Loc nD τ sig) → Buf (Elt Ideal) ℓ) (c : Dev nD)

theorem V_rows (p : Fin 32768) (d : Fin 2048) : V m c main_v5 (ix2 p d) = m ((c.tc : Thread nD τ).loc main_arg0) (ix2 p d) := by
  unfold_abbrev_sides
  after_results
  pointwise

theorem V_weights (d : Fin 2048) (z : Fin 128) : V m c main_v4 (ix2 d z) = weight (m ((c.tc : Thread nD τ).loc main_arg1)) d z := by
  unfold_abbrev_sides
  after_results
  refine (set_apply _ _ (fun _ => rfl) _ d z).trans ?_
  unfold weight
  by_cases h : z.val < 32
  · rw [dif_pos h, dif_pos h]
    pointwise
  · rw [dif_neg h, dif_neg h]
    pointwise

/-- The same, of the call's arguments. -/
def resultAt : S32768x128.Idx → EReal := result (m ((c.tc : Thread nD τ).loc main_arg0)) (m ((c.tc : Thread nD τ).loc main_arg1))

theorem rows_block (t : Fin cfg0.N) (r : Fin 1024) (d : Fin 2048) (hr : 0 + 1024 * (grid0.coords t 0).val + r.val < 32768) :
    iblk m c 0 t (ix2 r d) = m ((c.tc : Thread nD τ).loc main_arg0) (ix2 ⟨_, hr⟩ d) := by
  obtain ⟨ia, -, -⟩ := index_eq t
  refine Eq.trans ?_ (V_rows m c _ d)
  blk_ext [iblk, ia]

theorem weights_tile (t : Fin cfg0.N) (d : Fin 2048) (z : Fin 128) : (win0_1.blk t).view.emb (ix2 d z) = ix2 d z := by
  obtain ⟨-, iw, -⟩ := index_eq t
  blk_ext [iw]

theorem weights_block (t : Fin cfg0.N) (d : Fin 2048) (z : Fin 128) : iblk m c 1 t (ix2 d z) = weight (m ((c.tc : Thread nD τ).loc main_arg1)) d z := by
  refine Eq.trans ?_ (V_weights m c d z)
  unfold iblk
  generalize V m c = f
  exact congrArg (f main_v4) (weights_tile t d z)

/-- A tile of the result, once its two blocks are known. -/
theorem tile_eq (a : Vec Ideal S1024x2048 .bf16) (b : Vec Ideal S2048x128 .bf16) (f : Fin 2048 → EReal) (w : Weights) (r : Fin 1024) (z : Fin 128)
    (ha : ∀ d, a (ix2 r d) = f d) (hb : ∀ d, b (ix2 d z) = weight w d z) :
    (out0_2 (F := Ideal) a b (ix2 r z) : EReal) = ∑ d : Fin 2048, f d * weight w d z :=
  (out_apply a b r z).trans (Finset.sum_congr rfl fun d _ => congrArg₂ (fun a b : EReal => a * b) (ha d) (hb d))

/-- The result array after the run. -/
theorem array_eq : (dats m 0 c).arrAt 2 cfg0.N = resultAt m c := by
  refine (dats m 0 c).arrAt_eq_of_covers 2 _ (by decide +kernel) fun t hf y => ?_
  obtain ⟨r, z, rfl⟩ := ix2_of (a := 1024) (b := 128) y
  have hr := tiled_lt (n := 32) (grid0.coords t 0).isLt r 0 32768 (by decide)
  have e : (win0_2.blk t).view.emb (ix2 r z) = ix2 ⟨_, hr⟩ z := by
    obtain ⟨-, -, io⟩ := index_eq t
    blk_ext [io]
  refine Eq.trans ?_ (congrArg (resultAt m c) e).symm
  refine (congrFun (after0_2 m c t) (ix2 r z)).trans ?_
  exact tile_eq _ _ _ _ r z (fun d => rows_block m c t r d hr) (fun d => weights_block m c t d z)

end Cert.DtIdeal.StepSize

namespace Cert.DtRefIdeal.StepSize

open Cert.DtRefIdeal Cert.DtRefIdeal.Gen Cert.DtRefIdeal.Read Cert.Product
open Cert.DtIdeal.StepSize (weight result)
open Idealize.ShloMosaic

/-- The reference: it pads the product, not the weights. -/
theorem ref_eq (x0 : (⟨S32768x2048, .f32⟩ : BufTy).Contents (Elt Ideal)) (x1 : (⟨S2048x15904, .f32⟩ : BufTy).Contents (Elt Ideal)) :
    val_main_v2 (F := Ideal) x0 x1 = result x0 x1 := by
  funext i
  obtain ⟨p, z, rfl⟩ := ix2_of (a := 32768) (b := 128) i
  have e : (val_main_v2 (F := Ideal) x0 x1 (ix2 p z) : EReal)
      = if h : z.val < 32 then ∑ d : Fin 2048, x0 (ix2 p d) * x1 (ix2 d ⟨8192 + z.val, by omega⟩) else (Scalar.sitofp .f32 0#32 : Ideal .f32) := by
    unfold val_main_v2 val_main_v1 val_main_v0 val_main_call0_v0 val_main_c
    pointwise
    rfl
  refine e.trans ?_
  show _ = ∑ d : Fin 2048, x0 (ix2 p d) * weight x1 d z
  unfold weight
  by_cases h : z.val < 32
  · simp only [dif_pos h]
  · simp only [dif_neg h, mul_zero, Finset.sum_const_zero]
    exact sitofp_zero

end Cert.DtRefIdeal.StepSize

end
-- ==== Proof.OnlineSoftmax.lean ====
/- The mathematics of a softmax taken over keys that arrive in tiles, over the extended reals. No kernel here.

   `runMax s n` is the greatest of the first `n` scores, and `runAcc s v n` the sum of the first `n` values weighted by
   `2^(score - runMax)`. One tile takes the pair at `n` to the pair at `n + T` (`runMax_tile`, `runAcc_tile`), whatever
   the scores and the values are. With real scores the quotient of two such sums is the softmax-weighted sum
   (`quotient_eq_softmax`). -/
module

public import Idealize.ShloMosaic.PureOps.Ideal
public import Idealize.ShloMosaic.PureOps.Ideal.Laws

@[expose] public section

noncomputable section

namespace Cert.OnlineSoftmax

open Idealize.ShloMosaic

/-- `2^x` of an extended real that is at most zero is a real of `[0, 1]`. -/
theorem exp2_nonpos {x : EReal} (hx : x ≤ 0) : ∃ r : ℝ, 0 ≤ r ∧ Ideal.exp2 x = (r : EReal) := by
  induction x with
  | bot => exact ⟨0, le_refl _, rfl⟩
  | coe r => exact ⟨Real.rpow 2 r, Real.rpow_nonneg (by norm_num) _, rfl⟩
  | top => exact absurd hx (by simp)

/-- A difference of two extended reals, the first at most the second, is at most zero. -/
theorem sub_nonpos_of_le {a b : EReal} (h : a ≤ b) : a - b ≤ 0 := by
  induction b with
  | bot => rw [le_bot_iff.1 h]; simp
  | coe b =>
    induction a with
    | bot => simp
    | coe a => rw [← EReal.coe_sub]; exact_mod_cast sub_nonpos.2 (by exact_mod_cast h)
    | top => exact absurd h (by simp)
  | top =>
    induction a with
    | bot => simp
    | coe a => simp
    | top => simp

/-- Moving the maximum from `m` up to `m'` multiplies a weight by `2^(m - m')`. -/
theorem exp2_rescale {s m m' : EReal} (h : s ≤ m) (h' : m ≤ m') :
    Ideal.exp2 (m - m') * Ideal.exp2 (s - m) = Ideal.exp2 (s - m') := by
  induction m' with
  | bot => rw [le_bot_iff.1 h'] at h ⊢; rw [le_bot_iff.1 h]; simp
  | top =>
    have e : ∀ x : EReal, x - ⊤ = ⊥ := fun x => by induction x <;> simp
    rw [e, e]; simp
  | coe m' =>
    induction m with
    | bot => rw [le_bot_iff.1 h]; simp
    | top => exact absurd h' (by simp)
    | coe m =>
      induction s with
      | bot => simp
      | top => exact absurd h (by simp)
      | coe s =>
        rw [← EReal.coe_sub, ← EReal.coe_sub, ← EReal.coe_sub, Ideal.exp2_coe, Ideal.exp2_coe, Ideal.exp2_coe, ← EReal.coe_mul]
        congr 1
        show (2 : ℝ) ^ (m - m') * (2 : ℝ) ^ (s - m) = (2 : ℝ) ^ (s - m')
        rw [← Real.rpow_add (by norm_num)]; congr 1; ring

/-- A real factor goes into a finite sum of extended reals, if it is not negative. -/
theorem coe_mul_sum {ι : Type} (S : Finset ι) (f : ι → EReal) {r : ℝ} (hr : 0 ≤ r) :
    (r : EReal) * ∑ i ∈ S, f i = ∑ i ∈ S, (r : EReal) * f i := by
  classical
  induction S using Finset.induction_on with
  | empty => simp
  | insert a S ha ih =>
    rw [Finset.sum_insert ha, Finset.sum_insert ha, ← ih]
    exact EReal.left_distrib_of_nonneg_of_ne_top (by exact_mod_cast hr) (EReal.coe_ne_top r) _ _

/-- A finite sum of reals, taken among the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The greatest of the first `n` scores; of none, `-∞`. -/
def runMax (s : ℕ → EReal) (n : ℕ) : EReal := (Finset.range n).sup s

/-- The first `n` values, each weighted by two to its score less the greatest of those scores, added. -/
def runAcc (s v : ℕ → EReal) (n : ℕ) : EReal := ∑ i ∈ Finset.range n, Ideal.exp2 (s i - runMax s n) * v i

theorem runMax_zero (s : ℕ → EReal) : runMax s 0 = ⊥ := rfl

theorem runAcc_zero (s v : ℕ → EReal) : runAcc s v 0 = 0 := rfl

/-- The greatest of the first `n` scores and of the `T` that follow. -/
theorem runMax_tile (s : ℕ → EReal) (n T : ℕ) :
    max (runMax s n) (Finset.univ.sup fun j : Fin T => s (n + j)) = runMax s (n + T) := by
  unfold runMax
  apply le_antisymm
  · refine max_le (Finset.sup_mono (Finset.range_mono (Nat.le_add_right n T))) (Finset.sup_le fun j _ => ?_)
    exact Finset.le_sup (f := s) (Finset.mem_range.2 (Nat.add_lt_add_left j.isLt n))
  · refine Finset.sup_le fun i hi => ?_
    by_cases h : i < n
    · exact le_max_of_le_left (Finset.le_sup (f := s) (Finset.mem_range.2 h))
    · have hi' := Finset.mem_range.1 hi
      refine le_max_of_le_right ?_
      have := Finset.le_sup (s := Finset.univ) (f := fun j : Fin T => s (n + j)) (Finset.mem_univ ⟨i - n, by omega⟩)
      have e : n + (i - n) = i := by omega
      simpa only [e] using this

/-- The weighted sum after one more tile: the sum so far rescaled to the new maximum, and the tile's own terms. -/
theorem runAcc_tile (s v : ℕ → EReal) (n T : ℕ) :
    Ideal.exp2 (runMax s n - runMax s (n + T)) * runAcc s v n
        + ∑ j : Fin T, Ideal.exp2 (s (n + j) - runMax s (n + T)) * v (n + j)
      = runAcc s v (n + T) := by
  have hm : runMax s n ≤ runMax s (n + T) := by rw [← runMax_tile]; exact le_max_left _ _
  unfold runAcc
  rw [Finset.sum_range_add, ← Fin.sum_univ_eq_sum_range (fun j => Ideal.exp2 (s (n + j) - runMax s (n + T)) * v (n + j))]
  congr 1
  obtain ⟨r, hr, e⟩ := exp2_nonpos (sub_nonpos_of_le hm)
  rw [e, coe_mul_sum _ _ hr, ← e]
  refine Finset.sum_congr rfl fun i hi => ?_
  have hs : s i ≤ runMax s n := Finset.le_sup (f := s) hi
  rw [← mul_assoc, exp2_rescale hs hm]

/-! ## Real scores -/

/-- The greatest of finitely many reals, not none, among the extended reals is one of them. -/
theorem runMax_coe (t : ℕ → ℝ) {n : ℕ} (hn : 0 < n) : ∃ M : ℝ, runMax (fun i => (t i : EReal)) n = (M : EReal) := by
  obtain ⟨i, _, hi⟩ := Finset.exists_mem_eq_sup (Finset.range n) ⟨0, Finset.mem_range.2 hn⟩ (fun i => (t i : EReal))
  exact ⟨t i, hi⟩

/-- Scores scaled by a positive real have their greatest scaled. -/
theorem runMax_scale (t : ℕ → ℝ) {n : ℕ} (hn : 0 < n) {c M : ℝ} (hc : 0 < c)
    (hM : runMax (fun i => (t i : EReal)) n = (M : EReal)) :
    runMax (fun i => ((t i * c : ℝ) : EReal)) n = ((M * c : ℝ) : EReal) := by
  apply le_antisymm
  · refine Finset.sup_le fun i hi => ?_
    have : (t i : EReal) ≤ M := hM ▸ Finset.le_sup (f := fun i => (t i : EReal)) hi
    exact_mod_cast mul_le_mul_of_nonneg_right (by exact_mod_cast this) hc.le
  · obtain ⟨i, hi, e⟩ := Finset.exists_mem_eq_sup (Finset.range n) ⟨0, Finset.mem_range.2 hn⟩ (fun i => (t i : EReal))
    have : (M : EReal) = t i := hM.symm.trans e
    rw [EReal.coe_eq_coe_iff.1 this]
    exact Finset.le_sup (f := fun i => ((t i * c : ℝ) : EReal)) hi

/-- A quotient by a positive real. -/
theorem div_coe_pos (x : EReal) {L : ℝ} (hL : 0 < L) : Ideal.div x (L : EReal) = x * ((L⁻¹ : ℝ) : EReal) := by
  unfold Ideal.div
  rw [if_neg (by exact_mod_cast hL.ne'), EReal.coe_inv]

/-- The weighted sum of the values over the sum of the weights, the scores taken to base two, is the sum of the values
    each times its softmax weight, the scores taken to base `e`. The values may be infinite. -/
theorem quotient_eq_softmax (t : ℕ → ℝ) (v : ℕ → EReal) {n : ℕ} (hn : 0 < n) :
    Ideal.div (runAcc (fun i => ((t i * (Real.log 2)⁻¹ : ℝ) : EReal)) v n)
        (runAcc (fun i => ((t i * (Real.log 2)⁻¹ : ℝ) : EReal)) (fun _ => 1) n)
      = ∑ i : Fin n, v i * Ideal.div (Ideal.exp ((t i : EReal) - runMax (fun i => (t i : EReal)) n))
          (∑ j : Fin n, Ideal.exp ((t j : EReal) - runMax (fun i => (t i : EReal)) n)) := by
  have hlog : 0 < Real.log 2 := Real.log_pos (by norm_num)
  obtain ⟨M, hM⟩ := runMax_coe t hn
  have hw : ∀ i, Ideal.exp2 (((t i * (Real.log 2)⁻¹ : ℝ) : EReal) - ((M * (Real.log 2)⁻¹ : ℝ) : EReal))
      = ((Real.exp (t i - M) : ℝ) : EReal) := fun i => by
    rw [← EReal.coe_sub, Ideal.exp2_coe]
    congr 1
    show (2 : ℝ) ^ (t i * (Real.log 2)⁻¹ - M * (Real.log 2)⁻¹) = Real.exp (t i - M)
    rw [Real.rpow_def_of_pos (by norm_num)]
    congr 1
    field_simp
  have he : ∀ i, Ideal.exp ((t i : EReal) - (M : EReal)) = ((Real.exp (t i - M) : ℝ) : EReal) := fun i => by
    rw [← EReal.coe_sub, Ideal.exp_coe]
  unfold runAcc
  rw [runMax_scale t hn (inv_pos.2 hlog) hM, hM]
  simp only [hw, he, mul_one]
  rw [Fin.sum_univ_eq_sum_range (fun j => ((Real.exp (t j - M) : ℝ) : EReal)) n,
    Fin.sum_univ_eq_sum_range (fun i => v i * Ideal.div ((Real.exp (t i - M) : ℝ) : EReal)
      (∑ j ∈ Finset.range n, ((Real.exp (t j - M) : ℝ) : EReal))) n]
  have hL : (∑ j ∈ Finset.range n, ((Real.exp (t j - M) : ℝ) : EReal)) = ((∑ j ∈ Finset.range n, Real.exp (t j - M) : ℝ) : EReal) :=
    (coe_sum _ _).symm
  have hpos : 0 < ∑ j ∈ Finset.range n, Real.exp (t j - M) :=
    Finset.sum_pos (fun j _ => Real.exp_pos _) ⟨0, Finset.mem_range.2 hn⟩
  rw [hL, div_coe_pos _ hpos, mul_comm, coe_mul_sum _ _ (inv_nonneg.2 hpos.le)]
  refine Finset.sum_congr rfl fun i _ => ?_
  rw [div_coe_pos _ hpos, mul_comm, mul_comm ((Real.exp (t i - M) : ℝ) : EReal) (v i), mul_assoc]

end Cert.OnlineSoftmax

end
-- ==== Proof.AttnTrip.lean ====
/- One trip of the attention kernel's loop over key tiles, read as values.

   A trip takes each of the four heads' pair (running maximum, running weighted sum) through the same step
   (`trip_eq`). At the ideal instance the step, read at a row, is one tile of the online softmax (`step_max`,
   `step_acc`). -/
module

public import proofs.«01_k».proof.Proof.Gen.AttnIdeal.Value
public import proofs.«01_k».proof.Proof.OnlineSoftmax
public import Idealize.ShloMosaic.Lib.Pointwise

@[expose] public section

noncomputable section

namespace Cert.AttnIdeal.Attention

open Cert.AttnIdeal Cert.AttnIdeal.Gen Cert.OnlineSoftmax
open Idealize.ShloMosaic Idealize.ShloMosaic.TcCoe Idealize.SL.Sem

/-- The index a unit-stride rectangle places: offset plus index. -/
theorem placed_val {s : Shape} (off size : Fin s.rank → ℕ) (inb) (x : (Rect.unit off size inb).shape.Idx) (a : Fin s.rank) :
    ((Rect.unit off size inb).idx x a : ℕ) = off a + x a := by
  show off a + 1 * (x a : ℕ) = _
  omega

section Any

variable {F : FTy → Type} [FloatOps F]

/-- Tile `k` of the keys: 1408 rows from row `1408 * k` on. -/
def keyTile (x1 : Vec F S1x8448x128 .bf16) (k : Fin k0_t1_loop.trips) : Vec F S1x1408x128 .bf16 :=
  View.ld x1 (Rect.unit (s := S1x8448x128) (k0_off1 k) S1x1408x128.size (k0_off1_inb k))

/-- Tile `k` of the values. -/
def valueTile (x2 : Vec F S1x8448x256 .bf16) (k : Fin k0_t1_loop.trips) : Vec F S1x1408x256 .bf16 :=
  View.ld x2 (Rect.unit (s := S1x8448x256) (k0_off2 k) S1x1408x256.size (k0_off2_inb k))

/-- A trip on the four heads' carried values: each head's maximum and sum by the same two terms of its own queries. -/
theorem trip_eq (𝒱 : Variants) (c : Dev nD) (bd : Option 𝒱.V) (i : grid0.Coords) (arg3 : Memref sig .tc .vmem S1x512x512 .bf16) (harg3 : arg3.IsWhole) (arg4 : Memref sig .tc .vmem S1x8448x128 .bf16) (harg4 : arg4.IsWhole) (arg5 : Memref sig .tc .vmem S1x8448x256 .bf16) (harg5 : arg5.IsWhole) (arg6 : Memref sig .tc .vmem S1x512x512 .bf16) (harg6 : arg6.IsWhole)
    (v0 v2 v4 v6 : Vec F S1x512x128 .bf16) (x1 : Vec F S1x8448x128 .bf16) (x2 : Vec F S1x8448x256 .bf16) (k : Fin k0_t1_loop.trips)
    (a1 : FVec F S512x1 .f32) (a2 : FVec F S512x256 .f32) (a3 : FVec F S512x1 .f32) (a4 : FVec F S512x256 .f32)
    (a5 : FVec F S512x1 .f32) (a6 : FVec F S512x256 .f32) (a7 : FVec F S512x1 .f32) (a8 : FVec F S512x256 .f32) :
    tripR_k0_t1 (F := F) 𝒱 c bd i arg3 harg3 arg4 harg4 arg5 harg5 arg6 harg6 v0 v2 v4 v6 (harg4.unread x1) (harg5.unread x2) k (a1, a2, a3, a4, a5, a6, a7, a8)
      = (k0_pay7 (k0_pay16 v0) a1 (keyTile x1 k), k0_pay8 (k0_pay16 v0) a1 a2 (keyTile x1 k) (valueTile x2 k),
         k0_pay7 (k0_pay16 v2) a3 (keyTile x1 k), k0_pay8 (k0_pay16 v2) a3 a4 (keyTile x1 k) (valueTile x2 k),
         k0_pay7 (k0_pay16 v4) a5 (keyTile x1 k), k0_pay8 (k0_pay16 v4) a5 a6 (keyTile x1 k) (valueTile x2 k),
         k0_pay7 (k0_pay16 v6) a7 (keyTile x1 k), k0_pay8 (k0_pay16 v6) a7 a8 (keyTile x1 k) (valueTile x2 k)) := by
  unfold tripR_k0_t1 trip_k0_t1
  dsimp only
  sl_unfold_words
  simp only [View.readAt_eq_ld, harg4.read_unread, harg5.read_unread]
  rfl

end Any

/-! ## The step, at the ideal instance -/

/-- The score of query row `r` against key row `n`; past the last key, zero. -/
def score (q : FVec Ideal S512x128 .bf16) (x1 : Vec Ideal S1x8448x128 .bf16) (r : Fin 512) (n : ℕ) : EReal :=
  if h : n < 8448 then ∑ d : Fin 128, q (ix2 r d) * x1 (ix3 0 ⟨n, h⟩ d) else 0

/-- Column `z` of the values at key row `n`; past the last key, zero. -/
def value (x2 : Vec Ideal S1x8448x256 .bf16) (z : Fin 256) (n : ℕ) : EReal :=
  if h : n < 8448 then x2 (ix3 0 ⟨n, h⟩ z) else 0

theorem trips_eq : k0_t1_loop.trips = 6 := by decide +kernel

theorem tile_lt (k : Fin k0_t1_loop.trips) (j : Fin 1408) : 1408 * k.val + j.val < 8448 := by
  have h : k.val < 6 := Nat.lt_of_lt_of_eq k.isLt trips_eq
  have := j.isLt
  omega

theorem keyTile_apply (x1 : Vec Ideal S1x8448x128 .bf16) (k : Fin k0_t1_loop.trips) (j : Fin 1408) (d : Fin 128) :
    keyTile x1 k (ix3 0 j d) = x1 (ix3 0 ⟨1408 * k.val + j.val, tile_lt k j⟩ d) := by
  unfold keyTile
  refine congrArg x1 (funext fun a => Fin.ext ?_)
  have e := k0_off1_eq k
  refine (placed_val _ _ _ _ a).trans ((congrArg (· + _) (congrFun e a)).trans ?_)
  match a with
  | ⟨0, _⟩ => rfl
  | ⟨1, _⟩ => rfl
  | ⟨2, _⟩ => exact Nat.zero_add _

theorem valueTile_apply (x2 : Vec Ideal S1x8448x256 .bf16) (k : Fin k0_t1_loop.trips) (j : Fin 1408) (z : Fin 256) :
    valueTile x2 k (ix3 0 j z) = x2 (ix3 0 ⟨1408 * k.val + j.val, tile_lt k j⟩ z) := by
  unfold valueTile
  refine congrArg x2 (funext fun a => Fin.ext ?_)
  have e := k0_off2_eq k
  refine (placed_val _ _ _ _ a).trans ((congrArg (· + _) (congrFun e a)).trans ?_)
  match a with
  | ⟨0, _⟩ => rfl
  | ⟨1, _⟩ => rfl
  | ⟨2, _⟩ => exact Nat.zero_add _

theorem score_tile (q : FVec Ideal S512x128 .bf16) (x1 : Vec Ideal S1x8448x128 .bf16) (r : Fin 512) (k : Fin k0_t1_loop.trips) (j : Fin 1408) :
    ∑ d : Fin 128, q (ix2 r d) * keyTile x1 k (ix3 0 j d) = score q x1 r (1408 * k.val + j.val) := by
  unfold score
  rw [dif_pos (tile_lt k j)]
  exact Finset.sum_congr rfl fun d _ => by rw [keyTile_apply]

theorem value_tile (x2 : Vec Ideal S1x8448x256 .bf16) (z : Fin 256) (k : Fin k0_t1_loop.trips) (j : Fin 1408) :
    valueTile x2 k (ix3 0 j z) = value x2 z (1408 * k.val + j.val) := by
  unfold value
  rw [dif_pos (tile_lt k j), valueTile_apply]

/-- The word of `-∞` reads as the least extended real. -/
theorem negInf : Ideal.ofBits .f32 0xFF800000#32 = (⊥ : EReal) := by
  simp [Ideal.ofBits, Ideal.ieee]

/-- A fold of `max` from `-∞` is the supremum. -/
theorem fold_max_eq_sup {n : ℕ} (f : Fin n → EReal) : Finset.fold max (Ideal.ofBits .f32 0xFF800000#32) f Finset.univ = Finset.univ.sup f := by
  rw [negInf]; rfl

theorem pay6_apply (q : FVec Ideal S512x128 .bf16) (kb : Vec Ideal S1x1408x128 .bf16) (r : Fin 512) (j : Fin 1408) :
    k0_pay6 (F := Ideal) q kb (ix2 r j) = ∑ d : Fin 128, q (ix2 r d) * kb (ix3 0 j d) := by
  unfold k0_pay6 k0_pay4
  pointwise

theorem pay7_apply (q : FVec Ideal S512x128 .bf16) (kb : Vec Ideal S1x1408x128 .bf16) (a : FVec Ideal S512x1 .f32) (r : Fin 512) (z : Fin 1) :
    k0_pay7 (F := Ideal) q a kb (ix2 r z) = max (a (ix2 r z)) (Finset.univ.sup fun j : Fin 1408 => ∑ d : Fin 128, q (ix2 r d) * kb (ix3 0 j d)) := by
  rw [← fold_max_eq_sup]
  unfold k0_pay7 k0_pay6 k0_pay4
  pointwise

theorem pay8_apply (q : FVec Ideal S512x128 .bf16) (kb : Vec Ideal S1x1408x128 .bf16) (vb : Vec Ideal S1x1408x256 .bf16)
    (a : FVec Ideal S512x1 .f32) (b : FVec Ideal S512x256 .f32) (r : Fin 512) (z : Fin 256) :
    k0_pay8 (F := Ideal) q a b kb vb (ix2 r z)
      = Ideal.exp2 (a (ix2 r 0) - k0_pay7 (F := Ideal) q a kb (ix2 r 0)) * b (ix2 r z)
        + ∑ j : Fin 1408, Ideal.exp2 ((∑ d : Fin 128, q (ix2 r d) * kb (ix3 0 j d)) - k0_pay7 (F := Ideal) q a kb (ix2 r 0)) * vb (ix3 0 j z) := by
  unfold k0_pay8 k0_pay5 k0_pay6 k0_pay4
  pointwise
  rfl

/-- What a head carries after `n` keys: the running maximum and the running sums of the values' columns. -/
def Carries (q : FVec Ideal S512x128 .bf16) (x1 : Vec Ideal S1x8448x128 .bf16) (x2 : Vec Ideal S1x8448x256 .bf16) (n : ℕ)
    (a : FVec Ideal S512x1 .f32) (b : FVec Ideal S512x256 .f32) : Prop :=
  (∀ r : Fin 512, a (ix2 r 0) = runMax (score q x1 r) n) ∧
  ∀ (r : Fin 512) (z : Fin 256), b (ix2 r z) = runAcc (score q x1 r) (value x2 z) n

/-- One trip carries a head from `1408 * k` keys to `1408 * (k + 1)`. -/
theorem Carries.step {q : FVec Ideal S512x128 .bf16} {x1 : Vec Ideal S1x8448x128 .bf16} {x2 : Vec Ideal S1x8448x256 .bf16}
    {k : Fin k0_t1_loop.trips} {a : FVec Ideal S512x1 .f32} {b : FVec Ideal S512x256 .f32} (h : Carries q x1 x2 (1408 * k.val) a b) :
    Carries q x1 x2 (1408 * (k.val + 1)) (k0_pay7 q a (keyTile x1 k)) (k0_pay8 q a b (keyTile x1 k) (valueTile x2 k)) := by
  have hm : ∀ r : Fin 512, k0_pay7 (F := Ideal) q a (keyTile x1 k) (ix2 r 0) = runMax (score q x1 r) (1408 * (k.val + 1)) := fun r => by
    rw [pay7_apply, h.1 r]
    simp only [score_tile]
    rw [runMax_tile]; rfl
  refine ⟨hm, fun r z => ?_⟩
  rw [pay8_apply, hm r, h.1 r, h.2 r z]
  simp only [score_tile, value_tile]
  exact runAcc_tile _ _ _ _

/-- Before any key the maximum is `-∞` and the sums are zero. -/
theorem Carries.zero (q : FVec Ideal S512x128 .bf16) (x1 : Vec Ideal S1x8448x128 .bf16) (x2 : Vec Ideal S1x8448x256 .bf16) :
    Carries q x1 x2 0 (k0_pay19 (F := Ideal)) (k0_pay20 (F := Ideal)) := by
  refine ⟨fun r => ?_, fun r z => ?_⟩
  · rw [runMax_zero, ← negInf]; rfl
  · rw [runAcc_zero]; unfold k0_pay20; pointwise

end Cert.AttnIdeal.Attention

end
-- ==== Proof.AttnBlock.lean ====
/- What one grid point of the attention kernel leaves in its output block: for each of the four heads, the quotient
   of the two running sums after all 8448 keys (`out_apply`). -/
module

public import proofs.«01_k».proof.Proof.AttnTrip
public import Idealize.ShloMosaic.Lib.Pipeline.ValueKit.Tiles

@[expose] public section

noncomputable section

namespace Cert.AttnIdeal.Attention

open Cert.AttnIdeal Cert.AttnIdeal.Gen Cert.OnlineSoftmax
open Idealize.ShloMosaic Idealize.ShloMosaic.TcCoe Idealize.SL.Sem

/-- The queries of head `h` in a block of four heads. -/
def headQ (x0 : Vec Ideal S1x512x512 .bf16) (h : ℕ) (hh : h < 4) : FVec Ideal S512x128 .bf16 := fun y =>
  x0 (ix3 0 (y 0) ⟨128 * h + (y 1).val, by have h1 : (y 1).val < 128 := (y 1).isLt; omega⟩)

theorem headQ_apply (x0 : Vec Ideal S1x512x512 .bf16) (h : ℕ) (hh : h < 4) (r : Fin 512) (d : Fin 128) :
    headQ x0 h hh (ix2 r d) = x0 (ix3 0 r ⟨128 * h + d.val, by have := d.isLt; omega⟩) := rfl

/-- A head's queries as the kernel loads them. -/
theorem pay16_ld (x0 : Vec Ideal S1x512x512 .bf16) (h : ℕ) (hh : h < 4) (off : Fin 3 → ℕ) (he : off = ![0, 0, 128 * h])
    (inb : ∀ a, off a + S1x512x128.size a ≤ S1x512x512.size a) :
    k0_pay16 (F := Ideal) (View.ld x0 (Rect.unit (s := S1x512x512) off S1x512x128.size inb)) = headQ x0 h hh := by
  funext y
  obtain ⟨r, d, rfl⟩ : ∃ (r : Fin 512) (d : Fin 128), y = ix2 r d :=
    ⟨y 0, y 1, by funext a; match a with | ⟨0, _⟩ => rfl | ⟨1, _⟩ => rfl⟩
  generalize hv : View.ld x0 (Rect.unit (s := S1x512x512) off S1x512x128.size inb) = v
  have e : k0_pay16 (F := Ideal) v (ix2 r d) = v (ix3 0 r d) := by
    unfold k0_pay16; pointwise
  rw [e, headQ_apply, ← hv]
  refine congrArg x0 (funext fun a => Fin.ext ?_)
  refine (placed_val _ _ _ _ a).trans ?_
  subst he
  match a with
  | ⟨0, _⟩ => rfl
  | ⟨1, _⟩ => exact Nat.zero_add _
  | ⟨2, _⟩ => rfl

/-- The four heads' carried values after `n` trips. -/
theorem st_carries (𝒱 : Variants) (c : Dev nD) (bd : Option 𝒱.V) (i : grid0.Coords) (arg3 : Memref sig .tc .vmem S1x512x512 .bf16) (harg3 : arg3.IsWhole) (arg4 : Memref sig .tc .vmem S1x8448x128 .bf16) (harg4 : arg4.IsWhole) (arg5 : Memref sig .tc .vmem S1x8448x256 .bf16) (harg5 : arg5.IsWhole) (arg6 : Memref sig .tc .vmem S1x512x512 .bf16) (harg6 : arg6.IsWhole)
    (v0 v2 v4 v6 : Vec Ideal S1x512x128 .bf16) (x1 : Vec Ideal S1x8448x128 .bf16) (x2 : Vec Ideal S1x8448x256 .bf16)
    (init : FVec Ideal S512x1 .f32 × FVec Ideal S512x256 .f32 × FVec Ideal S512x1 .f32 × FVec Ideal S512x256 .f32 × FVec Ideal S512x1 .f32 × FVec Ideal S512x256 .f32 × FVec Ideal S512x1 .f32 × FVec Ideal S512x256 .f32)
    (hi : init = (k0_pay19, k0_pay20, k0_pay19, k0_pay20, k0_pay19, k0_pay20, k0_pay19, k0_pay20)) (n : ℕ) (hn : n ≤ k0_t1_loop.trips) :
    ∀ s, s = st_k0_t1 (F := Ideal) 𝒱 c bd i arg3 harg3 arg4 harg4 arg5 harg5 arg6 harg6 v0 v2 v4 v6 (harg4.unread x1) (harg5.unread x2) init n →
    Carries (k0_pay16 v0) x1 x2 (1408 * n) s.1 s.2.1 ∧ Carries (k0_pay16 v2) x1 x2 (1408 * n) s.2.2.1 s.2.2.2.1
      ∧ Carries (k0_pay16 v4) x1 x2 (1408 * n) s.2.2.2.2.1 s.2.2.2.2.2.1 ∧ Carries (k0_pay16 v6) x1 x2 (1408 * n) s.2.2.2.2.2.2.1 s.2.2.2.2.2.2.2 := by
  induction n with
  | zero =>
    intro s hs
    rw [st_k0_t1_zero, hi] at hs
    subst hs
    exact ⟨Carries.zero _ _ _, Carries.zero _ _ _, Carries.zero _ _ _, Carries.zero _ _ _⟩
  | succ n ih =>
    rintro s rfl
    have key := ih (Nat.le_of_succ_le hn) _ rfl
    rw [st_k0_t1_succ 𝒱 c bd i arg3 harg3 arg4 harg4 arg5 harg5 arg6 harg6 v0 v2 v4 v6 (harg4.unread x1) (harg5.unread x2) init ⟨n, hn⟩]
    generalize st_k0_t1 (F := Ideal) 𝒱 c bd i arg3 harg3 arg4 harg4 arg5 harg5 arg6 harg6 v0 v2 v4 v6 (harg4.unread x1) (harg5.unread x2) init n = s at key ⊢
    obtain ⟨a1, a2, a3, a4, a5, a6, a7, a8⟩ := s
    rw [trip_eq]
    exact ⟨key.1.step (k := ⟨n, hn⟩), key.2.1.step (k := ⟨n, hn⟩), key.2.2.1.step (k := ⟨n, hn⟩), key.2.2.2.step (k := ⟨n, hn⟩)⟩

/-- A head's output: the sums over the values' first half of columns, divided by those over the second half. -/
theorem pay31_apply (b : FVec Ideal S512x256 .f32) (r : Fin 512) (d : Fin 128) :
    k0_pay31 (F := Ideal) b (ix3 0 r d)
      = Ideal.div (b (ix2 r ⟨d.val, by have := d.isLt; omega⟩)) (b (ix2 r ⟨128 + d.val, by have := d.isLt; omega⟩)) := by
  unfold k0_pay31
  pointwise

/-- The block the point leaves, in closed form. -/
def blockOut (x0 : Vec Ideal S1x512x512 .bf16) (x1 : Vec Ideal S1x8448x128 .bf16) (x2 : Vec Ideal S1x8448x256 .bf16)
    (r : Fin 512) (h : ℕ) (hh : h < 4) (d : Fin 128) : EReal :=
  Ideal.div (runAcc (score (headQ x0 h hh) x1 r) (value x2 ⟨d.val, by have := d.isLt; omega⟩) 8448)
    (runAcc (score (headQ x0 h hh) x1 r) (value x2 ⟨128 + d.val, by have := d.isLt; omega⟩) 8448)

theorem tile_at {x0 : Vec Ideal S1x512x512 .bf16} {x1 : Vec Ideal S1x8448x128 .bf16} {x2 : Vec Ideal S1x8448x256 .bf16}
    (r : Fin 512) (h : ℕ) (hh : h < 4) (d : Fin 128) (h' : ℕ) (hh' : h' < 4) {q : FVec Ideal S512x128 .bf16} (hq : q = headQ x0 h' hh')
    {a : FVec Ideal S512x1 .f32} {b : FVec Ideal S512x256 .f32} (hc : Carries q x1 x2 8448 a b) (w : Vec Ideal S1x512x128 .bf16) (hw : w = k0_pay31 b)
    (off : Fin 3 → ℕ) (ho : off = ![0, 0, 128 * h']) :
    View.TileAt (S := S1x512x512) (Val := Elt Ideal) (e := .bf16) (ix3 0 r ⟨128 * h + d.val, by have := d.isLt; omega⟩) off S1x512x128.size w (blockOut x0 x1 x2 r h hh d) := by
  intro x hx
  subst hq hw ho
  have h1 : r.val = 0 + (x 1).val := hx 1
  have h2 : 128 * h + d.val = 128 * h' + (x 2).val := hx 2
  have hx2 : (x 2).val < 128 := (x 2).isLt
  have hd := d.isLt
  obtain rfl : h = h' := by omega
  have e : x = ix3 0 r d := by
    funext a
    apply Fin.ext
    match a with
    | ⟨0, _⟩ => have : (x 0).val < 1 := (x 0).isLt; show (x 0).val = 0; omega
    | ⟨1, _⟩ => show (x 1).val = r.val; omega
    | ⟨2, _⟩ => show (x 2).val = d.val; omega
  rw [e, pay31_apply, hc.2, hc.2]
  rfl

set_option maxHeartbeats 1000000 in
/-- The output block at a row and a head's column. -/
theorem out_apply (c : Dev nD) (i : grid0.Coords) (arg3 : Memref sig .tc .vmem S1x512x512 .bf16) (harg3 : arg3.IsWhole) (arg4 : Memref sig .tc .vmem S1x8448x128 .bf16) (harg4 : arg4.IsWhole) (arg5 : Memref sig .tc .vmem S1x8448x256 .bf16) (harg5 : arg5.IsWhole) (arg6 : Memref sig .tc .vmem S1x512x512 .bf16) (harg6 : arg6.IsWhole)
    (x0 : Vec Ideal S1x512x512 .bf16) (x1 : Vec Ideal S1x8448x128 .bf16) (x2 : Vec Ideal S1x8448x256 .bf16)
    (r : Fin 512) (h : ℕ) (hh : h < 4) (d : Fin 128) :
    out0_A_3 (F := Ideal) c i arg3 harg3 arg4 harg4 arg5 harg5 arg6 harg6 x0 x1 x2 (ix3 0 r ⟨128 * h + d.val, by have := d.isLt; omega⟩)
      = blockOut x0 x1 x2 r h hh d := by
  have hcov := cover0_A_3 (F := Ideal) c i arg3 harg3 arg4 harg4 arg5 harg5 arg6 harg6 x0 x1 x2
  unfold out0_A_3
  rw [View.read_writes_eq_canon _ _ _ hcov]
  refine View.canon_eq_of_allAt _ _ _ (hcov _) ?_
  clear hcov
  unfold kernelRun0_A
  dsimp only
  sl_unfold_words
  simp only [View.readAt_eq_ld, harg3.read_unread]
  have key := st_carries Variants.none c none i arg3 harg3 arg4 harg4 arg5 harg5 arg6 harg6
    (View.ld x0 (Rect.unit (s := S1x512x512) ![0, 0, 0] S1x512x128.size (by decide)))
    (View.ld x0 (Rect.unit (s := S1x512x512) ![0, 0, 128] S1x512x128.size (by decide)))
    (View.ld x0 (Rect.unit (s := S1x512x512) ![0, 0, 256] S1x512x128.size (by decide)))
    (View.ld x0 (Rect.unit (s := S1x512x512) ![0, 0, 384] S1x512x128.size (by decide)))
    x1 x2 (k0_pay19, k0_pay20, k0_pay21, k0_pay22, k0_pay23, k0_pay24, k0_pay25, k0_pay26) rfl k0_t1_loop.trips le_rfl _ rfl
  rw [show 1408 * k0_t1_loop.trips = 8448 from by rw [trips_eq]] at key
  refine View.allAt_cons_unit _ _ _ _ _ (tile_at r h hh d 3 (by decide) (pay16_ld x0 3 (by decide) _ rfl _) key.2.2.2 _ rfl _ rfl) ?_
  refine View.allAt_cons_unit _ _ _ _ _ (tile_at r h hh d 2 (by decide) (pay16_ld x0 2 (by decide) _ rfl _) key.2.2.1 _ rfl _ rfl) ?_
  refine View.allAt_cons_unit _ _ _ _ _ (tile_at r h hh d 1 (by decide) (pay16_ld x0 1 (by decide) _ rfl _) key.2.1 _ rfl _ rfl) ?_
  refine View.allAt_cons_unit _ _ _ _ _ (tile_at r h hh d 0 (by decide) (pay16_ld x0 0 (by decide) _ rfl _) key.1 _ rfl _ rfl) ?_
  exact View.allAt_nil _ _

end Cert.AttnIdeal.Attention

end
-- ==== Proof.AttnArray.lean ====
/- The attention kernel's result array: at every index the quotient of two sums over all 8448 keys
   (`array_eq`), read through the host operations that prepare the queries, keys and values. -/
module

public import proofs.«01_k».proof.Proof.AttnBlock
public import Idealize.ShloMosaic.Lib.Pipeline.ValueKit

@[expose] public section

set_option maxRecDepth 16384

noncomputable section

namespace Cert.AttnIdeal.Attention

open Cert.AttnIdeal Cert.AttnIdeal.Gen Cert.OnlineSoftmax
open Idealize.ShloMosaic Idealize.ShloMosaic.TcCoe Idealize.SL.Sem
open Idealize.ShloMosaic.Pipeline (Dat)

/-! ## The result in closed form -/

/-- What the queries are divided by: the root of the head dimension, times the logarithm of two. -/
def queryDivisor : EReal := Ideal.sqrt (Ideal.ofBits .f32 0x43000000#32) * Ideal.log (Ideal.ofBits .f32 0x40000000#32)

/-- The context's 256 rows and then the latent ones, at a row and a column. -/
def rows (x : (⟨3, ![4, 256, 256]⟩ : Shape).Idx → EReal) (y : (⟨3, ![4, 8192, 256]⟩ : Shape).Idx → EReal) (b : Fin 4) (n : Fin 8448) (e : Fin 256) : EReal :=
  if h : n.val < 256 then x (ix3 b ⟨n.val, h⟩ e) else y (ix3 b ⟨n.val - 256, by have := n.isLt; omega⟩ e)

/-- The scaled score of query `t` against key `n` in the head of output column `e`. -/
def scoreAt (q : (⟨3, ![4, 8192, 1024]⟩ : Shape).Idx → EReal) (kc : (⟨3, ![4, 256, 256]⟩ : Shape).Idx → EReal) (kl : (⟨3, ![4, 8192, 256]⟩ : Shape).Idx → EReal)
    (b : Fin 4) (t : Fin 8192) (e : Fin 1024) (n : ℕ) : EReal :=
  if h : n < 8448 then
    ∑ d : Fin 128, Ideal.div (q (ix3 b t ⟨128 * (e.val / 128) + d.val, by have := e.isLt; have := d.isLt; omega⟩)) queryDivisor
      * rows kc kl b ⟨n, h⟩ ⟨128 * (e.val / 512) + d.val, by have := e.isLt; have := d.isLt; omega⟩
  else 0

/-- The value of key row `n` that output column `e` sums. -/
def valueAt (vc : (⟨3, ![4, 256, 256]⟩ : Shape).Idx → EReal) (vl : (⟨3, ![4, 8192, 256]⟩ : Shape).Idx → EReal)
    (b : Fin 4) (e : Fin 1024) (n : ℕ) : EReal :=
  if h : n < 8448 then rows vc vl b ⟨n, h⟩ ⟨128 * (e.val / 512) + e.val % 128, by have := e.isLt; omega⟩ else 0

/-- The result at one index. -/
def attnAt (q : (⟨3, ![4, 8192, 1024]⟩ : Shape).Idx → EReal) (kc : (⟨3, ![4, 256, 256]⟩ : Shape).Idx → EReal) (kl : (⟨3, ![4, 8192, 256]⟩ : Shape).Idx → EReal)
    (vc : (⟨3, ![4, 256, 256]⟩ : Shape).Idx → EReal) (vl : (⟨3, ![4, 8192, 256]⟩ : Shape).Idx → EReal) (b : Fin 4) (t : Fin 8192) (e : Fin 1024) : EReal :=
  Ideal.div (runAcc (scoreAt q kc kl b t e) (valueAt vc vl b e) 8448) (runAcc (scoreAt q kc kl b t e) (fun _ => 1) 8448)

/-! ## The prepared operands -/

section

variable (m : (ℓ : Loc nD τ sig) → Buf (Elt Ideal) ℓ) (c : Dev nD)

theorem V_query (b : Fin 4) (t : Fin 8192) (e : Fin 1024) :
    V m c main_v5 (ix3 b t e) = Ideal.div ((m ((c.tc : Thread nD τ).loc main_arg0)) (ix3 b t e)) queryDivisor := by
  unfold queryDivisor
  unfold_abbrev_sides
  after_results
  pointwise

theorem V_key (b : Fin 4) (n : Fin 8448) (e : Fin 256) :
    V m c main_v8 (ix3 b n e) = rows (m ((c.tc : Thread nD τ).loc main_arg1)) (m ((c.tc : Thread nD τ).loc main_arg2)) b n e := by
  unfold rows
  unfold_abbrev_sides
  after_results
  pointwise

/-- The first half of a head's 256 columns are the values, -/
theorem V_value (b : Fin 4) (n : Fin 8448) (e : Fin 512) (d : Fin 256) (hd : e.val / 256 * 128 + e.val % 256 = d.val) (he : e.val % 256 < 128) :
    V m c main_v23 (ix3 b n e) = rows (m ((c.tc : Thread nD τ).loc main_arg3)) (m ((c.tc : Thread nD τ).loc main_arg4)) b n d := by
  unfold rows
  unfold_abbrev_sides
  after_results
  pointwise
  have hlt := e.isLt
  by_cases h1 : e.val < 256
  · have h2 : e.val < 128 := by omega
    simp only [h1, h2, dite_true]
    obtain rfl : d = ⟨e.val, by omega⟩ := Fin.ext (by show d.val = e.val; omega)
    rfl
  · have h2 : e.val - 256 < 128 := by omega
    simp only [h1, h2, dite_true, dite_false]
    have h3 : 128 + (e.val - 256) < 256 := by clear hd; omega
    obtain rfl : d = ⟨128 + (e.val - 256), h3⟩ := Fin.ext (by show d.val = 128 + (e.val - 256); omega)
    rfl

/-- and the second half ones. -/
theorem V_ones (b : Fin 4) (n : Fin 8448) (e : Fin 512) (he : 128 ≤ e.val % 256) :
    V m c main_v23 (ix3 b n e) = (1 : EReal) := by
  unfold_abbrev_sides
  after_results
  pointwise
  have hlt := e.isLt
  by_cases h1 : e.val < 256
  · have h2 : ¬ e.val < 128 := by omega
    simp only [h1, h2, dite_true, dite_false, dite_eq_ite, ite_self]
    rfl
  · have h2 : ¬ e.val - 256 < 128 := by omega
    simp only [h1, h2, dite_true, dite_false, dite_eq_ite, ite_self]
    rfl

/-! ## The blocks -/

theorem index_q : ∀ t : Fin grid0.N, win0_0.index t = ![(grid0.coords t 0).val, (grid0.coords t 2).val, (grid0.coords t 1).val] := by decide +kernel
theorem index_k : ∀ t : Fin grid0.N, win0_1.index t = ![(grid0.coords t 0).val, 0, (grid0.coords t 1).val] := by decide +kernel
theorem index_v : ∀ t : Fin grid0.N, win0_2.index t = ![(grid0.coords t 0).val, 0, (grid0.coords t 1).val] := by decide +kernel
theorem index_o : ∀ t : Fin grid0.N, win0_3.index t = ![(grid0.coords t 0).val, (grid0.coords t 2).val, (grid0.coords t 1).val] := by decide +kernel

/-- A point's batch, group of heads and block of queries. -/
theorem coords_lt (t : Fin grid0.N) : (grid0.coords t 0).val < 4 ∧ (grid0.coords t 1).val < 2 ∧ (grid0.coords t 2).val < 16 :=
  ⟨(grid0.coords t 0).isLt, (grid0.coords t 1).isLt, (grid0.coords t 2).isLt⟩

theorem block_query (t : Fin cfg0.N) (r z : Fin 512) :
    iblk m c 0 t (ix3 0 r z) = Ideal.div ((m ((c.tc : Thread nD τ).loc main_arg0))
      (ix3 ⟨(grid0.coords t 0).val, (coords_lt t).1⟩ ⟨512 * (grid0.coords t 2).val + r.val, by have := (coords_lt t).2.2; have := r.isLt; omega⟩
        ⟨512 * (grid0.coords t 1).val + z.val, by have := (coords_lt t).2.1; have := z.isLt; omega⟩)) queryDivisor := by
  rw [← V_query]
  blk_ext [iblk, index_q t]

theorem block_key (t : Fin cfg0.N) (n : Fin 8448) (d : Fin 128) :
    iblk m c 1 t (ix3 0 n d) = rows (m ((c.tc : Thread nD τ).loc main_arg1)) (m ((c.tc : Thread nD τ).loc main_arg2))
      ⟨(grid0.coords t 0).val, (coords_lt t).1⟩ n ⟨128 * (grid0.coords t 1).val + d.val, by have := (coords_lt t).2.1; have := d.isLt; omega⟩ := by
  rw [← V_key]
  blk_ext [iblk, index_k t]

theorem block_v (t : Fin cfg0.N) (n : Fin 8448) (z : Fin 256) :
    iblk m c 2 t (ix3 0 n z) = V m c main_v23 (ix3 ⟨(grid0.coords t 0).val, (coords_lt t).1⟩ n ⟨256 * (grid0.coords t 1).val + z.val, by have := (coords_lt t).2.1; have := z.isLt; omega⟩) := by
  blk_ext [iblk, index_v t]

theorem block_value (t : Fin cfg0.N) (n : Fin 8448) (z : Fin 256) (hz : z.val < 128) :
    iblk m c 2 t (ix3 0 n z) = rows (m ((c.tc : Thread nD τ).loc main_arg3)) (m ((c.tc : Thread nD τ).loc main_arg4))
      ⟨(grid0.coords t 0).val, (coords_lt t).1⟩ n ⟨128 * (grid0.coords t 1).val + z.val, by have := (coords_lt t).2.1; omega⟩ := by
  rw [block_v]
  exact V_value m c _ n _ _ (by have := (coords_lt t).2.1; show (256 * (grid0.coords t 1).val + z.val) / 256 * 128 + (256 * (grid0.coords t 1).val + z.val) % 256 = 128 * (grid0.coords t 1).val + z.val; omega)
    (by show (256 * (grid0.coords t 1).val + z.val) % 256 < 128; omega)

theorem block_ones (t : Fin cfg0.N) (n : Fin 8448) (z : Fin 256) (hz : 128 ≤ z.val) : iblk m c 2 t (ix3 0 n z) = (1 : EReal) := by
  rw [block_v]
  exact V_ones m c _ n _ (by have := z.isLt; show 128 ≤ (256 * (grid0.coords t 1).val + z.val) % 256; omega)

/-- The weighted sums see their terms below `n` only. -/
theorem runAcc_congr {s s' v v' : ℕ → EReal} {n : ℕ} (hs : s = s') (hv : ∀ i < n, v i = v' i) : runAcc s v n = runAcc s' v' n := by
  subst hs
  unfold runAcc
  exact Finset.sum_congr rfl fun i hi => by rw [hv i (Finset.mem_range.mp hi)]

/-- What a point writes, in the arguments. -/
theorem point_eq (t : Fin cfg0.N) (r : Fin 512) (h : ℕ) (hh : h < 4) (d : Fin 128) :
    blockOut (iblk m c 0 t) (iblk m c 1 t) (iblk m c 2 t) r h hh d
      = attnAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
          ⟨(grid0.coords t 0).val, (coords_lt t).1⟩ ⟨512 * (grid0.coords t 2).val + r.val, by have := (coords_lt t).2.2; have := r.isLt; omega⟩
          ⟨512 * (grid0.coords t 1).val + (128 * h + d.val), by have := (coords_lt t).2.1; have := d.isLt; omega⟩ := by
  have hd := d.isLt
  have hc := coords_lt t
  have hs : score (headQ (iblk m c 0 t) h hh) (iblk m c 1 t) r
      = scoreAt (m ((c.tc : Thread nD τ).loc main_arg0)) (m ((c.tc : Thread nD τ).loc main_arg1)) (m ((c.tc : Thread nD τ).loc main_arg2))
          ⟨(grid0.coords t 0).val, (coords_lt t).1⟩ ⟨512 * (grid0.coords t 2).val + r.val, by have := (coords_lt t).2.2; have := r.isLt; omega⟩
          ⟨512 * (grid0.coords t 1).val + (128 * h + d.val), by have := (coords_lt t).2.1; omega⟩ := by
    funext n
    unfold score scoreAt
    by_cases hn : n < 8448
    · rw [dif_pos hn, dif_pos hn]
      refine Finset.sum_congr rfl fun x _ => ?_
      rw [headQ_apply, block_query, block_key]
      have hx := x.isLt
      refine congrArg₂ (· * ·) (congrArg (Ideal.div · queryDivisor) (congrArg _ (congrArg (ix3 _ _) (Fin.ext ?_)))) (congrArg _ (Fin.ext ?_))
      · show 512 * (grid0.coords t 1).val + (128 * h + x.val) = 128 * ((512 * (grid0.coords t 1).val + (128 * h + d.val)) / 128) + x.val; omega
      · show 128 * (grid0.coords t 1).val + x.val = 128 * ((512 * (grid0.coords t 1).val + (128 * h + d.val)) / 512) + x.val; omega
    · rw [dif_neg hn, dif_neg hn]
  unfold blockOut attnAt
  refine congrArg₂ Ideal.div (runAcc_congr hs fun n hn => ?_) (runAcc_congr hs fun n hn => ?_)
  · unfold value valueAt
    rw [dif_pos hn, dif_pos hn, block_value m c t _ _ hd]
    refine congrArg _ (Fin.ext ?_)
    show 128 * (grid0.coords t 1).val + d.val = 128 * ((512 * (grid0.coords t 1).val + (128 * h + d.val)) / 512) + (512 * (grid0.coords t 1).val + (128 * h + d.val)) % 128
    omega
  · unfold value
    rw [dif_pos hn]
    exact block_ones m c t _ _ (by show 128 ≤ 128 + d.val; omega)

theorem col_lt {h : ℕ} (hh : h < 4) (d : Fin 128) : 128 * h + d.val < 512 := by
  have := d.isLt
  omega

/-- The result array after the run. -/
theorem array_eq : (dats m 0 c).arrAt 3 cfg0.N = fun i : S4x8192x1024.Idx =>
    attnAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (i 0) (i 1) (i 2) := by
  refine (dats m 0 c).arrAt_eq_of_covers 3 _ (by decide +kernel) fun t hf y => ?_
  blk_simp
  rw [after0_3]
  unfold outsAt0
  have h2 : (y 2).val < 512 := (y 2).isLt
  obtain ⟨r, h, hh, d, rfl⟩ : ∃ (r : Fin 512) (h : ℕ) (hh : h < 4) (d : Fin 128), y = ix3 0 r ⟨128 * h + d.val, col_lt hh d⟩ :=
    ⟨y 1, (y 2).val / 128, by omega, ⟨(y 2).val % 128, Nat.mod_lt _ (by decide)⟩, by
      funext a
      apply Fin.ext
      match a with
      | ⟨0, _⟩ => have : (y 0).val < 1 := (y 0).isLt; show (y 0).val = 0; omega
      | ⟨1, _⟩ => rfl
      | ⟨2, _⟩ => show (y 2).val = 128 * ((y 2).val / 128) + (y 2).val % 128; omega⟩
  refine (out_apply c _ _ _ _ _ _ _ _ _ _ _ _ r h hh d).trans ?_
  rw [point_eq]
  have e : (win0_3.blk t).view.emb (ix3 0 r ⟨128 * h + d.val, col_lt hh d⟩)
      = ix3 ⟨(grid0.coords t 0).val, (coords_lt t).1⟩ ⟨512 * (grid0.coords t 2).val + r.val, by have := (coords_lt t).2.2; have := r.isLt; omega⟩
          ⟨512 * (grid0.coords t 1).val + (128 * h + d.val), by have := (coords_lt t).2.1; have := d.isLt; omega⟩ := by
    blk_ext [index_o t]
  rw [e]
  rfl

end

end Cert.AttnIdeal.Attention

end
-- ==== Proof.AttnRef.lean ====
/- The reference attention at an index: its scores, their maximum, the sum of the exponentials, and the weighted sum
   of the values (`ref_apply`). -/
module

public import proofs.«01_k».proof.Proof.Gen.AttnRefIdeal.Read
public import proofs.«01_k».proof.Proof.AttnArray
public import Idealize.ShloMosaic.Lib.Pointwise

@[expose] public section

noncomputable section

namespace Cert.AttnRefIdeal.Attention

open Cert.AttnRefIdeal Cert.AttnRefIdeal.Gen Cert.AttnRefIdeal.Read Cert.OnlineSoftmax
open Cert.AttnIdeal.Attention (rows fold_max_eq_sup negInf)
open Idealize.ShloMosaic Idealize.ShloMosaic.TcCoe Idealize.SL.Sem

/-- The score of query `t` against key `n` in the head of output column `e`, divided by the root of the head dimension. -/
def refScore (q : (⟨3, ![4, 8192, 1024]⟩ : Shape).Idx → EReal) (kc : (⟨3, ![4, 256, 256]⟩ : Shape).Idx → EReal) (kl : (⟨3, ![4, 8192, 256]⟩ : Shape).Idx → EReal)
    (b : Fin 4) (t : Fin 8192) (e : Fin 1024) (n : Fin 8448) : EReal :=
  Ideal.div (∑ d : Fin 128, rows kc kl b n ⟨128 * (e.val / 512) + d.val, by have := e.isLt; have := d.isLt; omega⟩
      * q (ix3 b t ⟨128 * (e.val / 128) + d.val, by have := e.isLt; have := d.isLt; omega⟩))
    (Ideal.sqrt (Ideal.ofBits .f32 0x43000000#32))

/-- A column's key head, query head within it, and lane. -/
abbrev grp (e : Fin 1024) : Fin 2 := ⟨e.val / 512, by have := e.isLt; omega⟩
abbrev sub (e : Fin 1024) : Fin 4 := ⟨e.val / 128 % 4, Nat.mod_lt _ (by decide)⟩
abbrev lane (e : Fin 1024) : Fin 128 := ⟨e.val % 128, Nat.mod_lt _ (by decide)⟩

section

variable (x0 : (⟨S4x8192x1024, .f32⟩ : BufTy).Contents (Elt Ideal)) (x1 : (⟨S4x256x256, .f32⟩ : BufTy).Contents (Elt Ideal)) (x2 : (⟨S4x8192x256, .f32⟩ : BufTy).Contents (Elt Ideal))
  (x3 : (⟨S4x256x256, .f32⟩ : BufTy).Contents (Elt Ideal)) (x4 : (⟨S4x8192x256, .f32⟩ : BufTy).Contents (Elt Ideal))

theorem keys_apply (b : Fin 4) (n : Fin 8448) (e : Fin 256) : val_main_v0 (F := Ideal) x1 x2 (ix3 b n e) = rows x1 x2 b n e := by
  unfold val_main_v0 rows
  pointwise

theorem values_apply (b : Fin 4) (n : Fin 8448) (e : Fin 256) : val_main_v1 (F := Ideal) x3 x4 (ix3 b n e) = rows x3 x4 b n e := by
  unfold val_main_v1 rows
  pointwise

theorem score_apply (b : Fin 4) (t : Fin 8192) (e : Fin 1024) (n : Fin 8448) :
    val_main_v9 (F := Ideal) x0 x1 x2 (ix5 b (grp e) (sub e) t n) = refScore x0 x1 x2 b t e n := by
  rw [val_main_v9_apply, val_main_v6_apply, val_main_v5_apply, val_main_v8_apply]
  unfold refScore
  refine congrArg₂ Ideal.div (Finset.sum_congr rfl fun d _ => ?_) rfl
  have he := e.isLt
  have hd := d.isLt
  have hb := b.isLt
  have ht := t.isLt
  have hn := n.isLt
  rw [val_main_v3_apply, val_main_v2_apply, ← keys_apply]
  refine congrArg₂ (· * ·) (congrArg _ (funext fun a => Fin.ext ?_)) (congrArg _ (funext fun a => Fin.ext ?_))
  · match a with
    | ⟨0, _⟩ => show (((b.val * 8448 + n.val) * 2 + e.val / 512) * 128 + d.val) / 2162688 = b.val; omega
    | ⟨1, _⟩ => show (((b.val * 8448 + n.val) * 2 + e.val / 512) * 128 + d.val) / 256 % 8448 = n.val; omega
    | ⟨2, _⟩ => show (((b.val * 8448 + n.val) * 2 + e.val / 512) * 128 + d.val) % 256 = 128 * (e.val / 512) + d.val; omega
  · match a with
    | ⟨0, _⟩ => show ((((b.val * 8192 + t.val) * 2 + e.val / 512) * 4 + e.val / 128 % 4) * 128 + d.val) / 8388608 = b.val; omega
    | ⟨1, _⟩ => show ((((b.val * 8192 + t.val) * 2 + e.val / 512) * 4 + e.val / 128 % 4) * 128 + d.val) / 1024 % 8192 = t.val; omega
    | ⟨2, _⟩ => show ((((b.val * 8192 + t.val) * 2 + e.val / 512) * 4 + e.val / 128 % 4) * 128 + d.val) % 1024 = 128 * (e.val / 128) + d.val; omega

theorem max_apply (b : Fin 4) (t : Fin 8192) (e : Fin 1024) :
    val_main_v12 (F := Ideal) x0 x1 x2 (ix4 b (grp e) (sub e) t) = Finset.univ.sup (refScore x0 x1 x2 b t e) := by
  have h10 : val_main_v10 (F := Ideal) x0 x1 x2 (ix4 b (grp e) (sub e) t) = Finset.univ.sup (refScore x0 x1 x2 b t e) := by
    have hs := score_apply x0 x1 x2 b t e
    unfold val_main_v10
    generalize val_main_v9 (F := Ideal) x0 x1 x2 = y at hs ⊢
    rw [← fold_max_eq_sup]
    simp only [← hs]
    unfold val_main_cst_0
    pointwise
  rw [val_main_v12_apply, h10, val_main_v11_apply, val_main_cst_1_apply]
  show max (Ideal.ofBits .f32 0xFF800000#32) _ = _
  rw [negInf]
  exact max_eq_right bot_le

theorem exp_apply (b : Fin 4) (t : Fin 8192) (e : Fin 1024) (n : Fin 8448) :
    val_main_v16 (F := Ideal) x0 x1 x2 (ix5 b (grp e) (sub e) t n)
      = Ideal.exp (refScore x0 x1 x2 b t e n - Finset.univ.sup (refScore x0 x1 x2 b t e)) := by
  rw [val_main_v16_apply, val_main_v15_apply, score_apply, val_main_v14_apply, val_main_v13_apply]
  refine congrArg Ideal.exp (congrArg (refScore x0 x1 x2 b t e n - ·) ?_)
  rw [← max_apply]
  refine congrArg _ (funext fun a => ?_)
  match a with
  | ⟨0, _⟩ => rfl
  | ⟨1, _⟩ => rfl
  | ⟨2, _⟩ => rfl
  | ⟨3, _⟩ => rfl

theorem prob_apply (b : Fin 4) (t : Fin 8192) (e : Fin 1024) (n : Fin 8448) :
    val_main_v20 (F := Ideal) x0 x1 x2 (ix5 b (grp e) (sub e) t n)
      = Ideal.div (Ideal.exp (refScore x0 x1 x2 b t e n - Finset.univ.sup (refScore x0 x1 x2 b t e)))
          (∑ j : Fin 8448, Ideal.exp (refScore x0 x1 x2 b t e j - Finset.univ.sup (refScore x0 x1 x2 b t e))) := by
  rw [val_main_v20_apply, exp_apply, val_main_v19_apply, val_main_v18_apply, val_main_v17_apply]
  refine congrArg (Ideal.div _) ?_
  have hz : (val_main_cst_2 (F := Ideal)) (Shape.Idx.first h_S_) = (0 : EReal) := by
    show Ideal.ofBits .f32 0x00000000#32 = 0
    simp [Ideal.ofBits, Ideal.ieee]
  rw [hz, zero_add]
  refine Finset.sum_congr rfl fun j _ => ?_
  rw [← exp_apply]
  refine congrArg _ (funext fun a => ?_)
  match a with
  | ⟨0, _⟩ => rfl
  | ⟨1, _⟩ => rfl
  | ⟨2, _⟩ => rfl
  | ⟨3, _⟩ => rfl
  | ⟨4, _⟩ => rfl

/-- The reference at an index. -/
theorem ref_apply (b : Fin 4) (t : Fin 8192) (e : Fin 1024) :
    val_main_v24 (F := Ideal) x0 x1 x2 x3 x4 (ix3 b t e)
      = ∑ n : Fin 8448, rows x3 x4 b n ⟨128 * (e.val / 512) + e.val % 128, by have := e.isLt; omega⟩
          * Ideal.div (Ideal.exp (refScore x0 x1 x2 b t e n - Finset.univ.sup (refScore x0 x1 x2 b t e)))
              (∑ j : Fin 8448, Ideal.exp (refScore x0 x1 x2 b t e j - Finset.univ.sup (refScore x0 x1 x2 b t e))) := by
  rw [val_main_v24_apply, val_main_v23_apply, val_main_v22_apply, val_main_v21_apply]
  have he := e.isLt
  have hb := b.isLt
  have ht := t.isLt
  refine Finset.sum_congr rfl fun n _ => ?_
  have hn := n.isLt
  rw [val_main_v4_apply, ← values_apply, ← prob_apply]
  have q0 : ((b.val * 8192 + t.val) * 1024 + e.val) / 8388608 = b.val := by omega
  have q1 : ((b.val * 8192 + t.val) * 1024 + e.val) / 512 % 2 = e.val / 512 := by omega
  have q2 : ((b.val * 8192 + t.val) * 1024 + e.val) % 128 = e.val % 128 := by omega
  have q3 : (((b.val * 8448 + n.val) * 2 + e.val / 512) * 128 + e.val % 128) / 256 = b.val * 8448 + n.val := by omega
  refine congrArg₂ (· * ·) (congrArg _ (funext fun a => Fin.ext ?_)) (congrArg _ (funext fun a => Fin.ext ?_))
  · match a with
    | ⟨0, _⟩ => show ((((((b.val * 8192 + t.val) * 1024 + e.val) / 8388608) * 8448 + n.val) * 2 + ((b.val * 8192 + t.val) * 1024 + e.val) / 512 % 2) * 128 + ((b.val * 8192 + t.val) * 1024 + e.val) % 128) / 2162688 = b.val; rw [q0, q1, q2]; omega
    | ⟨1, _⟩ => show ((((((b.val * 8192 + t.val) * 1024 + e.val) / 8388608) * 8448 + n.val) * 2 + ((b.val * 8192 + t.val) * 1024 + e.val) / 512 % 2) * 128 + ((b.val * 8192 + t.val) * 1024 + e.val) % 128) / 256 % 8448 = n.val; rw [q0, q1, q2, q3]; omega
    | ⟨2, _⟩ => show ((((((b.val * 8192 + t.val) * 1024 + e.val) / 8388608) * 8448 + n.val) * 2 + ((b.val * 8192 + t.val) * 1024 + e.val) / 512 % 2) * 128 + ((b.val * 8192 + t.val) * 1024 + e.val) % 128) % 256 = 128 * (e.val / 512) + e.val % 128; rw [q0, q1, q2]; omega
  · match a with
    | ⟨0, _⟩ => show ((b.val * 8192 + t.val) * 1024 + e.val) / 8388608 = b.val; omega
    | ⟨1, _⟩ => show ((b.val * 8192 + t.val) * 1024 + e.val) / 512 % 2 = e.val / 512; omega
    | ⟨2, _⟩ => show ((b.val * 8192 + t.val) * 1024 + e.val) / 128 % 4 = e.val / 128 % 4; omega
    | ⟨3, _⟩ => show ((b.val * 8192 + t.val) * 1024 + e.val) / 1024 % 8192 = t.val; omega
    | ⟨4, _⟩ => rfl

end

end Cert.AttnRefIdeal.Attention

end
-- ==== Proof.AttnEqual.lean ====
/- The kernel's value is the reference's where queries and keys are finite (`attn_eq`). -/
module

public import proofs.«01_k».proof.Proof.Gen.Pre_finite_qk
public import proofs.«01_k».proof.Proof.AttnRef
public import Idealize.ShloMosaic.Lib.ReduceAll

@[expose] public section

noncomputable section

namespace Cert.Attention

open Cert.OnlineSoftmax Cert.AttnRefIdeal.Attention
open Cert.AttnIdeal.Attention (rows scoreAt valueAt attnAt queryDivisor)
open Idealize.ShloMosaic Idealize.SL.Sem

theorem infinity : Ideal.ofBits .f32 0x7F800000#32 = (⊤ : EReal) := by simp [Ideal.ofBits, Ideal.ieee]

/-- An extended real whose magnitude is below infinity is a real number. -/
theorem real_of_abs_lt (x : EReal) (h : Ideal.cmp .olt (max x (-x)) (Ideal.ofBits .f32 0x7F800000#32) = 1#1) : ∃ r : ℝ, x = r := by
  rw [infinity] at h
  induction x with
  | bot => simp [Ideal.cmp] at h
  | top => simp [Ideal.cmp] at h
  | coe r => exact ⟨r, rfl⟩

section

variable {q : (⟨3, ![4, 8192, 1024]⟩ : Shape).Idx → EReal} {kc : (⟨3, ![4, 256, 256]⟩ : Shape).Idx → EReal} {kl : (⟨3, ![4, 8192, 256]⟩ : Shape).Idx → EReal}
  {vc : (⟨3, ![4, 256, 256]⟩ : Shape).Idx → EReal} {vl : (⟨3, ![4, 8192, 256]⟩ : Shape).Idx → EReal}

theorem finite_of_pre (h : Cert.Pre_finite_qk.fn (F := Ideal) q kc kl vc vl = fun _ => 1#1) :
    (∀ i, ∃ r : ℝ, q i = r) ∧ (∀ i, ∃ r : ℝ, kc i = r) ∧ (∀ i, ∃ r : ℝ, kl i = r) := by
  have h0 := congrFun h (fun a => a.elim0)
  dsimp only [Cert.Pre_finite_qk.fn] at h0
  obtain ⟨h1, h2⟩ := IntOp.andi_eq_one.1 h0
  obtain ⟨h3, h4⟩ := IntOp.andi_eq_one.1 h1
  haveI : Subsingleton Cert.Pre_finite_qk.S_.Idx := ⟨fun a b => funext fun i => i.elim0⟩
  exact ⟨fun i => real_of_abs_lt _ (Host.reduce_andi_all _ _ _ _ _ h3 i), fun i => real_of_abs_lt _ (Host.reduce_andi_all _ _ _ _ _ h4 i),
    fun i => real_of_abs_lt _ (Host.reduce_andi_all _ _ _ _ _ h2 i)⟩

theorem dimension : Ideal.ofBits .f32 0x43000000#32 = ((128 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem root : Ideal.sqrt (Ideal.ofBits .f32 0x43000000#32) = ((Real.sqrt 128 : ℝ) : EReal) := by
  rw [dimension]
  simp

theorem divisor : queryDivisor = ((Real.sqrt 128 * Real.log 2 : ℝ) : EReal) := by
  unfold queryDivisor
  rw [root, two, EReal.coe_mul]
  congr 1
  simp

theorem root_pos : 0 < Real.sqrt 128 := Real.sqrt_pos.2 (by norm_num)

theorem log_two_pos : 0 < Real.log 2 := Real.log_pos (by norm_num)

/-- Where queries and keys are real, a reference score is a real `t`, and the kernel's is `t / log 2`. -/
theorem scores_real (hq : ∀ i, ∃ r : ℝ, q i = r) (hc : ∀ i, ∃ r : ℝ, kc i = r) (hl : ∀ i, ∃ r : ℝ, kl i = r) (b : Fin 4) (t : Fin 8192) (e : Fin 1024) :
    ∃ s : ℕ → ℝ, (∀ n : Fin 8448, refScore q kc kl b t e n = ((s n.val : ℝ) : EReal))
      ∧ scoreAt q kc kl b t e = fun n => ((s n * (Real.log 2)⁻¹ : ℝ) : EReal) := by
  choose rq hrq using hq
  have hk : ∀ n c, ∃ r : ℝ, rows kc kl b n c = r := fun n c => by
    unfold rows
    split
    · exact hc _
    · exact hl _
  choose rk hrk using hk
  refine ⟨fun n => if h : n < 8448 then (∑ d : Fin 128, rk ⟨n, h⟩ ⟨128 * (e.val / 512) + d.val, by have := e.isLt; have := d.isLt; omega⟩
      * rq (ix3 b t ⟨128 * (e.val / 128) + d.val, by have := e.isLt; have := d.isLt; omega⟩)) * (Real.sqrt 128)⁻¹ else 0, fun n => ?_, funext fun n => ?_⟩
  · unfold refScore
    rw [root, div_coe_pos _ root_pos]
    beta_reduce
    rw [dif_pos n.isLt, EReal.coe_mul, coe_sum]
    refine congrArg (· * _) (Finset.sum_congr rfl fun d _ => ?_)
    rw [hrk, hrq, EReal.coe_mul]
  · unfold scoreAt
    by_cases h : n < 8448
    · beta_reduce
      rw [dif_pos h, dif_pos h, Finset.sum_mul, Finset.sum_mul, coe_sum]
      refine Finset.sum_congr rfl fun d _ => ?_
      rw [divisor, div_coe_pos _ (mul_pos root_pos log_two_pos), hrk, hrq, ← EReal.coe_mul, ← EReal.coe_mul]
      refine congrArg _ ?_
      rw [mul_inv]
      ring
    · beta_reduce
      rw [dif_neg h, dif_neg h, zero_mul]
      rfl

theorem sup_fin (f : ℕ → EReal) (N : ℕ) : (Finset.univ.sup fun i : Fin N => f i.val) = (Finset.range N).sup f :=
  le_antisymm (Finset.sup_le fun n _ => Finset.le_sup (f := f) (Finset.mem_range.2 n.isLt))
    (Finset.sup_le fun n hn => Finset.le_sup (f := fun i : Fin N => f i.val) (Finset.mem_univ ⟨n, Finset.mem_range.1 hn⟩))

/-- The kernel's quotient of accumulators, for any number of keys, as the softmax of the scores applied to the values. -/
theorem softmax_of_scores {N : ℕ} (hN : 0 < N) (s : ℕ → ℝ) (v : ℕ → EReal) (S V : Fin N → EReal) (hS : ∀ n, S n = ((s n.val : ℝ) : EReal)) (hV : ∀ n, V n = v n.val) :
    Ideal.div (runAcc (fun n => ((s n * (Real.log 2)⁻¹ : ℝ) : EReal)) v N) (runAcc (fun n => ((s n * (Real.log 2)⁻¹ : ℝ) : EReal)) (fun _ => 1) N)
      = ∑ n : Fin N, V n * Ideal.div (Ideal.exp (S n - Finset.univ.sup S)) (∑ j : Fin N, Ideal.exp (S j - Finset.univ.sup S)) := by
  obtain rfl : S = fun n => ((s n.val : ℝ) : EReal) := funext hS
  obtain rfl : V = fun n => v n.val := funext hV
  rw [quotient_eq_softmax s v hN, sup_fin (fun n => ((s n : ℝ) : EReal)) N]
  rfl

theorem attn_eq (hq : ∀ i, ∃ r : ℝ, q i = r) (hc : ∀ i, ∃ r : ℝ, kc i = r) (hl : ∀ i, ∃ r : ℝ, kl i = r) (b : Fin 4) (t : Fin 8192) (e : Fin 1024) :
    attnAt q kc kl vc vl b t e = Cert.AttnRefIdeal.Read.val_main_v24 (F := Ideal) q kc kl vc vl (ix3 b t e) := by
  obtain ⟨s, hs, hk⟩ := scores_real hq hc hl b t e
  rw [ref_apply]
  unfold attnAt
  rw [hk]
  refine softmax_of_scores (by norm_num) s (valueAt vc vl b e) _ _ hs fun n => ?_
  unfold valueAt
  rw [dif_pos n.isLt]

end

end Cert.Attention

end
-- ==== Proof.MoeOk.lean ====
/- The grouped expert feed-forward reads, from its two tables, the expert of each tile of rows and the number of
   tiles in use. Where every tile's expert is one of the eight, each block of weights lies inside its array. -/
module

public import proofs.«01_k».proof.Defs
public import proofs.«01_k».proof.Proof.Gen.Moe.Frame.Runs
public import proofs.«01_k».proof.Proof.Gen.MoeIdeal.Frame.Runs
public import proofs.«01_k».proof.Proof.Gen.Pre_expert_range
public import Idealize.ShloMosaic.Lib.ReduceAll
public import Idealize.ShloMosaic.Lib.Pointwise

@[expose] public section

set_option maxRecDepth 16384

noncomputable section

namespace Cert.Experts

open Idealize.ShloMosaic

variable {F : FTy → Type} [FloatOps F]

/-- The precondition, of one tile: its expert's number is below eight. -/
theorem expert_lt_of_pre {te : IVec Cert.Pre_expert_range.S136 32} {nu : IVec Cert.Pre_expert_range.S1 32}
    {hs : FVec F Cert.Pre_expert_range.S69632x2048 .f32} {wg wu : FVec F Cert.Pre_expert_range.S8x2048x5632 .f32}
    {wd : FVec F Cert.Pre_expert_range.S8x5632x2048 .f32}
    (h : Cert.Pre_expert_range.fn (F := F) te nu hs wg wu wd = fun _ => 1#1) (i : Cert.Pre_expert_range.S136.Idx) :
    (te i).toNat < 8 := by
  have h0 := congrFun h (fun a => a.elim0)
  dsimp only [Cert.Pre_expert_range.fn] at h0
  haveI : Subsingleton Cert.Pre_expert_range.S_.Idx := ⟨fun a b => funext fun i => i.elim0⟩
  obtain ⟨h1, h2⟩ := IntOp.andi_eq_one.1 (Host.reduce_andi_all _ _ _ _ _ h0 i)
  have h3 := IntOp.cmpi_sge.1 h1
  have h4 := IntOp.cmpi_slt.1 h2
  have h5 : (0 : ℤ) ≤ (te i).toInt := h3
  have h6 : (te i).toInt < 8 := h4
  rw [BitVec.toInt_eq_toNat_cond] at h5 h6
  split at h5 <;> omega

/-- The block of hidden columns that a tile's point `j` reads: its own where tile `i` is in use, the first otherwise. -/
def column (used : BitVec 32) (i j : ℕ) : ℕ := if (i : ℤ) < used.toInt then j else 0

theorem column_lt (used : BitVec 32) (i : ℕ) {j : ℕ} (hj : j < 11) : column used i j < 11 := by
  unfold column
  split <;> omega

theorem select_eq (used : BitVec 32) {i j : ℕ} (h0 : i < 136) (h1 : j < 11) :
    (Scalar.select (Scalar.cmpi .slt (BitVec.ofNat 32 i) used) (BitVec.ofNat 32 j) 0#32 : BitVec 32).toNat = column used i j := by
  have e0 : (BitVec.ofNat 32 i).toInt = (i : ℤ) := by
    rw [BitVec.toInt_eq_toNat_cond, BitVec.toNat_ofNat]; split <;> omega
  have hc : Scalar.cmpi .slt (BitVec.ofNat 32 i) used = 1#1 ↔ (i : ℤ) < used.toInt := by
    rw [Scalar.cmpi, IntOp.cmpi_slt, e0]
  unfold column
  by_cases h : (i : ℤ) < used.toInt
  · rw [if_pos h, hc.2 h]
    show (BitVec.ofNat 32 j).toNat = _
    rw [BitVec.toNat_ofNat]; omega
  · rw [if_neg h, show Scalar.cmpi .slt (BitVec.ofNat 32 i) used = 0#1 from by
      have := mt hc.1 h
      revert this; generalize Scalar.cmpi .slt (BitVec.ofNat 32 i) used = b; revert b; decide]
    rfl

/-- A block of an expert's inward weights lies inside their array, -/
theorem inward_inside {e b : ℕ} (he : e < 8) (hb : b < 11) (a : Fin 3) : (![e, 0, b] a + 1) * ![1, 2048, 512] a ≤ ![8, 2048, 5632] a := by
  match a with
  | ⟨0, _⟩ => show (e + 1) * 1 ≤ 8; omega
  | ⟨1, _⟩ => show (0 + 1) * 2048 ≤ 2048; omega
  | ⟨2, _⟩ => show (b + 1) * 512 ≤ 5632; omega

/-- and one of its outward weights inside theirs. -/
theorem outward_inside {e b : ℕ} (he : e < 8) (hb : b < 11) (a : Fin 3) : (![e, b, 0] a + 1) * ![1, 512, 2048] a ≤ ![8, 5632, 2048] a := by
  match a with
  | ⟨0, _⟩ => show (e + 1) * 1 ≤ 8; omega
  | ⟨1, _⟩ => show (b + 1) * 512 ≤ 5632; omega
  | ⟨2, _⟩ => show (0 + 1) * 2048 ≤ 2048; omega

end Cert.Experts

namespace Cert.MoeIdeal.Experts

open Cert.MoeIdeal Cert.MoeIdeal.Gen Idealize.ShloMosaic Idealize.ShloMosaic.TcCoe

variable {F : FTy → Type} [FloatOps F] (m : (ℓ : Loc nD τ sig) → Buf (Elt F) ℓ)

/-- The expert of tile `i`. -/
def expertAt (i : Fin 136) : BitVec 32 := m (((0 : Dev nD).tc : Thread nD τ).loc main_arg0) (ix1 i)

/-- The number of tiles in use. -/
def usedTiles : BitVec 32 := m (((0 : Dev nD).tc : Thread nD τ).loc main_arg1) (ix1 0)

/-- The word of the first table that a point reads, -/
abbrev expertWord (i : grid0.Coords) : BitVec 32 := (tbl m).at 0 (Rect.unit (s := S136) (k0_off1 i) S1.size (k0_off1_inb i)) numel1_S1

/-- and the word of the second. -/
abbrev usedWord : BitVec 32 := (tbl m).at 1 (Rect.unit (s := S1) ![0] S1.size inb_S1_S1_0) numel1_S1

theorem expertWord_eq (i : grid0.Coords) : expertWord m i = expertAt m (i 0) := by
  have hlt : (i 0).val < 136 := (i 0).isLt
  show V m 0 main_arg0 _ = _
  rw [V_main_arg0]
  unfold expertAt
  congr 1
  funext a
  apply Fin.ext
  match a with
  | ⟨0, _⟩ =>
    show (Scalar.indexCast (BitVec.ofNat 32 (i 0).val) : Index).toNat + 1 * 0 = (i 0).val
    show (BitVec.ofNat 32 (i 0).val).toNat + 1 * 0 = (i 0).val
    rw [BitVec.toNat_ofNat]
    omega

theorem usedWord_eq : usedWord m = usedTiles m := by
  show V m 0 main_arg1 _ = _
  rw [V_main_arg1]
  unfold usedTiles
  congr 1
  funext a
  match a with
  | ⟨0, _⟩ => rfl

/-- The block of hidden columns a point reads. -/
abbrev columnBlock (i : grid0.Coords) : ℕ := Cert.Experts.column (usedTiles m) (i 0).val (i 1).val

theorem columnBlock_lt (i : grid0.Coords) : columnBlock m i < 11 := Cert.Experts.column_lt _ _ (i 1).isLt

theorem transform_gate (i : grid0.Coords) :
    cc0_transform_1 k0_off1_inb numel1_S1 inb_S1_S1_0 (tbl m) i = ![(expertAt m (i 0)).toNat, 0, columnBlock m i] := by
  show ![(expertWord m i).toNat, 0, (Scalar.select (Scalar.cmpi .slt (BitVec.ofNat 32 (i 0).val) (usedWord m)) (BitVec.ofNat 32 (i 1).val) 0#32 : BitVec 32).toNat] = _
  rw [expertWord_eq, usedWord_eq, Cert.Experts.select_eq _ (i 0).isLt (i 1).isLt]

theorem transform_up (i : grid0.Coords) :
    cc0_transform_2 k0_off1_inb numel1_S1 inb_S1_S1_0 (tbl m) i = ![(expertAt m (i 0)).toNat, 0, columnBlock m i] := by
  show ![(expertWord m i).toNat, 0, (Scalar.select (Scalar.cmpi .slt (BitVec.ofNat 32 (i 0).val) (usedWord m)) (BitVec.ofNat 32 (i 1).val) 0#32 : BitVec 32).toNat] = _
  rw [expertWord_eq, usedWord_eq, Cert.Experts.select_eq _ (i 0).isLt (i 1).isLt]

theorem transform_down (i : grid0.Coords) :
    cc0_transform_3 k0_off1_inb numel1_S1 inb_S1_S1_0 (tbl m) i = ![(expertAt m (i 0)).toNat, columnBlock m i, 0] := by
  show ![(expertWord m i).toNat, (Scalar.select (Scalar.cmpi .slt (BitVec.ofNat 32 (i 0).val) (usedWord m)) (BitVec.ofNat 32 (i 1).val) 0#32 : BitVec 32).toNat, 0] = _
  rw [expertWord_eq, usedWord_eq, Cert.Experts.select_eq _ (i 0).isLt (i 1).isLt]

/-- Where every expert is one of the eight, every block of weights lies inside its array. -/
theorem ok_of_lt (h : ∀ i, (expertAt m i).toNat < 8) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · rw [transform_gate]
    exact Cert.Experts.inward_inside (h (i 0)) (columnBlock_lt m i) a
  · rw [transform_up]
    exact Cert.Experts.inward_inside (h (i 0)) (columnBlock_lt m i) a
  · rw [transform_down]
    exact Cert.Experts.outward_inside (h (i 0)) (columnBlock_lt m i) a

end Cert.MoeIdeal.Experts

namespace Cert.MoeIdeal.Experts

open Cert.MoeIdeal Cert.MoeIdeal.Gen Idealize.ShloMosaic Idealize.ShloMosaic.TcCoe

/-- The precondition gives the blocks inside their arrays. -/
theorem ok_of_pre (m : (ℓ : Loc nD τ sig) → Buf (Elt Ideal) ℓ) (h : Cert.Pre_MoeIdeal m) : Ok m :=
  ok_of_lt m fun i => Cert.Experts.expert_lt_of_pre (h 0) (ix1 i)

end Cert.MoeIdeal.Experts

/-! ## The same of the program before its idealization -/

namespace Cert.Moe.Experts

open Cert.Moe Cert.Moe.Gen Idealize.ShloMosaic Idealize.ShloMosaic.TcCoe

variable {F : FTy → Type} [FloatOps F] (m : (ℓ : Loc nD τ sig) → Buf (Elt F) ℓ)

/-- The expert of tile `i`. -/
def expertAt (i : Fin 136) : BitVec 32 := m (((0 : Dev nD).tc : Thread nD τ).loc main_arg0) (ix1 i)

/-- The number of tiles in use. -/
def usedTiles : BitVec 32 := m (((0 : Dev nD).tc : Thread nD τ).loc main_arg1) (ix1 0)

/-- The word of the first table that a point reads, -/
abbrev expertWord (i : grid0.Coords) : BitVec 32 := (tbl m).at 0 (Rect.unit (s := S136) (k0_off1 i) S1.size (k0_off1_inb i)) numel1_S1

/-- and the word of the second. -/
abbrev usedWord : BitVec 32 := (tbl m).at 1 (Rect.unit (s := S1) ![0] S1.size inb_S1_S1_0) numel1_S1

theorem expertWord_eq (i : grid0.Coords) : expertWord m i = expertAt m (i 0) := by
  have hlt : (i 0).val < 136 := (i 0).isLt
  show V m 0 main_arg0 _ = _
  rw [V_main_arg0]
  unfold expertAt
  congr 1
  funext a
  apply Fin.ext
  match a with
  | ⟨0, _⟩ =>
    show (Scalar.indexCast (BitVec.ofNat 32 (i 0).val) : Index).toNat + 1 * 0 = (i 0).val
    show (BitVec.ofNat 32 (i 0).val).toNat + 1 * 0 = (i 0).val
    rw [BitVec.toNat_ofNat]
    omega

theorem usedWord_eq : usedWord m = usedTiles m := by
  show V m 0 main_arg1 _ = _
  rw [V_main_arg1]
  unfold usedTiles
  congr 1
  funext a
  match a with
  | ⟨0, _⟩ => rfl

/-- The block of hidden columns a point reads. -/
abbrev columnBlock (i : grid0.Coords) : ℕ := Cert.Experts.column (usedTiles m) (i 0).val (i 1).val

theorem columnBlock_lt (i : grid0.Coords) : columnBlock m i < 11 := Cert.Experts.column_lt _ _ (i 1).isLt

theorem transform_gate (i : grid0.Coords) :
    cc0_transform_1 k0_off1_inb numel1_S1 inb_S1_S1_0 (tbl m) i = ![(expertAt m (i 0)).toNat, 0, columnBlock m i] := by
  show ![(expertWord m i).toNat, 0, (Scalar.select (Scalar.cmpi .slt (BitVec.ofNat 32 (i 0).val) (usedWord m)) (BitVec.ofNat 32 (i 1).val) 0#32 : BitVec 32).toNat] = _
  rw [expertWord_eq, usedWord_eq, Cert.Experts.select_eq _ (i 0).isLt (i 1).isLt]

theorem transform_up (i : grid0.Coords) :
    cc0_transform_2 k0_off1_inb numel1_S1 inb_S1_S1_0 (tbl m) i = ![(expertAt m (i 0)).toNat, 0, columnBlock m i] := by
  show ![(expertWord m i).toNat, 0, (Scalar.select (Scalar.cmpi .slt (BitVec.ofNat 32 (i 0).val) (usedWord m)) (BitVec.ofNat 32 (i 1).val) 0#32 : BitVec 32).toNat] = _
  rw [expertWord_eq, usedWord_eq, Cert.Experts.select_eq _ (i 0).isLt (i 1).isLt]

theorem transform_down (i : grid0.Coords) :
    cc0_transform_3 k0_off1_inb numel1_S1 inb_S1_S1_0 (tbl m) i = ![(expertAt m (i 0)).toNat, columnBlock m i, 0] := by
  show ![(expertWord m i).toNat, (Scalar.select (Scalar.cmpi .slt (BitVec.ofNat 32 (i 0).val) (usedWord m)) (BitVec.ofNat 32 (i 1).val) 0#32 : BitVec 32).toNat, 0] = _
  rw [expertWord_eq, usedWord_eq, Cert.Experts.select_eq _ (i 0).isLt (i 1).isLt]

/-- Where every expert is one of the eight, every block of weights lies inside its array. -/
theorem ok_of_lt (h : ∀ i, (expertAt m i).toNat < 8) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · rw [transform_gate]
    exact Cert.Experts.inward_inside (h (i 0)) (columnBlock_lt m i) a
  · rw [transform_up]
    exact Cert.Experts.inward_inside (h (i 0)) (columnBlock_lt m i) a
  · rw [transform_down]
    exact Cert.Experts.outward_inside (h (i 0)) (columnBlock_lt m i) a

end Cert.Moe.Experts

namespace Cert.Moe.Experts

open Cert.Moe Cert.Moe.Gen Idealize.ShloMosaic Idealize.ShloMosaic.TcCoe

/-- The precondition gives the blocks inside their arrays. -/
theorem ok_of_pre (m : (ℓ : Loc nD τ sig) → Buf (Elt Bits) ℓ) (h : Cert.Pre_Moe m) : Ok m :=
  ok_of_lt m fun i => Cert.Experts.expert_lt_of_pre (h 0) (ix1 i)

end Cert.Moe.Experts

end
-- ==== Proof.MoeBlock.lean ====
/- One step of the grouped expert feed-forward, read at an index. -/
module

public import proofs.«01_k».proof.Proof.Gen.MoeIdeal.Skeleton
public import proofs.«01_k».proof.Proof.Gated

@[expose] public section

set_option maxRecDepth 16384

noncomputable section

namespace Cert.MoeIdeal.Experts

open Cert.MoeIdeal Cert.MoeIdeal.Gen Cert.Gated Idealize.ShloMosaic

theorem pay_zero (r : Fin 512) (z : Fin 2048) : k0_pay1 (F := Ideal) (ix2 r z) = (0 : EReal) := by
  unfold k0_pay1
  pointwise

theorem pay_rows (x : Vec Ideal S512x2048 .f32) (r : Fin 512) (z : Fin 2048) : k0_pay2 (F := Ideal) x (ix2 r z) = x (ix2 r z) := by
  unfold k0_pay2
  pointwise

theorem pay_step (h : Vec Ideal S512x2048 .bf16) (wg wu : Vec Ideal S1x2048x512 .bf16) (acc : Vec Ideal S512x2048 .f32) (wd : Vec Ideal S1x512x2048 .bf16)
    (r : Fin 512) (z : Fin 2048) :
    (k0_pay3 (F := Ideal) h wg wu acc wd (ix2 r z) : EReal) = acc (ix2 r z) +
      ∑ j : Fin 512, gated (∑ d : Fin 2048, h (ix2 r d) * wg (ix3 0 d j)) (∑ d : Fin 2048, h (ix2 r d) * wu (ix3 0 d j)) * wd (ix3 0 j z) := by
  unfold k0_pay3 gated
  pointwise

end Cert.MoeIdeal.Experts

end
-- ==== Proof.MoeBlocks.lean ====
/- The blocks that a point of the grouped expert feed-forward reads, in the arguments. -/
module

public import proofs.«01_k».proof.Proof.MoeOk
public import proofs.«01_k».proof.Proof.MoeBlock
public import proofs.«01_k».proof.Proof.Gen.MoeIdeal.Frame
public import Idealize.ShloMosaic.Lib.Pipeline.ValueKit

@[expose] public section

set_option maxRecDepth 16384

noncomputable section

namespace Cert.MoeIdeal.Experts

open Cert.MoeIdeal Cert.MoeIdeal.Gen Idealize.ShloMosaic Idealize.ShloMosaic.TcCoe Idealize.SL.Sem

variable (m : (ℓ : Loc nD τ sig) → Buf (Elt Ideal) ℓ) (hO : Ok m) (c : Dev nD)

/-! ## The prepared weights -/

theorem V_gate (e : Fin 8) (d : Fin 2048) (j : Fin 5632) : V m c main_v0 (ix3 e d j) = m ((c.tc : Thread nD τ).loc main_arg3) (ix3 e d j) := by
  unfold_abbrev_sides
  after_results
  pointwise

theorem V_up (e : Fin 8) (d : Fin 2048) (j : Fin 5632) : V m c main_v1 (ix3 e d j) = m ((c.tc : Thread nD τ).loc main_arg4) (ix3 e d j) := by
  unfold_abbrev_sides
  after_results
  pointwise

theorem V_down (e : Fin 8) (j : Fin 5632) (z : Fin 2048) : V m c main_v2 (ix3 e j z) = m ((c.tc : Thread nD τ).loc main_arg5) (ix3 e j z) := by
  unfold_abbrev_sides
  after_results
  pointwise

/-! ## A point's tile and block of hidden columns -/

theorem tile_lt (t : Fin grid0.N) : (grid0.coords t 0).val < 136 := (grid0.coords t 0).isLt

theorem tile_val (t : Fin grid0.N) : (grid0.coords t 0).val = t.val / 11 := by
  have ht : t.val < 1496 := Nat.lt_of_lt_of_eq t.isLt N_0
  rw [show (grid0.coords t 0).val = t.val / 11 % 136 from Pipeline.Grid.coords_val t 0 (by decide) rfl]
  omega

theorem column_val (t : Fin grid0.N) : (grid0.coords t 1).val = t.val % 11 := by
  rw [show (grid0.coords t 1).val = t.val / 1 % 11 from Pipeline.Grid.coords_val t 1 (by decide) rfl, Nat.div_one]

theorem index_rows : ∀ t : Fin grid0.N, cc0_transform_0 (grid0.coords t) = ![(grid0.coords t 0).val, 0] := by decide +kernel
theorem index_out : ∀ t : Fin grid0.N, cc0_transform_4 (grid0.coords t) = ![(grid0.coords t 0).val, 0] := by decide +kernel

/-- The body's condition on the tile is that it is in use. -/
theorem cond_iff (t : Fin grid0.N) :
    cond0_1 (grid0.coords t) (tbM0_1.view.readAt (Elt Ideal) (Rect.unit (s := S1) ![0] S1.size inb_S1_S1_0).toLoadRect (tbl m 1) (Shape.Idx.first (numel1_S1.symm ▸ Nat.one_pos)))
      ↔ ((t.val / 11 : ℕ) : ℤ) < (usedTiles m).toInt := by
  show (Scalar.cmpi .ne (Scalar.extui (Scalar.cmpi .slt (BitVec.ofNat 32 (grid0.coords t 0).val) (usedWord m))) 0#32) = 1#1 ↔ _
  have h0 := tile_lt t
  have e0 : (BitVec.ofNat 32 (grid0.coords t 0).val).toInt = ((grid0.coords t 0).val : ℤ) := by
    rw [BitVec.toInt_eq_toNat_cond, BitVec.toNat_ofNat]; split <;> omega
  have hx : ∀ b : BitVec 1, (Scalar.cmpi .ne (Scalar.extui b : BitVec 32) 0#32) = 1#1 ↔ b = 1#1 := by decide
  rw [hx, Scalar.cmpi, IntOp.cmpi_slt, e0, usedWord_eq, tile_val]

/-! ## The blocks -/

theorem window_rows (t : Fin (cfgM m hO).N) : (pcfg0.win (adm m hO) 0).index t = ![(grid0.coords t 0).val, 0] := index_rows t
theorem window_gate (t : Fin (cfgM m hO).N) : (pcfg0.win (adm m hO) 1).index t = ![(expertAt m (grid0.coords t 0)).toNat, 0, columnBlock m (grid0.coords t)] := transform_gate m _
theorem window_up (t : Fin (cfgM m hO).N) : (pcfg0.win (adm m hO) 2).index t = ![(expertAt m (grid0.coords t 0)).toNat, 0, columnBlock m (grid0.coords t)] := transform_up m _
theorem window_down (t : Fin (cfgM m hO).N) : (pcfg0.win (adm m hO) 3).index t = ![(expertAt m (grid0.coords t 0)).toNat, columnBlock m (grid0.coords t), 0] := transform_down m _
theorem window_out (t : Fin (cfgM m hO).N) : (pcfg0.win (adm m hO) 4).index t = ![(grid0.coords t 0).val, 0] := index_out t

theorem block_rows (t : Fin (cfgM m hO).N) (r : Fin 512) (d : Fin 2048) :
    iblk m hO c 0 t (ix2 r d) = m ((c.tc : Thread nD τ).loc main_arg2) (ix2 ⟨512 * (grid0.coords t 0).val + r.val, by have := tile_lt t; have := r.isLt; omega⟩ d) := by
  refine Eq.trans ?_ (congrFun (V_main_arg2 m c) _)
  blk_ext [iblk]
  · exact (congrArg (· * 512 + r.val) (congrFun (window_rows m hO t) 0)).trans (by show (grid0.coords t 0).val * 512 + r.val = _; omega)
  · exact (congrArg (· * 2048 + d.val) (congrFun (window_rows m hO t) 1)).trans (by show 0 * 2048 + d.val = _; omega)

theorem block_gate (t : Fin (cfgM m hO).N) (he : (expertAt m (grid0.coords t 0)).toNat < 8) (d : Fin 2048) (j : Fin 512) :
    iblk m hO c 1 t (ix3 0 d j) = m ((c.tc : Thread nD τ).loc main_arg3)
      (ix3 ⟨(expertAt m (grid0.coords t 0)).toNat, he⟩ d ⟨512 * columnBlock m (grid0.coords t) + j.val, by have := columnBlock_lt m (grid0.coords t); have := j.isLt; omega⟩) := by
  refine Eq.trans ?_ (V_gate m c _ _ _)
  blk_ext [iblk]
  · exact congrArg (· + 0) (congrFun (window_gate m hO t) 0)
  · exact (congrArg (· * 2048 + d.val) (congrFun (window_gate m hO t) 1)).trans (by show 0 * 2048 + d.val = _; omega)
  · exact (congrArg (· * 512 + j.val) (congrFun (window_gate m hO t) 2)).trans (by show columnBlock m (grid0.coords t) * 512 + j.val = _; omega)

theorem block_up (t : Fin (cfgM m hO).N) (he : (expertAt m (grid0.coords t 0)).toNat < 8) (d : Fin 2048) (j : Fin 512) :
    iblk m hO c 2 t (ix3 0 d j) = m ((c.tc : Thread nD τ).loc main_arg4)
      (ix3 ⟨(expertAt m (grid0.coords t 0)).toNat, he⟩ d ⟨512 * columnBlock m (grid0.coords t) + j.val, by have := columnBlock_lt m (grid0.coords t); have := j.isLt; omega⟩) := by
  refine Eq.trans ?_ (V_up m c _ _ _)
  blk_ext [iblk]
  · exact congrArg (· + 0) (congrFun (window_up m hO t) 0)
  · exact (congrArg (· * 2048 + d.val) (congrFun (window_up m hO t) 1)).trans (by show 0 * 2048 + d.val = _; omega)
  · exact (congrArg (· * 512 + j.val) (congrFun (window_up m hO t) 2)).trans (by show columnBlock m (grid0.coords t) * 512 + j.val = _; omega)

theorem block_down (t : Fin (cfgM m hO).N) (he : (expertAt m (grid0.coords t 0)).toNat < 8) (j : Fin 512) (z : Fin 2048) :
    iblk m hO c 3 t (ix3 0 j z) = m ((c.tc : Thread nD τ).loc main_arg5)
      (ix3 ⟨(expertAt m (grid0.coords t 0)).toNat, he⟩ ⟨512 * columnBlock m (grid0.coords t) + j.val, by have := columnBlock_lt m (grid0.coords t); have := j.isLt; omega⟩ z) := by
  refine Eq.trans ?_ (V_down m c _ _ _)
  blk_ext [iblk]
  · exact congrArg (· + 0) (congrFun (window_down m hO t) 0)
  · exact (congrArg (· * 512 + j.val) (congrFun (window_down m hO t) 1)).trans (by show columnBlock m (grid0.coords t) * 512 + j.val = _; omega)
  · exact (congrArg (· * 2048 + z.val) (congrFun (window_down m hO t) 2)).trans (by show 0 * 2048 + z.val = _; omega)

end Cert.MoeIdeal.Experts

end
-- ==== Proof.MoeStep.lean ====
/- What one point of the grouped expert feed-forward leaves in its two carried buffers (the sum over the hidden columns
   so far, and the tile's rows) and in the result's block, in each of the six ways its conditions fall. -/
module

public import proofs.«01_k».proof.Proof.MoeBlocks
public import proofs.«01_k».proof.Proof.Product
public import Idealize.ShloMosaic.Lib.Tactic
public import Idealize.ShloMosaic.Lib.Pipeline.Value

@[expose] public section

set_option maxRecDepth 16384

noncomputable section

namespace Cert.MoeIdeal.Experts

open Cert.MoeIdeal Cert.MoeIdeal.Gen Cert.Product Idealize.ShloMosaic Idealize.ShloMosaic.TcCoe Idealize.SL.Sem

theorem carried {A B C : Type} {o : A × B × C} {x : A} {y y' : B} {z z' : C} (h : o = (x, y, z)) (hy : y = y') (hz : z = z') : o.2 = (y', z') := by rw [h, hy, hz]
theorem whole {A B C : Type} {o : A × B × C} {x x' : A} {y y' : B} {z z' : C} (h : o = (x, y, z)) (hx : x = x') (hy : y = y') (hz : z = z') : o = (x', y', z') := by
  rw [h, hx, hy, hz]

variable (m : (ℓ : Loc nD τ sig) → Buf (Elt Ideal) ℓ) (hO : Ok m) (c : Dev nD) (t : Fin (cfgM m hO).N)

abbrev after : Vec Ideal S512x2048 .f32 × Vec Ideal S512x2048 .f32 × Vec Ideal S512x2048 .bf16 := outsAt0 m hO c t.val t.isLt
abbrev before : Vec Ideal S512x2048 .f32 × Vec Ideal S512x2048 .f32 × Vec Ideal S512x2048 .bf16 :=
  outsAt0 m hO c (t.val - 1) (Nat.lt_of_le_of_lt (Nat.sub_le _ _) t.isLt)

/-- The tile of the point is in use. -/
abbrev InUse : Prop := ((t.val / 11 : ℕ) : ℤ) < (usedTiles m).toInt

/-- The sum after a point of a tile in use, over the rows and the sum that it finds. -/
abbrev added (h : Vec Ideal S512x2048 .bf16) (acc : Vec Ideal S512x2048 .f32) : Vec Ideal S512x2048 .f32 :=
  k0_pay3 (F := Ideal) h (iblk m hO c 1 t) (iblk m hO c 2 t) acc (iblk m hO c 3 t)

/-- The first point of a tile, a middle one and the last one, each in a tile in use and in another. -/
theorem steps :
    (t.val % 11 = 0 → InUse m hO t → (after m hO c t).2 = (added m hO c t (k0_pay2 (iblk m hO c 0 t)) (k0_pay1 (F := Ideal)), k0_pay2 (F := Ideal) (iblk m hO c 0 t)))
    ∧ (t.val % 11 = 0 → ¬InUse m hO t → (after m hO c t).2 = (k0_pay1 (F := Ideal), k0_pay2 (F := Ideal) (iblk m hO c 0 t)))
    ∧ (¬t.val % 11 = 0 → ¬t.val % 11 = 10 → InUse m hO t → (after m hO c t).2 = (added m hO c t (before m hO c t).2.2 (before m hO c t).2.1, (before m hO c t).2.2))
    ∧ (¬t.val % 11 = 0 → ¬t.val % 11 = 10 → ¬InUse m hO t → (after m hO c t).2 = (before m hO c t).2)
    ∧ (t.val % 11 = 10 → InUse m hO t → after m hO c t
      = (added m hO c t (before m hO c t).2.2 (before m hO c t).2.1, added m hO c t (before m hO c t).2.2 (before m hO c t).2.1, (before m hO c t).2.2))
    ∧ (t.val % 11 = 10 → ¬InUse m hO t → after m hO c t = ((before m hO c t).2.1, (before m hO c t).2)) := by
  have out : ¬InUse m hO t → ¬cond0_1 (grid0.coords t) _ := fun hu h => hu ((cond_iff m t).mp h)
  have r0 : ∀ x : Vec Ideal S512x2048 .f32, (ms0_0 m hO t).view.read (Elt Ideal) ((hs0_0 m hO t).unread x) = x := fun x => (hs0_0 m hO t).read_unread x
  have r1 : ∀ x : Vec Ideal S1x2048x512 .bf16, (ms0_1 m hO t).view.read (Elt Ideal) ((hs0_1 m hO t).unread x) = x := fun x => (hs0_1 m hO t).read_unread x
  have r2 : ∀ x : Vec Ideal S1x2048x512 .bf16, (ms0_2 m hO t).view.read (Elt Ideal) ((hs0_2 m hO t).unread x) = x := fun x => (hs0_2 m hO t).read_unread x
  have r3 : ∀ x : Vec Ideal S1x512x2048 .bf16, (ms0_3 m hO t).view.read (Elt Ideal) ((hs0_3 m hO t).unread x) = x := fun x => (hs0_3 m hO t).read_unread x
  refine ⟨fun h0 hu => carried (outsAt0_A m hO c t h0 ((cond_iff m t).mpr hu) (by omega)) ?_ ?_, fun h0 hu => carried (outsAt0_B m hO c t h0 (out hu) (by omega)) ?_ ?_,
    fun h0 h2 hu => carried (outsAt0_C m hO c t h0 ((cond_iff m t).mpr hu) h2) ?_ rfl, fun h0 h2 hu => carried (outsAt0_D m hO c t h0 (out hu) h2) rfl rfl,
    fun h2 hu => whole (outsAt0_E m hO c t (by omega) ((cond_iff m t).mpr hu) h2) ?_ ?_ rfl, fun h2 hu => whole (outsAt0_F m hO c t (by omega) (out hu) h2) ?_ rfl rfl⟩
  on_goal 1 => (refine (View.read_writes_eq_canon _ _ _ fun _ => scover0_A_0 ..).trans ?_; unfold kernelRun0_A)
  on_goal 2 => (refine (View.read_writes_eq_canon _ _ _ fun _ => scover0_A_1 ..).trans ?_; unfold kernelRun0_A)
  on_goal 3 => (refine (View.read_writes_eq_canon _ _ _ fun _ => scover0_B_0 ..).trans ?_; unfold kernelRun0_B)
  on_goal 4 => (refine (View.read_writes_eq_canon _ _ _ fun _ => scover0_B_1 ..).trans ?_; unfold kernelRun0_B)
  on_goal 5 => (refine (View.read_writes_eq_canon _ _ _ fun _ => scover0_C_0 ..).trans ?_; unfold kernelRun0_C)
  on_goal 6 => (refine (View.read_writes_eq_canon _ _ _ fun _ => cover0_E_4 ..).trans ?_; unfold kernelRun0_E)
  on_goal 7 => (refine (View.read_writes_eq_canon _ _ _ fun _ => scover0_E_0 ..).trans ?_; unfold kernelRun0_E)
  on_goal 8 => (refine (View.read_writes_eq_canon _ _ _ fun _ => cover0_F_4 ..).trans ?_; unfold kernelRun0_F)
  all_goals
    dsimp only
    sl_unfold_words
    simp only [View.canon_cons_unit_zero (S := S512x2048) origin, View.canon_unit_zero (S := S512x2048) origin, View.readCov_unit_zero (S := S512x2048) _ origin,
      View.readAt_eq_ld,
      (Memref.isWhole_whole _).read_unread, View.ld_unit_zero (S := S512x2048) origin, View.ld_unit_zero (S := S1x2048x512) origin3, View.ld_unit_zero (S := S1x512x2048) origin3]
    repeat (first | erw [r0] | erw [r1] | erw [r2] | erw [r3])

end Cert.MoeIdeal.Experts

end
-- ==== Proof.MoeArray.lean ====
/- The result array of the grouped expert feed-forward after its run, in closed form: at row `p` and column `z` the sum
   over the hidden columns, taken block by block, of the expert of the row's tile; zero where the tile isn't in use. -/
module

public import proofs.«01_k».proof.Proof.MoeStep

@[expose] public section

set_option maxRecDepth 16384

noncomputable section

namespace Cert.MoeIdeal.Experts

open Cert.MoeIdeal Cert.MoeIdeal.Gen Cert.Gated Idealize.ShloMosaic Idealize.ShloMosaic.TcCoe Idealize.SL.Sem

/-- What hidden column `j` of expert `e` adds at row `p` and column `z`. -/
def column (hs : S69632x2048.Idx → EReal) (wg wu : S8x2048x5632.Idx → EReal) (wd : S8x5632x2048.Idx → EReal)
    (e : Fin 8) (p : Fin 69632) (z : Fin 2048) (j : Fin 5632) : EReal :=
  gated (∑ d : Fin 2048, hs (ix2 p d) * wg (ix3 e d j)) (∑ d : Fin 2048, hs (ix2 p d) * wu (ix3 e d j)) * wd (ix3 e j z)

/-- The row of the array that row `r` of tile `i` is. -/
def rowOf (i : Fin 136) (r : Fin 512) : Fin 69632 := ⟨512 * i.val + r.val, by have := i.isLt; have := r.isLt; omega⟩

variable (m : (ℓ : Loc nD τ sig) → Buf (Elt Ideal) ℓ) (hO : Ok m) (c : Dev nD) (he : ∀ i, (expertAt m i).toNat < 8)

/-- The expert of tile `i`. -/
def expertOf (i : Fin 136) : Fin 8 := ⟨(expertAt m i).toNat, he i⟩

/-- Block `g` of row `r` of tile `i`, from the arguments. -/
def tileSum (i : Fin 136) (r : Fin 512) (z : Fin 2048) (g : ℕ) : EReal :=
  blockSum (column (m ((c.tc : Thread nD τ).loc main_arg2)) (m ((c.tc : Thread nD τ).loc main_arg3)) (m ((c.tc : Thread nD τ).loc main_arg4))
    (m ((c.tc : Thread nD τ).loc main_arg5)) (expertOf m he i) (rowOf i r) z) g

/-- The sum over the blocks up to `k`; zero where the tile isn't in use. -/
def partialSum (i : Fin 136) (r : Fin 512) (z : Fin 2048) (k : ℕ) : EReal :=
  if (i.val : ℤ) < (usedTiles m).toInt then ∑ g ∈ Finset.range k, tileSum m c he i r z g else 0

/-- A step adds its block of hidden columns. -/
theorem step_apply (t : Fin (cfgM m hO).N) (i : Fin 136) (hi : t.val / 11 = i.val) (hu : (i.val : ℤ) < (usedTiles m).toInt)
    (h : Vec Ideal S512x2048 .bf16) (acc : Vec Ideal S512x2048 .f32) (r : Fin 512) (z : Fin 2048)
    (hh : ∀ d : Fin 2048, (h (ix2 r d) : EReal) = m ((c.tc : Thread nD τ).loc main_arg2) (ix2 (rowOf i r) d)) :
    (k0_pay3 (F := Ideal) h (iblk m hO c 1 t) (iblk m hO c 2 t) acc (iblk m hO c 3 t) (ix2 r z) : EReal)
      = acc (ix2 r z) + tileSum m c he i r z (t.val % 11) := by
  have h0 : grid0.coords t 0 = i := Fin.ext ((tile_val t).trans hi)
  have hb : columnBlock m (grid0.coords t) = t.val % 11 := by
    unfold columnBlock Cert.Experts.column
    rw [if_pos (by rw [h0]; exact hu), column_val]
  have e : (⟨(expertAt m (grid0.coords t 0)).toNat, he _⟩ : Fin 8) = expertOf m he i := Fin.ext (by show (expertAt m (grid0.coords t 0)).toNat = (expertAt m i).toNat; rw [h0])
  refine (pay_step _ _ _ _ _ r z).trans (congrArg _ (blockSum_eq (fun j k hk => ?_) (Nat.mod_lt _ (by decide))))
  have hj := j.isLt
  have q : (⟨512 * columnBlock m (grid0.coords t) + j.val, by rw [hb]; omega⟩ : Fin 5632) = k := Fin.ext (by show 512 * columnBlock m (grid0.coords t) + j.val = _; rw [hb, hk])
  unfold column
  refine congrArg₂ (· * ·) (congrArg₂ gated (Finset.sum_congr rfl fun d _ => congrArg₂ (· * ·) (hh d) ?_) (Finset.sum_congr rfl fun d _ => congrArg₂ (· * ·) (hh d) ?_)) ?_
  · exact (block_gate m hO c t (he _) d j).trans (by rw [q, e])
  · exact (block_up m hO c t (he _) d j).trans (by rw [q, e])
  · exact (block_down m hO c t (he _) j z).trans (by rw [q, e])

theorem rows_apply (t : Fin (cfgM m hO).N) (i : Fin 136) (hi : t.val / 11 = i.val) (r : Fin 512) (d : Fin 2048) :
    (k0_pay2 (F := Ideal) (iblk m hO c 0 t) (ix2 r d) : EReal) = m ((c.tc : Thread nD τ).loc main_arg2) (ix2 (rowOf i r) d) := by
  refine (pay_rows _ r d).trans ((block_rows m hO c t r d).trans ?_)
  refine congrArg _ (congrArg (ix2 · d) (Fin.ext ?_))
  show 512 * (grid0.coords t 0).val + r.val = 512 * i.val + r.val
  rw [tile_val, hi]

/-- What the two carried buffers hold after a point: the sum over the blocks so far, and the tile's rows. -/
structure Holds (n : ℕ) (hn : n < (cfgM m hO).N) : Prop where
  sum : ∀ (i : Fin 136), n / 11 = i.val → ∀ r z, ((outsAt0 m hO c n hn).2.1 (ix2 r z) : EReal) = partialSum m c he i r z (n % 11 + 1)
  rows : ∀ (i : Fin 136), n / 11 = i.val → ∀ r d, ((outsAt0 m hO c n hn).2.2 (ix2 r d) : EReal) = m ((c.tc : Thread nD τ).loc main_arg2) (ix2 (rowOf i r) d)

theorem partial_first (i : Fin 136) (hu : (i.val : ℤ) < (usedTiles m).toInt) (r : Fin 512) (z : Fin 2048) (k : ℕ) (hk : k = 0) :
    0 + tileSum m c he i r z k = partialSum m c he i r z (k + 1) := by
  unfold partialSum
  rw [if_pos hu, hk, Finset.sum_range_one, zero_add]

theorem partial_next (i : Fin 136) (hu : (i.val : ℤ) < (usedTiles m).toInt) (r : Fin 512) (z : Fin 2048) (k : ℕ) :
    partialSum m c he i r z k + tileSum m c he i r z k = partialSum m c he i r z (k + 1) := by
  unfold partialSum
  rw [if_pos hu, if_pos hu, Finset.sum_range_succ]

theorem partial_unused (i : Fin 136) (hu : ¬(i.val : ℤ) < (usedTiles m).toInt) (r : Fin 512) (z : Fin 2048) (k : ℕ) :
    partialSum m c he i r z k = 0 := by
  unfold partialSum
  rw [if_neg hu]

section
variable (t : Fin (cfgM m hO).N)

/-- A tile's first point. -/
theorem holds_first (h0 : t.val % 11 = 0) : Holds m hO c he t.val t.isLt := by
  obtain ⟨sA, sB, -⟩ := steps m hO c t
  by_cases hu : InUse m hO t
  · refine ⟨fun i hi r z => ?_, fun i hi r d => ?_⟩
    · refine (congrFun (congrArg Prod.fst (sA h0 hu)) (ix2 r z)).trans ?_
      refine (step_apply m hO c he t i hi (hi ▸ hu) _ _ r z (rows_apply m hO c t i hi r)).trans ?_
      rw [pay_zero]
      exact partial_first m c he i (hi ▸ hu) r z _ h0
    · exact (congrFun (congrArg Prod.snd (sA h0 hu)) (ix2 r d)).trans (rows_apply m hO c t i hi r d)
  · refine ⟨fun i hi r z => ?_, fun i hi r d => ?_⟩
    · exact (congrFun (congrArg Prod.fst (sB h0 hu)) (ix2 r z)).trans ((pay_zero r z).trans (partial_unused m c he i (hi ▸ hu) r z _).symm)
    · exact (congrFun (congrArg Prod.snd (sB h0 hu)) (ix2 r d)).trans (rows_apply m hO c t i hi r d)

/-- A later point, from the one before it. -/
theorem holds_next (h0 : ¬t.val % 11 = 0) (p : Holds m hO c he (t.val - 1) (Nat.lt_of_le_of_lt (Nat.sub_le _ _) t.isLt)) :
    Holds m hO c he t.val t.isLt := by
  have hq : (t.val - 1) / 11 = t.val / 11 := by omega
  have hr : t.val % 11 = (t.val - 1) % 11 + 1 := by omega
  obtain ⟨-, -, sC, sD, sE, sF⟩ := steps m hO c t
  by_cases hu : InUse m hO t
  · have key : (after m hO c t).2 = (added m hO c t (before m hO c t).2.2 (before m hO c t).2.1, (before m hO c t).2.2) := by
      by_cases h2 : t.val % 11 = 10
      · exact congrArg Prod.snd (sE h2 hu)
      · exact sC h0 h2 hu
    refine ⟨fun i hi r z => ?_, fun i hi r d => ?_⟩
    · refine (congrFun (congrArg Prod.fst key) (ix2 r z)).trans ?_
      refine (step_apply m hO c he t i hi (hi ▸ hu) _ _ r z (p.rows i (hq.trans hi) r)).trans ?_
      refine (congrArg (· + _) (p.sum i (hq.trans hi) r z)).trans ?_
      rw [← hr]
      exact partial_next m c he i (hi ▸ hu) r z _
    · exact (congrFun (congrArg Prod.snd key) (ix2 r d)).trans (p.rows i (hq.trans hi) r d)
  · have key : (after m hO c t).2 = (before m hO c t).2 := by
      by_cases h2 : t.val % 11 = 10
      · rw [sF h2 hu]
      · exact sD h0 h2 hu
    refine ⟨fun i hi r z => ?_, fun i hi r d => ?_⟩
    · exact (congrFun (congrArg Prod.fst key) (ix2 r z)).trans ((p.sum i (hq.trans hi) r z).trans
        ((partial_unused m c he i (hi ▸ hu) r z _).trans (partial_unused m c he i (hi ▸ hu) r z _).symm))
    · exact (congrFun (congrArg Prod.snd key) (ix2 r d)).trans (p.rows i (hq.trans hi) r d)

end

theorem holds : ∀ (n : ℕ) (hn : n < (cfgM m hO).N), Holds m hO c he n hn
  | 0, hn => holds_first m hO c he ⟨0, hn⟩ rfl
  | n + 1, hn => by
    by_cases h0 : (n + 1) % 11 = 0
    · exact holds_first m hO c he ⟨n + 1, hn⟩ h0
    · exact holds_next m hO c he ⟨n + 1, hn⟩ h0 (holds n (Nat.lt_of_succ_lt hn))

/-- The block written back at the last point of a tile. -/
theorem out_apply (t : Fin (cfgM m hO).N) (i : Fin 136) (hi : t.val / 11 = i.val) (h2 : t.val % 11 = 10) (r : Fin 512) (z : Fin 2048) :
    ((outsAt0 m hO c t.val t.isLt).1 (ix2 r z) : EReal) = partialSum m c he i r z 11 := by
  have hs := (holds m hO c he t.val t.isLt).sum i hi r z
  rw [h2] at hs
  refine Eq.trans ?_ hs
  obtain ⟨-, -, -, -, sE, sF⟩ := steps m hO c t
  have key : (after m hO c t).1 = (after m hO c t).2.1 := by
    by_cases hu : InUse m hO t
    · rw [sE h2 hu]
    · rw [sF h2 hu]
  exact congrFun key (ix2 r z)

theorem tile_bound (t : Fin (cfgM m hO).N) : t.val / 11 < 136 := by
  have ht : t.val < 1496 := Nat.lt_of_lt_of_eq t.isLt N_0
  omega

theorem out_emb (t : Fin (cfgM m hO).N) (r : Fin 512) (z : Fin 2048) :
    (((cfgM m hO).win 4).blk t).view.emb (ix2 r z) = ix2 (rowOf ⟨t.val / 11, tile_bound m hO t⟩ r) z := by
  blk_ext
  · refine (congrArg (· * 512 + r.val) (congrFun (window_out m hO t) 0)).trans ?_
    show (grid0.coords t 0).val * 512 + r.val = 512 * (t.val / 11) + r.val
    rw [tile_val]; omega
  · exact (congrArg (· * 2048 + z.val) (congrFun (window_out m hO t) 1)).trans (by show 0 * 2048 + z.val = _; omega)

/-- The tile and the row in it of row `p` of the array. -/
def tileOf (p : Fin 69632) : Fin 136 := ⟨p.val / 512, by have := p.isLt; omega⟩
def withinTile (p : Fin 69632) : Fin 512 := ⟨p.val % 512, Nat.mod_lt _ (by decide)⟩

theorem tileOf_rowOf (i : Fin 136) (r : Fin 512) : tileOf (rowOf i r) = i :=
  Fin.ext (by have := r.isLt; show (512 * i.val + r.val) / 512 = i.val; omega)

theorem withinTile_rowOf (i : Fin 136) (r : Fin 512) : withinTile (rowOf i r) = r :=
  Fin.ext (by have := r.isLt; show (512 * i.val + r.val) % 512 = r.val; omega)

theorem rowOf_tileOf (p : Fin 69632) : rowOf (tileOf p) (withinTile p) = p :=
  Fin.ext (by show 512 * (p.val / 512) + p.val % 512 = p.val; omega)

theorem cover_at (p : Fin 69632) (z : Fin 2048) :
    ∃ t : Fin (cfgM m hO).N, ((cfgM m hO).win 4).flush t = true ∧ (((cfgM m hO).win 4).blk t).view.emb (ix2 (withinTile p) z) = ix2 p z := by
  have h0 := p.isLt
  have hN : (cfgM m hO).N = 1496 := N_0
  have hn : p.val / 512 * 11 + 10 < (cfgM m hO).N := by rw [hN]; omega
  refine ⟨⟨p.val / 512 * 11 + 10, hn⟩, (flush0_4 (adm m hO) _).mpr (by show (p.val / 512 * 11 + 10) % 11 = 10; omega), ?_⟩
  refine (out_emb m hO ⟨p.val / 512 * 11 + 10, hn⟩ (withinTile p) z).trans ?_
  refine congrArg (ix2 · z) (Fin.ext ?_)
  show 512 * ((p.val / 512 * 11 + 10) / 11) + p.val % 512 = p.val
  omega

theorem cover (y : S69632x2048.Idx) : ∃ t : Fin (cfgM m hO).N, ((cfgM m hO).win 4).flush t = true ∧ y ∈ (((cfgM m hO).win 4).blk t).view.set := by
  obtain ⟨p, z, rfl⟩ : ∃ (p : Fin 69632) (z : Fin 2048), y = ix2 p z := ⟨y 0, y 1, funext fun a => by match a with | ⟨0, _⟩ => rfl | ⟨1, _⟩ => rfl⟩
  obtain ⟨t, hf, e⟩ := cover_at m hO p z
  exact ⟨t, hf, e ▸ (((cfgM m hO).win 4).blk t).view.emb_mem_set (ix2 (withinTile p) z)⟩

/-- The result array after the run. -/
theorem array_eq : (dats m hO 0 c).arrAt 4 (cfgM m hO).N = fun y : S69632x2048.Idx => partialSum m c he (tileOf (y 0)) (withinTile (y 0)) (y 1) 11 := by
  refine (dats m hO 0 c).arrAt_eq_of_emb 4 _ (fun t hf => ?_) (cover m hO)
  have h2 : t.val % 11 = 10 := (flush0_4 (adm m hO) t).mp hf
  show ∀ y : S512x2048.Idx, _
  intro y
  obtain ⟨r, z, rfl⟩ : ∃ (r : Fin 512) (z : Fin 2048), y = ix2 r z := ⟨y 0, y 1, funext fun a => by match a with | ⟨0, _⟩ => rfl | ⟨1, _⟩ => rfl⟩
  refine Eq.trans (b := partialSum m c he ⟨t.val / 11, tile_bound m hO t⟩ r z 11) ?_ ?_
  · exact (congrFun (after0_4 m hO c t) (ix2 r z)).trans (out_apply m hO c he t ⟨t.val / 11, tile_bound m hO t⟩ rfl h2 r z)
  · refine Eq.trans ?_ (congrArg (fun y : S69632x2048.Idx => partialSum m c he (tileOf (y 0)) (withinTile (y 0)) (y 1) 11) (out_emb m hO t r z)).symm
    exact (congrArg₂ (fun a b => partialSum m c he a b z 11) (tileOf_rowOf _ r) (withinTile_rowOf _ r)).symm

/-- The value at row `p` and column `z` of the result. -/
def resultAt (p : Fin 69632) (z : Fin 2048) : EReal := partialSum m c he (tileOf p) (withinTile p) z 11

include hO in
/-- The run: the result array in closed form, the arguments unchanged. -/
theorem run (ρ : Dev nD → PrngReg) : θ_run defs (onTc (τ := τ) (main (F := Ideal))) ⟨m, fun _ => 0, ρ⟩ fun r => ∀ c : Dev nD,
      r.2.mem ((c.tc : Thread nD τ).loc main_v3) = (fun y : S69632x2048.Idx => resultAt m c he (y 0) (y 1))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 4).trans (array_eq m hO c he),
    ((h c).2 main_arg0 (by decide : main_arg0 ∈ Pipeline.restRefs sig spec0)).trans (V_main_arg0 m c),
    ((h c).2 main_arg1 (by decide : main_arg1 ∈ Pipeline.restRefs sig spec0)).trans (V_main_arg1 m c),
    ((h c).1 0).trans (((dats m hO 0 c).arrAt_in 0 rfl _).trans ((A_eq m hO c 0).trans (V_main_arg2 m c))),
    ((h c).2 main_arg3 (by decide : main_arg3 ∈ Pipeline.restRefs sig spec0)).trans (V_main_arg3 m c),
    ((h c).2 main_arg4 (by decide : main_arg4 ∈ Pipeline.restRefs sig spec0)).trans (V_main_arg4 m c),
    ((h c).2 main_arg5 (by decide : main_arg5 ∈ Pipeline.restRefs sig spec0)).trans (V_main_arg5 m c)⟩)
    (run_main m ρ hO)

end Cert.MoeIdeal.Experts

end
-- ==== Proof.MoeRef.lean ====
/- The reference of the grouped expert feed-forward at an index: the gated product of the row with each expert's weights,
   kept for the expert of the row's tile (`ref_apply`). -/
module

public import proofs.«01_k».proof.Proof.Gen.MoeRefIdeal.Read
public import proofs.«01_k».proof.Proof.MoeArray
public import Idealize.ShloMosaic.Lib.Pointwise

@[expose] public section

set_option maxRecDepth 16384

noncomputable section

namespace Cert.MoeRefIdeal.Experts

open Cert.MoeRefIdeal Cert.MoeRefIdeal.Gen Cert.MoeRefIdeal.Read
open Cert.Gated
open Cert.MoeIdeal.Experts (column tileOf)
open Idealize.ShloMosaic Idealize.ShloMosaic.TcCoe Idealize.SL.Sem

/-- The row's gated product with the weights of expert `e`, at column `z`. -/
def expertSum (hs : (⟨2, ![69632, 2048]⟩ : Shape).Idx → EReal) (wg wu : (⟨3, ![8, 2048, 5632]⟩ : Shape).Idx → EReal) (wd : (⟨3, ![8, 5632, 2048]⟩ : Shape).Idx → EReal)
    (e : Fin 8) (p : Fin 69632) (z : Fin 2048) : EReal := ∑ j : Fin 5632, column hs wg wu wd e p z j

/-- A tile is kept for an expert where it is the expert's and is in use. -/
theorem keep_eq (w e v : BitVec 32) (i : Fin 136) :
    (Scalar.select (IntOp.andi (IntOp.cmpi CmpIPredicate.eq w e) (IntOp.cmpi CmpIPredicate.slt (BitVec.ofNat 32 i.val) v)) (1 : EReal) 0)
      = if w = e ∧ (i.val : ℤ) < v.toInt then (1 : EReal) else 0 := by
  have hi := i.isLt
  have e0 : (BitVec.ofNat 32 i.val).toInt = (i.val : ℤ) := by
    rw [BitVec.toInt_eq_toNat_cond, BitVec.toNat_ofNat]; split <;> omega
  have hs := IntOp.cmpi_slt (x := BitVec.ofNat 32 i.val) (y := v)
  have he := IntOp.cmpi_eq (x := w) (y := e)
  rw [e0] at hs
  simp only [← hs, ← he]
  clear hs he e0
  generalize IntOp.cmpi CmpIPredicate.eq w e = a
  generalize IntOp.cmpi CmpIPredicate.slt (BitVec.ofNat 32 i.val) v = b
  have ha : a = 0#1 ∨ a = 1#1 := by revert a; decide
  have hb : b = 0#1 ∨ b = 1#1 := by revert b; decide
  rcases ha with rfl | rfl <;> rcases hb with rfl | rfl <;> simp [Scalar.select, IntOp.andi]

/-! ### One expert's term, from its number and its weights -/

variable {F : FTy → Type} [FloatOps F]

abbrev Table (F : FTy → Type) := (⟨S136, .i32⟩ : BufTy).Contents (Elt F)
abbrev Used (F : FTy → Type) := (⟨S1, .i32⟩ : BufTy).Contents (Elt F)
abbrev Rows (F : FTy → Type) := (⟨S69632x2048, .f32⟩ : BufTy).Contents (Elt F)
abbrev Inward (F : FTy → Type) := (⟨S8x2048x5632, .f32⟩ : BufTy).Contents (Elt F)
abbrev Outward (F : FTy → Type) := (⟨S8x5632x2048, .f32⟩ : BufTy).Contents (Elt F)
abbrev Hidden (F : FTy → Type) := (⟨S69632x5632, .f32⟩ : BufTy).Contents (Elt F)

theorem inward_slices : ∀ e : Fin 8, S8x2048x5632.Slices ![e.val, 0, 0] S1x2048x5632 := by decide
theorem outward_slices : ∀ e : Fin 8, S8x5632x2048.Slices ![e.val, 0, 0] S1x5632x2048 := by decide

/-- The weights of expert `e`. -/
def inward (e : Fin 8) (x : Inward F) : (⟨S2048x5632, .f32⟩ : BufTy).Contents (Elt F) :=
  shapeCast _ (extractStridedSlice S1x2048x5632 ![e.val, 0, 0] x (inward_slices e)) shapeCasts_S1x2048x5632_S2048x5632
def outward (e : Fin 8) (x : Outward F) : (⟨S5632x2048, .f32⟩ : BufTy).Contents (Elt F) :=
  shapeCast _ (extractStridedSlice S1x5632x2048 ![e.val, 0, 0] x (outward_slices e)) shapeCasts_S1x5632x2048_S5632x2048

/-- The rows' product with a gate or up-projection, the gated product of two of those, and its projection. -/
def project (x2 : Rows F) (w : (⟨S2048x5632, .f32⟩ : BufTy).Contents (Elt F)) : Hidden F :=
  Host.dotGeneral dot_S69632x2048_S2048x5632_S69632x5632_1_0_0_1_n_n none x2 w
def ones : Hidden F := broadcastInDim S69632x5632 ![] bcast_S_S69632x5632 (constant S_ .f32 0x3F800000#32)
def combine (g u : Hidden F) : Hidden F := mulf (mulf g (Host.divf ones (addf ones (Host.exp (Host.negf g))))) u
def down (y : Hidden F) (w : (⟨S5632x2048, .f32⟩ : BufTy).Contents (Elt F)) : Rows F :=
  Host.dotGeneral dot_S69632x5632_S5632x2048_S69632x2048_1_0_0_1_n_n none y w

/-- One for each tile that is in use and the expert's, zero for the others; and the same for each row. -/
def keep (w : BitVec 32) (x0 : Table F) (x1 : Used F) : (⟨S136, .f32⟩ : BufTy).Contents (Elt F) :=
  select (andi (cmpi .eq x0 (broadcastInDim S136 ![] bcast_S_S136 (constantI S_ 32 w))) (val_main_v3 (F := F) x1))
    (broadcastInDim S136 ![] bcast_S_S136 (constant S_ .f32 0x3F800000#32)) (broadcastInDim S136 ![] bcast_S_S136 (constant S_ .f32 0x00000000#32))
def spread (y : (⟨S136, .f32⟩ : BufTy).Contents (Elt F)) : Rows F :=
  broadcastInDim S69632x2048 ![0, 1] bcast_S69632x1_S69632x2048_0_1
    (shapeCast _ (broadcastInDim S136x512 ![0, 1] bcast_S136x1_S136x512_0_1 (broadcastInDim S136x1 ![0] bcast_S136_S136x1_0 y)) shapeCasts_S136x512_S69632x1)

/-- What the expert adds. -/
def term (x0 : Table F) (x1 : Used F) (x2 : Rows F) (x3 x4 : Inward F) (x5 : Outward F) (e : Fin 8) : Rows F :=
  mulf (spread (keep (BitVec.ofNat 32 e.val) x0 x1)) (down (combine (project x2 (inward e x3)) (project x2 (inward e x4))) (outward e x5))

section

variable (x0 : Table Ideal) (x1 : Used Ideal) (x2 : Rows Ideal) (x3 x4 : Inward Ideal) (x5 : Outward Ideal)

theorem inward_apply (e : Fin 8) (x : Inward Ideal) (d : Fin 2048) (j : Fin 5632) : inward e x (ix2 d j) = x (ix3 e d j) := by
  unfold inward
  pointwise

theorem outward_apply (e : Fin 8) (x : Outward Ideal) (j : Fin 5632) (z : Fin 2048) : outward e x (ix2 j z) = x (ix3 e j z) := by
  unfold outward
  pointwise

theorem project_apply (w : (⟨S2048x5632, .f32⟩ : BufTy).Contents (Elt Ideal)) (p : Fin 69632) (j : Fin 5632) :
    (project x2 w (ix2 p j) : EReal) = ∑ d : Fin 2048, x2 (ix2 p d) * w (ix2 d j) := by
  unfold project
  pointwise

theorem combine_apply (g u : Hidden Ideal) (p : Fin 69632) (j : Fin 5632) : (combine g u (ix2 p j) : EReal) = gated (g (ix2 p j)) (u (ix2 p j)) := by
  rw [← gated_eq]
  unfold combine ones
  pointwise

theorem down_apply (y : Hidden Ideal) (w : (⟨S5632x2048, .f32⟩ : BufTy).Contents (Elt Ideal)) (p : Fin 69632) (z : Fin 2048) :
    (down y w (ix2 p z) : EReal) = ∑ j : Fin 5632, y (ix2 p j) * w (ix2 j z) := by
  unfold down
  pointwise

theorem keep_apply (w : BitVec 32) (i : Fin 136) :
    (keep w x0 x1 (ix1 i) : EReal) = if x0 (ix1 i) = w ∧ (i.val : ℤ) < (x1 (ix1 0)).toInt then (1 : EReal) else 0 := by
  rw [← keep_eq]
  unfold keep val_main_v3 val_main_v2 val_main_v1 val_main_v0
  pointwise

theorem spread_apply (y : (⟨S136, .f32⟩ : BufTy).Contents (Elt Ideal)) (p : Fin 69632) (z : Fin 2048) : spread y (ix2 p z) = y (ix1 (tileOf p)) := by
  unfold spread
  pointwise
  rfl

theorem term_apply (e : Fin 8) (p : Fin 69632) (z : Fin 2048) : (term x0 x1 x2 x3 x4 x5 e (ix2 p z) : EReal)
    = (if x0 (ix1 (tileOf p)) = BitVec.ofNat 32 e.val ∧ ((tileOf p).val : ℤ) < (x1 (ix1 0)).toInt then (1 : EReal) else 0) * expertSum x2 x3 x4 x5 e p z := by
  refine congrArg₂ (fun a b : EReal => a * b) ((spread_apply _ p z).trans (keep_apply x0 x1 _ (tileOf p))) ((down_apply _ _ p z).trans ?_)
  refine Finset.sum_congr rfl fun j _ => congrArg₂ (fun a b : EReal => a * b) ((combine_apply _ _ p j).trans (congrArg₂ gated ?_ ?_)) (outward_apply e x5 j z)
  · exact (project_apply x2 _ p j).trans (Finset.sum_congr rfl fun d _ => congrArg (fun b : EReal => x2 (ix2 p d) * b) (inward_apply e x3 d j))
  · exact (project_apply x2 _ p j).trans (Finset.sum_congr rfl fun d _ => congrArg (fun b : EReal => x2 (ix2 p d) * b) (inward_apply e x4 d j))

/-- The result before the first expert. -/
theorem start (p : Fin 69632) (z : Fin 2048) : val_main_v4 (F := Ideal) (ix2 p z) = 0 := by
  unfold val_main_v4 val_main_cst
  pointwise

/-- The reference adds the eight terms, one after another. -/
theorem sum_eq : val_main_v172 (F := Ideal) x0 x1 x2 x3 x4 x5 = addf (addf (addf (addf (addf (addf (addf (addf (val_main_v4 (F := Ideal))
    (term x0 x1 x2 x3 x4 x5 0)) (term x0 x1 x2 x3 x4 x5 1)) (term x0 x1 x2 x3 x4 x5 2)) (term x0 x1 x2 x3 x4 x5 3)) (term x0 x1 x2 x3 x4 x5 4))
    (term x0 x1 x2 x3 x4 x5 5)) (term x0 x1 x2 x3 x4 x5 6)) (term x0 x1 x2 x3 x4 x5 7) := rfl

/-- The reference at an index: the gated product with the weights of the tile's expert, zero where the tile isn't in use. -/
theorem ref_apply (p : Fin 69632) (z : Fin 2048) (h : (x0 (ix1 (tileOf p))).toNat < 8) :
    (val_main_v172 (F := Ideal) x0 x1 x2 x3 x4 x5 (ix2 p z) : EReal)
      = if ((tileOf p).val : ℤ) < (x1 (ix1 0)).toInt then expertSum x2 x3 x4 x5 ⟨(x0 (ix1 (tileOf p))).toNat, h⟩ p z else 0 := by
  rw [sum_eq]
  show (((((((val_main_v4 (F := Ideal) (ix2 p z) + term x0 x1 x2 x3 x4 x5 0 (ix2 p z)) + term x0 x1 x2 x3 x4 x5 1 (ix2 p z)) + term x0 x1 x2 x3 x4 x5 2 (ix2 p z))
    + term x0 x1 x2 x3 x4 x5 3 (ix2 p z)) + term x0 x1 x2 x3 x4 x5 4 (ix2 p z)) + term x0 x1 x2 x3 x4 x5 5 (ix2 p z)) + term x0 x1 x2 x3 x4 x5 6 (ix2 p z)
    + term x0 x1 x2 x3 x4 x5 7 (ix2 p z) : EReal) = _
  simp only [term_apply, start]
  revert h
  generalize x0 (ix1 (tileOf p)) = w
  intro h
  by_cases hu : ((tileOf p).val : ℤ) < (x1 (ix1 0)).toInt
  · rw [if_pos hu]
    have hw : w = 0#32 ∨ w = 1#32 ∨ w = 2#32 ∨ w = 3#32 ∨ w = 4#32 ∨ w = 5#32 ∨ w = 6#32 ∨ w = 7#32 := by bv_omega
    rcases hw with rfl | rfl | rfl | rfl | rfl | rfl | rfl | rfl <;> simp [hu] <;> rfl
  · simp [hu]

end

end Cert.MoeRefIdeal.Experts

end
-- ==== Proof.MoeEqual.lean ====
/- The grouped expert feed-forward and its reference leave the same result: the hidden columns summed block by block are
   the hidden columns summed at once. -/
module

public import proofs.«01_k».proof.Proof.MoeArray
public import proofs.«01_k».proof.Proof.MoeRef
public import proofs.«01_k».proof.Proof.Gen.MoeRefIdeal.Run
public import proofs.«01_k».proof.Defs

@[expose] public section

noncomputable section

namespace Cert.Experts

open Idealize.ShloMosaic Idealize.ShloMosaic.TcCoe Idealize.SL.Sem
open Cert.MoeIdeal.Experts Cert.MoeRefIdeal.Experts

/-- The call's result and the reference's agree at every index, where the tiles name experts that there are. -/
theorem result_eq (m : (ℓ : Loc Cert.MoeIdeal.nD Cert.MoeIdeal.τ Cert.MoeIdeal.sig) → Buf (Elt Ideal) ℓ) (he : ∀ i, (expertAt m i).toNat < 8) (p : Fin 69632) (z : Fin 2048) :
    resultAt m 0 he p z = Cert.MoeRefIdeal.Read.val_main_v172 (F := Ideal)
      (m (((0 : Dev Cert.MoeIdeal.nD).tc : Thread Cert.MoeIdeal.nD Cert.MoeIdeal.τ).loc Cert.MoeIdeal.main_arg0))
      (m (((0 : Dev Cert.MoeIdeal.nD).tc : Thread Cert.MoeIdeal.nD Cert.MoeIdeal.τ).loc Cert.MoeIdeal.main_arg1))
      (m (((0 : Dev Cert.MoeIdeal.nD).tc : Thread Cert.MoeIdeal.nD Cert.MoeIdeal.τ).loc Cert.MoeIdeal.main_arg2))
      (m (((0 : Dev Cert.MoeIdeal.nD).tc : Thread Cert.MoeIdeal.nD Cert.MoeIdeal.τ).loc Cert.MoeIdeal.main_arg3))
      (m (((0 : Dev Cert.MoeIdeal.nD).tc : Thread Cert.MoeIdeal.nD Cert.MoeIdeal.τ).loc Cert.MoeIdeal.main_arg4))
      (m (((0 : Dev Cert.MoeIdeal.nD).tc : Thread Cert.MoeIdeal.nD Cert.MoeIdeal.τ).loc Cert.MoeIdeal.main_arg5)) (ix2 p z) := by
  refine Eq.trans ?_ (ref_apply _ _ _ _ _ _ p z (he (tileOf p))).symm
  unfold resultAt partialSum
  refine if_congr Iff.rfl ?_ rfl
  unfold tileSum
  rw [Cert.Gated.blocks_eq, rowOf_tileOf]
  rfl

end Cert.Experts

end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite_qk
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Pre_expert_range
public import proofs.«01_k».proof.Proof.Gen.HgIdeal.Value
public import proofs.«01_k».proof.Proof.Gen.SsdIdeal.Value
public import proofs.«01_k».proof.Proof.Gen.AttIdeal.Value
public import proofs.«01_k».proof.Proof.Gen.GateIdeal.Value
public import proofs.«01_k».proof.Proof.Gen.FfnIdeal.Value
public import proofs.«01_k».proof.Proof.Gen.HgRefIdeal.Run
public import proofs.«01_k».proof.Proof.Gen.SsdRefIdeal.Run
public import proofs.«01_k».proof.Proof.Gen.AttRefIdeal.Run
public import proofs.«01_k».proof.Proof.Gen.GateRefIdeal.Run
public import proofs.«01_k».proof.Proof.Gen.HgRefIdeal.Read
public import proofs.«01_k».proof.Proof.Gen.SsdRefIdeal.Read
public import proofs.«01_k».proof.Proof.Gen.AttRefIdeal.Read
public import proofs.«01_k».proof.Proof.Gen.GateRefIdeal.Read
public import proofs.«01_k».proof.Proof.Gen.FfnRefIdeal.Run
public import proofs.«01_k».proof.Proof.Gen.FfnRefIdeal.Read
public import proofs.«01_k».proof.Proof.Gen.Hg
public import proofs.«01_k».proof.Proof.Gen.Hg.Skeleton
public import proofs.«01_k».proof.Proof.Gen.Hg.Launch
public import proofs.«01_k».proof.Proof.Gen.Hg.Points
public import proofs.«01_k».proof.Proof.Gen.Hg.Frame
public import proofs.«01_k».proof.Proof.Gen.Ssd
public import proofs.«01_k».proof.Proof.Gen.Ssd.Skeleton
public import proofs.«01_k».proof.Proof.Gen.Ssd.Launch
public import proofs.«01_k».proof.Proof.Gen.Ssd.Points
public import proofs.«01_k».proof.Proof.Gen.Ssd.Frame
public import proofs.«01_k».proof.Proof.Gen.Att
public import proofs.«01_k».proof.Proof.Gen.Att.Skeleton
public import proofs.«01_k».proof.Proof.Gen.Att.Launch
public import proofs.«01_k».proof.Proof.Gen.Att.Points
public import proofs.«01_k».proof.Proof.Gen.Att.Frame
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.HgArray
public import proofs.«01_k».proof.Proof.SsdArray
public import proofs.«01_k».proof.Proof.AttArray
public import proofs.«01_k».proof.Proof.GateArray
public import proofs.«01_k».proof.Proof.FfnRef
public import proofs.«01_k».proof.Proof.MergeArray
public import proofs.«01_k».proof.Proof.OutArray
public import proofs.«01_k».proof.Proof.FinalArray
public import proofs.«01_k».proof.Proof.ModArray
public import proofs.«01_k».proof.Proof.HgoutArray
public import proofs.«01_k».proof.Proof.SsdoutArray
public import proofs.«01_k».proof.Proof.AdaArray
public import proofs.«01_k».proof.Proof.DtArray
public import proofs.«01_k».proof.Proof.AttnEqual
public import proofs.«01_k».proof.Proof.MoeOk
public import proofs.«01_k».proof.Proof.MoeArray
public import proofs.«01_k».proof.Proof.MoeEqual
public import Idealize.ShloMosaic.Adequacy
public import Idealize.ShloMosaic.Init
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.OutIdeal.Value
public import proofs.«01_k».proof.Proof.Gen.OutRefIdeal.Run
public import proofs.«01_k».proof.Proof.Gen.OutRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.FinalIdeal.Value
public import proofs.«01_k».proof.Proof.Gen.FinalRefIdeal.Run
public import proofs.«01_k».proof.Proof.Gen.FinalRefIdeal.Read
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.ModIdeal.Value
public import proofs.«01_k».proof.Proof.Gen.ModRefIdeal.Run
public import proofs.«01_k».proof.Proof.Gen.ModRefIdeal.Read
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.HgoutIdeal.Value
public import proofs.«01_k».proof.Proof.Gen.HgoutRefIdeal.Run
public import proofs.«01_k».proof.Proof.Gen.HgoutRefIdeal.Read
public import proofs.«01_k».proof.Proof.Gen.Hgout
public import proofs.«01_k».proof.Proof.Gen.Hgout.Skeleton
public import proofs.«01_k».proof.Proof.Gen.Hgout.Launch
public import proofs.«01_k».proof.Proof.Gen.Hgout.Points
public import proofs.«01_k».proof.Proof.Gen.Hgout.Frame
public import proofs.«01_k».proof.Proof.Gen.SsdoutIdeal.Value
public import proofs.«01_k».proof.Proof.Gen.SsdoutRefIdeal.Run
public import proofs.«01_k».proof.Proof.Gen.SsdoutRefIdeal.Read
public import proofs.«01_k».proof.Proof.Gen.Ssdout
public import proofs.«01_k».proof.Proof.Gen.Ssdout.Skeleton
public import proofs.«01_k».proof.Proof.Gen.Ssdout.Launch
public import proofs.«01_k».proof.Proof.Gen.Ssdout.Points
public import proofs.«01_k».proof.Proof.Gen.Ssdout.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.DtIdeal.Value
public import proofs.«01_k».proof.Proof.Gen.DtRefIdeal.Run
public import proofs.«01_k».proof.Proof.Gen.DtRefIdeal.Read
public import proofs.«01_k».proof.Proof.Gen.Dt
public import proofs.«01_k».proof.Proof.Gen.Dt.Skeleton
public import proofs.«01_k».proof.Proof.Gen.Dt.Launch
public import proofs.«01_k».proof.Proof.Gen.Dt.Points
public import proofs.«01_k».proof.Proof.Gen.Dt.Frame

@[expose] public section

noncomputable section

namespace Cert.Proof

open Idealize.ShloMosaic Idealize.SL.Sem Cert.Attn

/-- The attention call and its reference end with one result. -/
theorem attn_algebraic : Cert.algebraic_AttnIdeal_AttnRefIdeal_pre_finite_qk := by
  intro m g m' g' hpre hagree
  refine ⟨fun c => Cert.AttnRefIdeal.Value.res_main_v24 m' c, ?_, Cert.AttnRefIdeal.Value.run m' g'⟩
  refine (θ_run Cert.AttnIdeal.defs _ _).mono (fun r h c => ⟨(h c).1.trans ?_, (h c).2⟩) (Cert.AttnIdeal.Value.run_blocks m g)
  obtain ⟨h0, h1, h2, h3, h4⟩ := hagree c
  obtain ⟨hq, hc, hl⟩ := Cert.Attention.finite_of_pre (hpre c)
  show _ = Cert.AttnRefIdeal.Value.res_main_v24 m' c
  rw [Cert.AttnIdeal.Attention.array_eq, Cert.AttnRefIdeal.Read.val_main_v24_eq, h0, h1, h2, h3, h4]
  funext i
  obtain ⟨b, t, e, rfl⟩ : ∃ b t e, i = ix3 b t e := ⟨i 0, i 1, i 2, funext fun a => by match a with | ⟨0, _⟩ => rfl | ⟨1, _⟩ => rfl | ⟨2, _⟩ => rfl⟩
  exact Cert.Attention.attn_eq hq hc hl b t e

/-- The reference runs and leaves its arguments; it declares no semaphore. -/
theorem attn_ref_frame : Cert.quiescent_AttnRefIdeal := fun m ρ _ =>
  (θ_run Cert.AttnRefIdeal.defs _ _).mono (fun r h => ⟨fun c => (h c).2, sem_eq_zero_of_no_sems (by decide) r.2⟩) (Cert.AttnRefIdeal.Value.run m ρ)

/-- The result of the expert feed-forward's reference, of the call's arguments. -/
theorem moe_result (m : (ℓ : Loc Cert.MoeIdeal.nD Cert.MoeIdeal.τ Cert.MoeIdeal.sig) → Buf (Elt Ideal) ℓ)
    (m' : (ℓ : Loc Cert.MoeRefIdeal.nD Cert.MoeRefIdeal.τ Cert.MoeRefIdeal.sig) → Buf (Elt Ideal) ℓ)
    (h0 : m' (((0 : Dev Cert.MoeIdeal.nD).tc : Thread Cert.MoeRefIdeal.nD Cert.MoeRefIdeal.τ).loc Cert.MoeRefIdeal.main_arg0) = m (((0 : Dev Cert.MoeIdeal.nD).tc : Thread Cert.MoeIdeal.nD Cert.MoeIdeal.τ).loc Cert.MoeIdeal.main_arg0))
    (h1 : m' (((0 : Dev Cert.MoeIdeal.nD).tc : Thread Cert.MoeRefIdeal.nD Cert.MoeRefIdeal.τ).loc Cert.MoeRefIdeal.main_arg1) = m (((0 : Dev Cert.MoeIdeal.nD).tc : Thread Cert.MoeIdeal.nD Cert.MoeIdeal.τ).loc Cert.MoeIdeal.main_arg1))
    (h2 : m' (((0 : Dev Cert.MoeIdeal.nD).tc : Thread Cert.MoeRefIdeal.nD Cert.MoeRefIdeal.τ).loc Cert.MoeRefIdeal.main_arg2) = m (((0 : Dev Cert.MoeIdeal.nD).tc : Thread Cert.MoeIdeal.nD Cert.MoeIdeal.τ).loc Cert.MoeIdeal.main_arg2))
    (h3 : m' (((0 : Dev Cert.MoeIdeal.nD).tc : Thread Cert.MoeRefIdeal.nD Cert.MoeRefIdeal.τ).loc Cert.MoeRefIdeal.main_arg3) = m (((0 : Dev Cert.MoeIdeal.nD).tc : Thread Cert.MoeIdeal.nD Cert.MoeIdeal.τ).loc Cert.MoeIdeal.main_arg3))
    (h4 : m' (((0 : Dev Cert.MoeIdeal.nD).tc : Thread Cert.MoeRefIdeal.nD Cert.MoeRefIdeal.τ).loc Cert.MoeRefIdeal.main_arg4) = m (((0 : Dev Cert.MoeIdeal.nD).tc : Thread Cert.MoeIdeal.nD Cert.MoeIdeal.τ).loc Cert.MoeIdeal.main_arg4))
    (h5 : m' (((0 : Dev Cert.MoeIdeal.nD).tc : Thread Cert.MoeRefIdeal.nD Cert.MoeRefIdeal.τ).loc Cert.MoeRefIdeal.main_arg5) = m (((0 : Dev Cert.MoeIdeal.nD).tc : Thread Cert.MoeIdeal.nD Cert.MoeIdeal.τ).loc Cert.MoeIdeal.main_arg5))
    (he : ∀ i, (Cert.MoeIdeal.Experts.expertAt m i).toNat < 8) :
    (fun y : Cert.MoeIdeal.S69632x2048.Idx => Cert.MoeIdeal.Experts.resultAt m 0 he (y 0) (y 1))
      = Cert.MoeRefIdeal.Value.res_main_v172 (StableHlo.launchContents m' (0 : Dev Cert.MoeIdeal.nD)) := by
  rw [Cert.MoeRefIdeal.Read.val_main_v172_eq]
  funext i
  obtain ⟨p, z, rfl⟩ : ∃ (p : Fin 69632) (z : Fin 2048), i = ix2 p z := ⟨i 0, i 1, funext fun a => by match a with | ⟨0, _⟩ => rfl | ⟨1, _⟩ => rfl⟩
  refine (Cert.Experts.result_eq m he p z).trans ?_
  rw [← h0, ← h1, ← h2, ← h3, ← h4, ← h5]

/-- The grouped expert feed-forward and its reference end with one result. -/
theorem moe_algebraic : Cert.algebraic_MoeIdeal_MoeRefIdeal := by
  intro m g m' g' hpre hagree
  have he : ∀ i, (Cert.MoeIdeal.Experts.expertAt m i).toNat < 8 := fun i => Cert.Experts.expert_lt_of_pre (hpre 0) (ix1 i)
  refine ⟨fun c => Cert.MoeRefIdeal.Value.res_main_v172 (StableHlo.launchContents m' c), ?_, Cert.MoeRefIdeal.Value.run m' g'⟩
  refine (θ_run Cert.MoeIdeal.defs _ _).mono (fun r h c => ⟨(h c).1.trans ?_, (h c).2⟩)
    (Cert.MoeIdeal.Experts.run m (Cert.MoeIdeal.Experts.ok_of_pre m hpre) he g)
  obtain rfl : c = 0 := Subsingleton.elim _ _
  obtain ⟨h0, h1, h2, h3, h4, h5⟩ := hagree 0
  exact moe_result m m' h0 h1 h2 h3 h4 h5 he

/-- The reference of the expert feed-forward runs and leaves its arguments; it declares no semaphore. -/
theorem moe_ref_frame : Cert.quiescent_MoeRefIdeal := fun m ρ _ =>
  (θ_run Cert.MoeRefIdeal.defs _ _).mono (fun r h => ⟨fun c => (h c).2, sem_eq_zero_of_no_sems (by decide) r.2⟩) (Cert.MoeRefIdeal.Value.run m ρ)

/-- The first recurrence's projection and its reference end with one result. -/
theorem hg_algebraic : Cert.algebraic_HgIdeal_HgRefIdeal := by
  intro m g m' g' _ hagree
  refine ⟨_, (θ_run Cert.HgIdeal.defs _ _).mono (fun r h c => ⟨(h c).1.trans (Cert.HgIdeal.Projection.array_eq m c), (h c).2⟩) (Cert.HgIdeal.Value.run_blocks m g),
    (θ_run Cert.HgRefIdeal.defs _ _).mono (fun r h c => ⟨(h c).1.trans ?_, (h c).2⟩) (Cert.HgRefIdeal.Value.run m' g')⟩
  obtain ⟨h0, h1⟩ := hagree c
  refine (Cert.HgRefIdeal.Projection.ref_eq _ _).trans ?_
  rw [h0, h1]

/-- The second recurrence's projection and its reference end with one result, -/
theorem ssd_algebraic : Cert.algebraic_SsdIdeal_SsdRefIdeal := by
  intro m g m' g' _ hagree
  refine ⟨_, (θ_run Cert.SsdIdeal.defs _ _).mono (fun r h c => ⟨(h c).1.trans (Cert.SsdIdeal.Projection.array_eq m c), (h c).2⟩) (Cert.SsdIdeal.Value.run_blocks m g),
    (θ_run Cert.SsdRefIdeal.defs _ _).mono (fun r h c => ⟨(h c).1.trans ?_, (h c).2⟩) (Cert.SsdRefIdeal.Value.run m' g')⟩
  obtain ⟨h0, h1⟩ := hagree c
  refine (Cert.SsdRefIdeal.Projection.ref_eq _ _).trans ?_
  rw [h0, h1]

/-- and so do the attention's projection, -/
theorem att_algebraic : Cert.algebraic_AttIdeal_AttRefIdeal := by
  intro m g m' g' _ hagree
  refine ⟨_, (θ_run Cert.AttIdeal.defs _ _).mono (fun r h c => ⟨(h c).1.trans (Cert.AttIdeal.Projection.array_eq m c), (h c).2⟩) (Cert.AttIdeal.Value.run_blocks m g),
    (θ_run Cert.AttRefIdeal.defs _ _).mono (fun r h c => ⟨(h c).1.trans ?_, (h c).2⟩) (Cert.AttRefIdeal.Value.run m' g')⟩
  obtain ⟨h0, h1⟩ := hagree c
  refine (Cert.AttRefIdeal.Projection.ref_eq _ _).trans ?_
  rw [h0, h1]

/-- the merge gates, -/
theorem gate_algebraic : Cert.algebraic_GateIdeal_GateRefIdeal := by
  intro m g m' g' _ hagree
  refine ⟨_, (θ_run Cert.GateIdeal.defs _ _).mono (fun r h c => ⟨(h c).1.trans (Cert.GateIdeal.Projection.array_eq m c), (h c).2⟩) (Cert.GateIdeal.Value.run_blocks m g),
    (θ_run Cert.GateRefIdeal.defs _ _).mono (fun r h c => ⟨(h c).1.trans ?_, (h c).2⟩) (Cert.GateRefIdeal.Value.run m' g')⟩
  obtain ⟨h0, h1⟩ := hagree c
  refine (Cert.GateRefIdeal.Projection.ref_eq _ _).trans ?_
  unfold Cert.GateIdeal.Projection.gates
  rw [h0, h1]

/-- the dense feed-forward, -/
theorem ffn_algebraic : Cert.algebraic_FfnIdeal_FfnRefIdeal := by
  intro m g m' g' _ hagree
  refine ⟨_, (θ_run Cert.FfnIdeal.defs _ _).mono (fun r h c => ⟨(h c).1.trans (Cert.FfnIdeal.Dense.array_eq m c), (h c).2⟩) (Cert.FfnIdeal.Value.run_blocks m g),
    (θ_run Cert.FfnRefIdeal.defs _ _).mono (fun r h c => ⟨(h c).1.trans ?_, (h c).2⟩) (Cert.FfnRefIdeal.Value.run m' g')⟩
  obtain ⟨h0, h1, h2, h3, h4, h5⟩ := hagree c
  refine (Cert.FfnRefIdeal.Dense.ref_eq _ _ _ _ _ _).trans ?_
  unfold Cert.FfnIdeal.Dense.resultAt
  rw [h0, h1, h2, h3, h4, h5]

/-- the merge of the branches, -/
theorem merge_algebraic : Cert.algebraic_MergeIdeal_MergeRefIdeal := by
  intro m g m' g' _ hagree
  refine ⟨_, (θ_run Cert.MergeIdeal.defs _ _).mono (fun r h c => ⟨(h c).1.trans (Cert.MergeIdeal.Merge.array_eq m c), (h c).2⟩) (Cert.MergeIdeal.Value.run_blocks m g),
    (θ_run Cert.MergeRefIdeal.defs _ _).mono (fun r h c => ⟨(h c).1.trans ?_, (h c).2⟩) (Cert.MergeRefIdeal.Value.run m' g')⟩
  obtain ⟨h0, h1, h2, h3, h4⟩ := hagree c
  refine (Cert.MergeRefIdeal.Merge.ref_eq _ _ _ _ _).trans ?_
  unfold Cert.MergeIdeal.Merge.resultAt
  rw [h0, h1, h2, h3, h4]

/-- the output projection, -/
theorem out_algebraic : Cert.algebraic_OutIdeal_OutRefIdeal := by
  intro m g m' g' _ hagree
  refine ⟨_, (θ_run Cert.OutIdeal.defs _ _).mono (fun r h c => ⟨(h c).1.trans (Cert.OutIdeal.Output.array_eq m c), (h c).2⟩) (Cert.OutIdeal.Value.run_blocks m g),
    (θ_run Cert.OutRefIdeal.defs _ _).mono (fun r h c => ⟨(h c).1.trans ?_, (h c).2⟩) (Cert.OutRefIdeal.Value.run m' g')⟩
  obtain ⟨h0, h1, h2, h3⟩ := hagree c
  refine (Cert.OutRefIdeal.Output.ref_eq _ _ _ _).trans ?_
  unfold Cert.OutIdeal.Output.resultAt
  rw [h0, h1, h2, h3]

/-- the final norm, -/
theorem final_algebraic : Cert.algebraic_FinalIdeal_FinalRefIdeal := by
  intro m g m' g' _ hagree
  refine ⟨_, (θ_run Cert.FinalIdeal.defs _ _).mono (fun r h c => ⟨(h c).1.trans (Cert.FinalIdeal.Final.array_eq m c), (h c).2⟩) (Cert.FinalIdeal.Value.run_blocks m g),
    (θ_run Cert.FinalRefIdeal.defs _ _).mono (fun r h c => ⟨(h c).1.trans ?_, (h c).2⟩) (Cert.FinalRefIdeal.Value.run m' g')⟩
  obtain ⟨h0, h1⟩ := hagree c
  refine (Cert.FinalRefIdeal.Final.ref_eq _ _).trans ?_
  unfold Cert.FinalIdeal.Final.resultAt
  rw [h0, h1]

/-- the modulated norm, -/
theorem mod_algebraic : Cert.algebraic_ModIdeal_ModRefIdeal := by
  intro m g m' g' _ hagree
  refine ⟨_, (θ_run Cert.ModIdeal.defs _ _).mono (fun r h c => ⟨(h c).1.trans (Cert.ModIdeal.Modulate.array_eq m c), (h c).2⟩) (Cert.ModIdeal.Value.run_blocks m g),
    (θ_run Cert.ModRefIdeal.defs _ _).mono (fun r h c => ⟨(h c).1.trans ?_, (h c).2⟩) (Cert.ModRefIdeal.Value.run m' g')⟩
  obtain ⟨h0, h1, h2, h3⟩ := hagree c
  refine (Cert.ModRefIdeal.Modulate.ref_eq _ _ _ _).trans ?_
  unfold Cert.ModIdeal.Modulate.resultAt
  rw [h0, h1, h2, h3]

/-- the readout of the recurrence, -/
theorem hgout_algebraic : Cert.algebraic_HgoutIdeal_HgoutRefIdeal := by
  intro m g m' g' _ hagree
  refine ⟨_, (θ_run Cert.HgoutIdeal.defs _ _).mono (fun r h c => ⟨(h c).1.trans (Cert.HgoutIdeal.Readout.array_eq m c), (h c).2⟩) (Cert.HgoutIdeal.Value.run_blocks m g),
    (θ_run Cert.HgoutRefIdeal.defs _ _).mono (fun r h c => ⟨(h c).1.trans ?_, (h c).2⟩) (Cert.HgoutRefIdeal.Value.run m' g')⟩
  obtain ⟨h0, h1, h2, h3⟩ := hagree c
  refine (Cert.HgoutRefIdeal.Readout.ref_eq _ _ _ _).trans ?_
  unfold Cert.HgoutIdeal.Readout.resultAt
  rw [h0, h1, h2, h3]

/-- the readout of the state space branch, -/
theorem ssdout_algebraic : Cert.algebraic_SsdoutIdeal_SsdoutRefIdeal := by
  intro m g m' g' _ hagree
  refine ⟨_, (θ_run Cert.SsdoutIdeal.defs _ _).mono (fun r h c => ⟨(h c).1.trans (Cert.SsdoutIdeal.Readout.array_eq m c), (h c).2⟩) (Cert.SsdoutIdeal.Value.run_blocks m g),
    (θ_run Cert.SsdoutRefIdeal.defs _ _).mono (fun r h c => ⟨(h c).1.trans ?_, (h c).2⟩) (Cert.SsdoutRefIdeal.Value.run m' g')⟩
  obtain ⟨h0, h1, h2, h3⟩ := hagree c
  refine (Cert.SsdoutRefIdeal.Readout.ref_eq _ _ _ _).trans ?_
  unfold Cert.SsdoutIdeal.Readout.resultAt
  rw [h0, h1, h2, h3]

/-- the modulation, -/
theorem ada_algebraic : Cert.algebraic_AdaIdeal_AdaRefIdeal := by
  intro m g m' g' _ hagree
  refine ⟨_, (θ_run Cert.AdaIdeal.defs _ _).mono (fun r h c => ⟨(h c).1.trans (Cert.AdaIdeal.Modulation.array_eq m c), (h c).2⟩) (Cert.AdaIdeal.Value.run_blocks m g),
    (θ_run Cert.AdaRefIdeal.defs _ _).mono (fun r h c => ⟨(h c).1.trans ?_, (h c).2⟩) (Cert.AdaRefIdeal.Value.run m' g')⟩
  obtain ⟨h0, h1, h2⟩ := hagree c
  refine (Cert.AdaRefIdeal.Modulation.ref_eq _ _ _).trans ?_
  unfold Cert.AdaIdeal.Modulation.resultAt
  rw [h0, h1, h2]

/-- and the step sizes' projection. -/
theorem dt_algebraic : Cert.algebraic_DtIdeal_DtRefIdeal := by
  intro m g m' g' _ hagree
  refine ⟨_, (θ_run Cert.DtIdeal.defs _ _).mono (fun r h c => ⟨(h c).1.trans (Cert.DtIdeal.StepSize.array_eq m c), (h c).2⟩) (Cert.DtIdeal.Value.run_blocks m g),
    (θ_run Cert.DtRefIdeal.defs _ _).mono (fun r h c => ⟨(h c).1.trans ?_, (h c).2⟩) (Cert.DtRefIdeal.Value.run m' g')⟩
  obtain ⟨h0, h1⟩ := hagree c
  refine (Cert.DtRefIdeal.StepSize.ref_eq _ _).trans ?_
  unfold Cert.DtIdeal.StepSize.resultAt
  rw [h0, h1]

/-! The other references run and leave their arguments; they declare no semaphore. -/

theorem hg_ref_frame : Cert.quiescent_HgRefIdeal := fun m ρ _ =>
  (θ_run Cert.HgRefIdeal.defs _ _).mono (fun r h => ⟨fun c => (h c).2, sem_eq_zero_of_no_sems (by decide) r.2⟩) (Cert.HgRefIdeal.Value.run m ρ)

theorem ssd_ref_frame : Cert.quiescent_SsdRefIdeal := fun m ρ _ =>
  (θ_run Cert.SsdRefIdeal.defs _ _).mono (fun r h => ⟨fun c => (h c).2, sem_eq_zero_of_no_sems (by decide) r.2⟩) (Cert.SsdRefIdeal.Value.run m ρ)

theorem att_ref_frame : Cert.quiescent_AttRefIdeal := fun m ρ _ =>
  (θ_run Cert.AttRefIdeal.defs _ _).mono (fun r h => ⟨fun c => (h c).2, sem_eq_zero_of_no_sems (by decide) r.2⟩) (Cert.AttRefIdeal.Value.run m ρ)

theorem gate_ref_frame : Cert.quiescent_GateRefIdeal := fun m ρ _ =>
  (θ_run Cert.GateRefIdeal.defs _ _).mono (fun r h => ⟨fun c => (h c).2, sem_eq_zero_of_no_sems (by decide) r.2⟩) (Cert.GateRefIdeal.Value.run m ρ)

theorem ffn_ref_frame : Cert.quiescent_FfnRefIdeal := fun m ρ _ =>
  (θ_run Cert.FfnRefIdeal.defs _ _).mono (fun r h => ⟨fun c => (h c).2, sem_eq_zero_of_no_sems (by decide) r.2⟩) (Cert.FfnRefIdeal.Value.run m ρ)

theorem merge_ref_frame : Cert.quiescent_MergeRefIdeal := fun m ρ _ =>
  (θ_run Cert.MergeRefIdeal.defs _ _).mono (fun r h => ⟨fun c => (h c).2, sem_eq_zero_of_no_sems (by decide) r.2⟩) (Cert.MergeRefIdeal.Value.run m ρ)

theorem out_ref_frame : Cert.quiescent_OutRefIdeal := fun m ρ _ =>
  (θ_run Cert.OutRefIdeal.defs _ _).mono (fun r h => ⟨fun c => (h c).2, sem_eq_zero_of_no_sems (by decide) r.2⟩) (Cert.OutRefIdeal.Value.run m ρ)

theorem final_ref_frame : Cert.quiescent_FinalRefIdeal := fun m ρ _ =>
  (θ_run Cert.FinalRefIdeal.defs _ _).mono (fun r h => ⟨fun c => (h c).2, sem_eq_zero_of_no_sems (by decide) r.2⟩) (Cert.FinalRefIdeal.Value.run m ρ)

theorem mod_ref_frame : Cert.quiescent_ModRefIdeal := fun m ρ _ =>
  (θ_run Cert.ModRefIdeal.defs _ _).mono (fun r h => ⟨fun c => (h c).2, sem_eq_zero_of_no_sems (by decide) r.2⟩) (Cert.ModRefIdeal.Value.run m ρ)

theorem hgout_ref_frame : Cert.quiescent_HgoutRefIdeal := fun m ρ _ =>
  (θ_run Cert.HgoutRefIdeal.defs _ _).mono (fun r h => ⟨fun c => (h c).2, sem_eq_zero_of_no_sems (by decide) r.2⟩) (Cert.HgoutRefIdeal.Value.run m ρ)

theorem ssdout_ref_frame : Cert.quiescent_SsdoutRefIdeal := fun m ρ _ =>
  (θ_run Cert.SsdoutRefIdeal.defs _ _).mono (fun r h => ⟨fun c => (h c).2, sem_eq_zero_of_no_sems (by decide) r.2⟩) (Cert.SsdoutRefIdeal.Value.run m ρ)

theorem ada_ref_frame : Cert.quiescent_AdaRefIdeal := fun m ρ _ =>
  (θ_run Cert.AdaRefIdeal.defs _ _).mono (fun r h => ⟨fun c => (h c).2, sem_eq_zero_of_no_sems (by decide) r.2⟩) (Cert.AdaRefIdeal.Value.run m ρ)

theorem dt_ref_frame : Cert.quiescent_DtRefIdeal := fun m ρ _ =>
  (θ_run Cert.DtRefIdeal.defs _ _).mono (fun r h => ⟨fun c => (h c).2, sem_eq_zero_of_no_sems (by decide) r.2⟩) (Cert.DtRefIdeal.Value.run m ρ)

theorem claim : Cert.Claim := ⟨Cert.Attn.Gen.facts, Cert.AttnIdeal.Gen.facts, Cert.AttnRefIdeal.Gen.facts, Cert.Moe.Gen.facts, Cert.MoeIdeal.Gen.facts,
  Cert.MoeRefIdeal.Gen.facts, Cert.Hg.Gen.facts, Cert.HgIdeal.Gen.facts, Cert.HgRefIdeal.Gen.facts, Cert.Ssd.Gen.facts, Cert.SsdIdeal.Gen.facts, Cert.SsdRefIdeal.Gen.facts,
  Cert.Att.Gen.facts, Cert.AttIdeal.Gen.facts, Cert.AttRefIdeal.Gen.facts, Cert.Gate.Gen.facts, Cert.GateIdeal.Gen.facts, Cert.GateRefIdeal.Gen.facts,
  Cert.Ffn.Gen.facts, Cert.FfnIdeal.Gen.facts, Cert.FfnRefIdeal.Gen.facts, Cert.Merge.Gen.facts, Cert.MergeIdeal.Gen.facts, Cert.MergeRefIdeal.Gen.facts,
  Cert.Out.Gen.facts, Cert.OutIdeal.Gen.facts, Cert.OutRefIdeal.Gen.facts,
  Cert.Final.Gen.facts, Cert.FinalIdeal.Gen.facts, Cert.FinalRefIdeal.Gen.facts,
  Cert.Mod.Gen.facts, Cert.ModIdeal.Gen.facts, Cert.ModRefIdeal.Gen.facts,
  Cert.Hgout.Gen.facts, Cert.HgoutIdeal.Gen.facts, Cert.HgoutRefIdeal.Gen.facts,
  Cert.Ssdout.Gen.facts, Cert.SsdoutIdeal.Gen.facts, Cert.SsdoutRefIdeal.Gen.facts,
  Cert.Ada.Gen.facts, Cert.AdaIdeal.Gen.facts, Cert.AdaRefIdeal.Gen.facts,
  Cert.Dt.Gen.facts, Cert.DtIdeal.Gen.facts, Cert.DtRefIdeal.Gen.facts,
  Cert.Pre_finite_qk.Gen.facts, Cert.Pre_expert_range.Gen.facts,
  fun m ρ _ => Cert.Attn.Gen.frame m ρ, fun m ρ _ => Cert.AttnIdeal.Gen.frame m ρ, fun m ρ _ => Cert.AttnIdeal.Gen.frame m ρ,
  attn_ref_frame, fun m ρ _ => attn_ref_frame m ρ trivial,
  fun m ρ h => Cert.Moe.Gen.frame m ρ (Cert.Moe.Experts.ok_of_pre m h), fun m ρ h => Cert.MoeIdeal.Gen.frame m ρ (Cert.MoeIdeal.Experts.ok_of_pre m h),
  moe_ref_frame, fun m ρ _ => moe_ref_frame m ρ trivial,
  fun m ρ _ => Cert.Hg.Gen.frame m ρ, fun m ρ _ => Cert.HgIdeal.Gen.frame m ρ, hg_ref_frame,
  fun m ρ _ => Cert.Ssd.Gen.frame m ρ, fun m ρ _ => Cert.SsdIdeal.Gen.frame m ρ, ssd_ref_frame,
  fun m ρ _ => Cert.Att.Gen.frame m ρ, fun m ρ _ => Cert.AttIdeal.Gen.frame m ρ, att_ref_frame,
  fun m ρ _ => Cert.Gate.Gen.frame m ρ, fun m ρ _ => Cert.GateIdeal.Gen.frame m ρ, gate_ref_frame,
  fun m ρ _ => Cert.Ffn.Gen.frame m ρ, fun m ρ _ => Cert.FfnIdeal.Gen.frame m ρ, ffn_ref_frame,
  fun m ρ _ => Cert.Merge.Gen.frame m ρ, fun m ρ _ => Cert.MergeIdeal.Gen.frame m ρ, merge_ref_frame,
  fun m ρ _ => Cert.Out.Gen.frame m ρ, fun m ρ _ => Cert.OutIdeal.Gen.frame m ρ, out_ref_frame,
  fun m ρ _ => Cert.Final.Gen.frame m ρ, fun m ρ _ => Cert.FinalIdeal.Gen.frame m ρ, final_ref_frame,
  fun m ρ _ => Cert.Mod.Gen.frame m ρ, fun m ρ _ => Cert.ModIdeal.Gen.frame m ρ, mod_ref_frame,
  fun m ρ _ => Cert.Hgout.Gen.frame m ρ, fun m ρ _ => Cert.HgoutIdeal.Gen.frame m ρ, hgout_ref_frame,
  fun m ρ _ => Cert.Ssdout.Gen.frame m ρ, fun m ρ _ => Cert.SsdoutIdeal.Gen.frame m ρ, ssdout_ref_frame,
  fun m ρ _ => Cert.Ada.Gen.frame m ρ, fun m ρ _ => Cert.AdaIdeal.Gen.frame m ρ, ada_ref_frame,
  fun m ρ _ => Cert.Dt.Gen.frame m ρ, fun m ρ _ => Cert.DtIdeal.Gen.frame m ρ, dt_ref_frame,
  trivial, attn_algebraic, trivial, moe_algebraic, trivial, hg_algebraic, trivial, ssd_algebraic, trivial, att_algebraic, trivial, gate_algebraic,
  trivial, ffn_algebraic, trivial, merge_algebraic, trivial, out_algebraic,
  trivial, final_algebraic, trivial, mod_algebraic, trivial, hgout_algebraic, trivial, ssdout_algebraic, trivial, ada_algebraic, trivial, dt_algebraic⟩

end Cert.Proof

end
